-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x26 : Shape := ⟨2, ![16384, 26]⟩
abbrev S16384x4 : Shape := ⟨2, ![16384, 4]⟩
abbrev S26000x128 : Shape := ⟨2, ![26000, 128]⟩
abbrev S26000x1 : Shape := ⟨2, ![26000, 1]⟩
abbrev S3332x1024 : Shape := ⟨2, ![3332, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S16384x4 .f32) (main_arg2 : FVec F S26000x128 .f32) (main_arg3 : FVec F S26000x1 .f32) (main_arg4 : FVec F S3332x1024 .f32) (main_arg5 : FVec F S1024 .f32) (main_arg6 : FVec F S1024 .f32) (main_arg7 : FVec F S1024 .f32) (main_arg8 : FVec F S1024x512 .f32) (main_arg9 : FVec F S512 .f32) (main_arg10 : FVec F S512 .f32) (main_arg11 : FVec F S512 .f32) (main_arg12 : FVec F S512x256 .f32) (main_arg13 : FVec F S256 .f32) (main_arg14 : FVec F S256 .f32) (main_arg15 : FVec F S256 .f32) (main_arg16 : FVec F S256x1 .f32) (main_arg17 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 1000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S16384x4 : Shape := ⟨2, ![16384, 4]⟩
abbrev S26000x128 : Shape := ⟨2, ![26000, 128]⟩
abbrev S26000x1 : Shape := ⟨2, ![26000, 1]⟩
abbrev S3332x1024 : Shape := ⟨2, ![3332, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S26x16384 : Shape := ⟨2, ![26, 16384]⟩
abbrev S26000 : Shape := ⟨1, ![26000]⟩
abbrev S26x8192 : Shape := ⟨2, ![26, 8192]⟩
abbrev S1664x128 : Shape := ⟨2, ![1664, 128]⟩
abbrev S425984 : Shape := ⟨1, ![425984]⟩
abbrev S_ : Shape := ⟨0, ![]⟩
abbrev S16 : Shape := ⟨1, ![16]⟩
abbrev S1x512 : Shape := ⟨2, ![1, 512]⟩
abbrev S212992x128 : Shape := ⟨2, ![212992, 128]⟩
abbrev S2x128 : Shape := ⟨2, ![2, 128]⟩
abbrev S256x128 : Shape := ⟨2, ![256, 128]⟩
abbrev S1x16 : Shape := ⟨2, ![1, 16]⟩
abbrev S128x128 : Shape := ⟨2, ![128, 128]⟩
abbrev S1x128 : Shape := ⟨2, ![1, 128]⟩
abbrev S128 : Shape := ⟨1, ![128]⟩
abbrev S3328x1024 : Shape := ⟨2, ![3328, 1024]⟩
abbrev S4x1024 : Shape := ⟨2, ![4, 1024]⟩
abbrev S26x8192x128 : Shape := ⟨3, ![26, 8192, 128]⟩
abbrev S8192x1 : Shape := ⟨2, ![8192, 1]⟩
abbrev S26x16384x128 : Shape := ⟨3, ![26, 16384, 128]⟩
abbrev S26x512x128 : Shape := ⟨3, ![26, 512, 128]⟩
abbrev S512x4 : Shape := ⟨2, ![512, 4]⟩
abbrev S26x512 : Shape := ⟨2, ![26, 512]⟩
abbrev S512x1 : Shape := ⟨2, ![512, 1]⟩
abbrev S1x512x128 : Shape := ⟨3, ![1, 512, 128]⟩
abbrev S512x128 : Shape := ⟨2, ![512, 128]⟩
abbrev S512x3328 : Shape := ⟨2, ![512, 3328]⟩
abbrev S512x1024 : Shape := ⟨2, ![512, 1024]⟩
abbrev S1x1024 : Shape := ⟨2, ![1, 1024]⟩
abbrev S512x512 : Shape := ⟨2, ![512, 512]⟩
abbrev S1x256 : Shape := ⟨2, ![1, 256]⟩
abbrev S16384x1 : Shape := ⟨2, ![16384, 1]⟩
abbrev S16384x26x128 : Shape := ⟨3, ![16384, 26, 128]⟩

abbrev nBuf : Table → Nat
  | .hbm => 41
  | .local .tc .vmem => 50
  | .local .scVector .vmem => 11
  | _ => 0

abbrev bufTy : (tb : Table) → Fin (nBuf tb) → BufTy
  | .hbm, ⟨0, _⟩ => ⟨S16384x26, .i32⟩
  | .hbm, ⟨1, _⟩ => ⟨S16384x4, .f32⟩
  | .hbm, ⟨2, _⟩ => ⟨S26000x128, .f32⟩
  | .hbm, ⟨3, _⟩ => ⟨S26000x1, .f32⟩
  | .hbm, ⟨4, _⟩ => ⟨S3332x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256x1, .f32⟩
  | .hbm, ⟨17, _⟩ => ⟨S1, .f32⟩
  | .hbm, ⟨18, _⟩ => ⟨S26x16384, .i32⟩
  | .hbm, ⟨19, _⟩ => ⟨S26000, .f32⟩
  | .hbm, ⟨20, _⟩ => ⟨S26x8192, .i32⟩
  | .hbm, ⟨21, _⟩ => ⟨S1664x128, .i32⟩
  | .hbm, ⟨22, _⟩ => ⟨S26x8192, .i32⟩
  | .hbm, ⟨23, _⟩ => ⟨S1664x128, .i32⟩
  | .hbm, ⟨24, _⟩ => ⟨S425984, .i32⟩
  | .hbm, ⟨25, _⟩ => ⟨S26x16384, .f32⟩
  | .hbm, ⟨26, _⟩ => ⟨S212992x128, .f32⟩
  | .hbm, ⟨27, _⟩ => ⟨S212992x128, .f32⟩
  | .hbm, ⟨28, _⟩ => ⟨S3328x1024, .f32⟩
  | .hbm, ⟨29, _⟩ => ⟨S3328x1024, .bf16⟩
  | .hbm, ⟨30, _⟩ => ⟨S4x1024, .f32⟩
  | .hbm, ⟨31, _⟩ => ⟨S1024x512, .bf16⟩
  | .hbm, ⟨32, _⟩ => ⟨S512x256, .bf16⟩
  | .hbm, ⟨33, _⟩ => ⟨S26x8192x128, .f32⟩
  | .hbm, ⟨34, _⟩ => ⟨S8192x1, .f32⟩
  | .hbm, ⟨35, _⟩ => ⟨S26x16384x128, .f32⟩
  | .hbm, ⟨36, _⟩ => ⟨S26x8192x128, .f32⟩
  | .hbm, ⟨37, _⟩ => ⟨S8192x1, .f32⟩
  | .hbm, ⟨38, _⟩ => ⟨S26x16384x128, .f32⟩
  | .hbm, ⟨39, _⟩ => ⟨S16384x1, .f32⟩
  | .hbm, ⟨40, _⟩ => ⟨S16384x26x128, .f32⟩
  | .local .tc .vmem, ⟨0, _⟩ => ⟨S26x512x128, .f32⟩
  | .local .tc .vmem, ⟨1, _⟩ => ⟨S26x512x128, .f32⟩
  | .local .tc .vmem, ⟨2, _⟩ => ⟨S512x4, .f32⟩
  | .local .tc .vmem, ⟨3, _⟩ => ⟨S512x4, .f32⟩
  | .local .tc .vmem, ⟨4, _⟩ => ⟨S26x512, .f32⟩
  | .local .tc .vmem, ⟨5, _⟩ => ⟨S26x512, .f32⟩
  | .local .tc .vmem, ⟨6, _⟩ => ⟨S3328x1024, .bf16⟩
  | .local .tc .vmem, ⟨7, _⟩ => ⟨S4x1024, .f32⟩
  | .local .tc .vmem, ⟨8, _⟩ => ⟨S1024, .f32⟩
  | .local .tc .vmem, ⟨9, _⟩ => ⟨S1024, .f32⟩
  | .local .tc .vmem, ⟨10, _⟩ => ⟨S1024, .f32⟩
  | .local .tc .vmem, ⟨11, _⟩ => ⟨S1024x512, .bf16⟩
  | .local .tc .vmem, ⟨12, _⟩ => ⟨S512, .f32⟩
  | .local .tc .vmem, ⟨13, _⟩ => ⟨S512, .f32⟩
  | .local .tc .vmem, ⟨14, _⟩ => ⟨S512, .f32⟩
  | .local .tc .vmem, ⟨15, _⟩ => ⟨S512x256, .bf16⟩
  | .local .tc .vmem, ⟨16, _⟩ => ⟨S256, .f32⟩
  | .local .tc .vmem, ⟨17, _⟩ => ⟨S256, .f32⟩
  | .local .tc .vmem, ⟨18, _⟩ => ⟨S256, .f32⟩
  | .local .tc .vmem, ⟨19, _⟩ => ⟨S256x1, .f32⟩
  | .local .tc .vmem, ⟨20, _⟩ => ⟨S1, .f32⟩
  | .local .tc .vmem, ⟨21, _⟩ => ⟨S512x1, .f32⟩
  | .local .tc .vmem, ⟨22, _⟩ => ⟨S512x1, .f32⟩
  | .local .tc .vmem, ⟨23, _⟩ => ⟨S26x512x128, .f32⟩
  | .local .tc .vmem, ⟨24, _⟩ => ⟨S26x512x128, .f32⟩
  | .local .tc .vmem, ⟨25, _⟩ => ⟨S26x512x128, .f32⟩
  | .local .tc .vmem, ⟨26, _⟩ => ⟨S26x512x128, .f32⟩
  | .local .tc .vmem, ⟨27, _⟩ => ⟨S512x4, .f32⟩
  | .local .tc .vmem, ⟨28, _⟩ => ⟨S512x4, .f32⟩
  | .local .tc .vmem, ⟨29, _⟩ => ⟨S26x512, .f32⟩
  | .local .tc .vmem, ⟨30, _⟩ => ⟨S26x512, .f32⟩
  | .local .tc .vmem, ⟨31, _⟩ => ⟨S3328x1024, .bf16⟩
  | .local .tc .vmem, ⟨32, _⟩ => ⟨S4x1024, .f32⟩
  | .local .tc .vmem, ⟨33, _⟩ => ⟨S1024, .f32⟩
  | .local .tc .vmem, ⟨34, _⟩ => ⟨S1024, .f32⟩
  | .local .tc .vmem, ⟨35, _⟩ => ⟨S1024, .f32⟩
  | .local .tc .vmem, ⟨36, _⟩ => ⟨S1024x512, .bf16⟩
  | .local .tc .vmem, ⟨37, _⟩ => ⟨S512, .f32⟩
  | .local .tc .vmem, ⟨38, _⟩ => ⟨S512, .f32⟩
  | .local .tc .vmem, ⟨39, _⟩ => ⟨S512, .f32⟩
  | .local .tc .vmem, ⟨40, _⟩ => ⟨S512x256, .bf16⟩
  | .local .tc .vmem, ⟨41, _⟩ => ⟨S256, .f32⟩
  | .local .tc .vmem, ⟨42, _⟩ => ⟨S256, .f32⟩
  | .local .tc .vmem, ⟨43, _⟩ => ⟨S256, .f32⟩
  | .local .tc .vmem, ⟨44, _⟩ => ⟨S256x1, .f32⟩
  | .local .tc .vmem, ⟨45, _⟩ => ⟨S1, .f32⟩
  | .local .tc .vmem, ⟨46, _⟩ => ⟨S512x1, .f32⟩
  | .local .tc .vmem, ⟨47, _⟩ => ⟨S512x1, .f32⟩
  | .local .tc .vmem, ⟨48, _⟩ => ⟨S26x512x128, .f32⟩
  | .local .tc .vmem, ⟨49, _⟩ => ⟨S26x512x128, .f32⟩
  | .local .scVector .vmem, ⟨0, _⟩ => ⟨S26000, .f32⟩
  | .local .scVector .vmem, ⟨1, _⟩ => ⟨S512, .i32⟩
  | .local .scVector .vmem, ⟨2, _⟩ => ⟨S512, .f32⟩
  | .local .scVector .vmem, ⟨3, _⟩ => ⟨S2x128, .i32⟩
  | .local .scVector .vmem, ⟨4, _⟩ => ⟨S2x128, .i32⟩
  | .local .scVector .vmem, ⟨5, _⟩ => ⟨S256x128, .f32⟩
  | .local .scVector .vmem, ⟨6, _⟩ => ⟨S256x128, .f32⟩
  | .local .scVector .vmem, ⟨7, _⟩ => ⟨S2x128, .i32⟩
  | .local .scVector .vmem, ⟨8, _⟩ => ⟨S2x128, .i32⟩
  | .local .scVector .vmem, ⟨9, _⟩ => ⟨S256x128, .f32⟩
  | .local .scVector .vmem, ⟨10, _⟩ => ⟨S256x128, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 69 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTables nBuf rfl bufTy 4 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v19 : Ref sig .tc := ⟨.hbm, 39, rfl⟩
abbrev main_v20 : Ref sig .tc := ⟨.hbm, 40, rfl⟩
abbrev main_v6_scv : Ref sig .scVector := ⟨.hbm, 24, rfl⟩
abbrev main_v1_scv : Ref sig .scVector := ⟨.hbm, 19, rfl⟩
abbrev main_v7_scv : Ref sig .scVector := ⟨.hbm, 25, rfl⟩
abbrev main_v3_scv : Ref sig .scVector := ⟨.hbm, 21, rfl⟩
abbrev main_arg2_scv : Ref sig .scVector := ⟨.hbm, 2, rfl⟩
abbrev main_v8_scv : Ref sig .scVector := ⟨.hbm, 26, rfl⟩
abbrev main_v5_scv : Ref sig .scVector := ⟨.hbm, 23, rfl⟩
abbrev main_v9_scv : Ref sig .scVector := ⟨.hbm, 27, rfl⟩
abbrev cc3_stg0_0 : Ref sig .tc := ⟨.vmem, 0, rfl⟩
abbrev cc3_stg0_1 : Ref sig .tc := ⟨.vmem, 1, rfl⟩
abbrev cc3_stg1_0 : Ref sig .tc := ⟨.vmem, 2, rfl⟩
abbrev cc3_stg1_1 : Ref sig .tc := ⟨.vmem, 3, rfl⟩
abbrev cc3_stg2_0 : Ref sig .tc := ⟨.vmem, 4, rfl⟩
abbrev cc3_stg2_1 : Ref sig .tc := ⟨.vmem, 5, rfl⟩
abbrev cc3_stg3_0 : Ref sig .tc := ⟨.vmem, 6, rfl⟩
abbrev cc3_stg4_0 : Ref sig .tc := ⟨.vmem, 7, rfl⟩
abbrev cc3_stg5_0 : Ref sig .tc := ⟨.vmem, 8, rfl⟩
abbrev cc3_stg6_0 : Ref sig .tc := ⟨.vmem, 9, rfl⟩
abbrev cc3_stg7_0 : Ref sig .tc := ⟨.vmem, 10, rfl⟩
abbrev cc3_stg8_0 : Ref sig .tc := ⟨.vmem, 11, rfl⟩
abbrev cc3_stg9_0 : Ref sig .tc := ⟨.vmem, 12, rfl⟩
abbrev cc3_stg10_0 : Ref sig .tc := ⟨.vmem, 13, rfl⟩
abbrev cc3_stg11_0 : Ref sig .tc := ⟨.vmem, 14, rfl⟩
abbrev cc3_stg12_0 : Ref sig .tc := ⟨.vmem, 15, rfl⟩
abbrev cc3_stg13_0 : Ref sig .tc := ⟨.vmem, 16, rfl⟩
abbrev cc3_stg14_0 : Ref sig .tc := ⟨.vmem, 17, rfl⟩
abbrev cc3_stg15_0 : Ref sig .tc := ⟨.vmem, 18, rfl⟩
abbrev cc3_stg16_0 : Ref sig .tc := ⟨.vmem, 19, rfl⟩
abbrev cc3_stg17_0 : Ref sig .tc := ⟨.vmem, 20, rfl⟩
abbrev cc3_stg18_0 : Ref sig .tc := ⟨.vmem, 21, rfl⟩
abbrev cc3_stg18_1 : Ref sig .tc := ⟨.vmem, 22, rfl⟩
abbrev cc3_stg19_0 : Ref sig .tc := ⟨.vmem, 23, rfl⟩
abbrev cc3_stg19_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc4_stg8_0 : Ref sig .tc := ⟨.vmem, 36, rfl⟩
abbrev cc4_stg9_0 : Ref sig .tc := ⟨.vmem, 37, rfl⟩
abbrev cc4_stg10_0 : Ref sig .tc := ⟨.vmem, 38, rfl⟩
abbrev cc4_stg11_0 : Ref sig .tc := ⟨.vmem, 39, rfl⟩
abbrev cc4_stg12_0 : Ref sig .tc := ⟨.vmem, 40, rfl⟩
abbrev cc4_stg13_0 : Ref sig .tc := ⟨.vmem, 41, rfl⟩
abbrev cc4_stg14_0 : Ref sig .tc := ⟨.vmem, 42, rfl⟩
abbrev cc4_stg15_0 : Ref sig .tc := ⟨.vmem, 43, rfl⟩
abbrev cc4_stg16_0 : Ref sig .tc := ⟨.vmem, 44, rfl⟩
abbrev cc4_stg17_0 : Ref sig .tc := ⟨.vmem, 45, rfl⟩
abbrev cc4_stg18_0 : Ref sig .tc := ⟨.vmem, 46, rfl⟩
abbrev cc4_stg18_1 : Ref sig .tc := ⟨.vmem, 47, rfl⟩
abbrev cc4_stg19_0 : Ref sig .tc := ⟨.vmem, 48, rfl⟩
abbrev cc4_stg19_1 : Ref sig .tc := ⟨.vmem, 49, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc1_scratch3 : Ref sig .scVector := ⟨.vmem, 6, rfl⟩
abbrev cc2_scratch0 : Ref sig .scVector := ⟨.vmem, 7, rfl⟩
abbrev cc2_scratch1 : Ref sig .scVector := ⟨.vmem, 8, rfl⟩
abbrev cc2_scratch2 : Ref sig .scVector := ⟨.vmem, 9, rfl⟩
abbrev cc2_scratch3 : Ref sig .scVector := ⟨.vmem, 10, rfl⟩
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem9_0 : DmaSem sig := 31
abbrev cc3_sem10_0 : DmaSem sig := 32
abbrev cc3_sem11_0 : DmaSem sig := 33
abbrev cc3_sem12_0 : DmaSem sig := 34
abbrev cc3_sem13_0 : DmaSem sig := 35
abbrev cc3_sem14_0 : DmaSem sig := 36
abbrev cc3_sem15_0 : DmaSem sig := 37
abbrev cc3_sem16_0 : DmaSem sig := 38
abbrev cc3_sem17_0 : DmaSem sig := 39
abbrev cc3_sem18_0 : DmaSem sig := 40
abbrev cc3_sem18_1 : DmaSem sig := 41
abbrev cc3_sem19_0 : DmaSem sig := 42
abbrev cc3_sem19_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem8_0 : DmaSem sig := 55
abbrev cc4_sem9_0 : DmaSem sig := 56
abbrev cc4_sem10_0 : DmaSem sig := 57
abbrev cc4_sem11_0 : DmaSem sig := 58
abbrev cc4_sem12_0 : DmaSem sig := 59
abbrev cc4_sem13_0 : DmaSem sig := 60
abbrev cc4_sem14_0 : DmaSem sig := 61
abbrev cc4_sem15_0 : DmaSem sig := 62
abbrev cc4_sem16_0 : DmaSem sig := 63
abbrev cc4_sem17_0 : DmaSem sig := 64
abbrev cc4_sem18_0 : DmaSem sig := 65
abbrev cc4_sem18_1 : DmaSem sig := 66
abbrev cc4_sem19_0 : DmaSem sig := 67
abbrev cc4_sem19_1 : DmaSem sig := 68
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c26_i32 : BitVec 32 := 26#32
  let v3 : BitVec 32 := Scalar.addi c0_i32_0 c26_i32
  let c1_i32 : BitVec 32 := 1#32
  ⟨c0_i32_0, v3, c1_i32⟩
def k0_off1 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c13312_i32 : BitVec 32 := 13312#32
  let v2 : BitVec 32 := Scalar.muli v1 c13312_i32
  let c0_i32_0 : BitVec 32 := 0#32
  let c1_i32 : BitVec 32 := 1#32
  let arg8 : BitVec 32 := Scf.iv c0_i32_0 c1_i32 k0_t1
  let c512_i32 : BitVec 32 := 512#32
  let v4 : BitVec 32 := Scalar.muli arg8 c512_i32
  let v5 : BitVec 32 := Scalar.addi v2 v4
  ![v5.toNat]

def k0_chk1 (v12 : IVec S16 32) : Prop :=
  (∀ a x, ((![v12] : Fin 1 → IVec S16 32) a x).toNat < S26000.size a)
theorem k0_idx1_inb : ∀ (v12 : IVec S16 32) (k0_hw1 : k0_chk1 v12), ∀ a x, ((![v12] : Fin 1 → IVec S16 32) a x).toNat < S26000.size a := fun v12 k0_hw1 => k0_hw1

def k0_chk2 (v17 : IVec S16 32) : Prop :=
  (∀ a x, ((![v17] : Fin 1 → IVec S16 32) a x).toNat < S26000.size a)
theorem k0_idx2_inb : ∀ (v17 : IVec S16 32) (k0_hw2 : k0_chk2 v17), ∀ a x, ((![v17] : Fin 1 → IVec S16 32) a x).toNat < S26000.size a := fun v17 k0_hw2 => k0_hw2

def k0_chk3 (v22 : IVec S16 32) : Prop :=
  (∀ a x, ((![v22] : Fin 1 → IVec S16 32) a x).toNat < S26000.size a)
theorem k0_idx3_inb : ∀ (v22 : IVec S16 32) (k0_hw3 : k0_chk3 v22), ∀ a x, ((![v22] : Fin 1 → IVec S16 32) a x).toNat < S26000.size a := fun v22 k0_hw3 => k0_hw3

def k0_chk4 (v27 : IVec S16 32) : Prop :=
  (∀ a x, ((![v27] : Fin 1 → IVec S16 32) a x).toNat < S26000.size a)
theorem k0_idx4_inb : ∀ (v27 : IVec S16 32) (k0_hw4 : k0_chk4 v27), ∀ a x, ((![v27] : Fin 1 → IVec S16 32) a x).toNat < S26000.size a := fun v27 k0_hw4 => k0_hw4

def k0_chk5 (v32 : IVec S16 32) : Prop :=
  (∀ a x, ((![v32] : Fin 1 → IVec S16 32) a x).toNat < S26000.size a)
theorem k0_idx5_inb : ∀ (v32 : IVec S16 32) (k0_hw5 : k0_chk5 v32), ∀ a x, ((![v32] : Fin 1 → IVec S16 32) a x).toNat < S26000.size a := fun v32 k0_hw5 => k0_hw5

def k0_chk6 (v37 : IVec S16 32) : Prop :=
  (∀ a x, ((![v37] : Fin 1 → IVec S16 32) a x).toNat < S26000.size a)
theorem k0_idx6_inb : ∀ (v37 : IVec S16 32) (k0_hw6 : k0_chk6 v37), ∀ a x, ((![v37] : Fin 1 → IVec S16 32) a x).toNat < S26000.size a := fun v37 k0_hw6 => k0_hw6

def k0_chk7 (v42 : IVec S16 32) : Prop :=
  (∀ a x, ((![v42] : Fin 1 → IVec S16 32) a x).toNat < S26000.size a)
theorem k0_idx7_inb : ∀ (v42 : IVec S16 32) (k0_hw7 : k0_chk7 v42), ∀ a x, ((![v42] : Fin 1 → IVec S16 32) a x).toNat < S26000.size a := fun v42 k0_hw7 => k0_hw7

def k0_chk8 (v47 : IVec S16 32) : Prop :=
  (∀ a x, ((![v47] : Fin 1 → IVec S16 32) a x).toNat < S26000.size a)
theorem k0_idx8_inb : ∀ (v47 : IVec S16 32) (k0_hw8 : k0_chk8 v47), ∀ a x, ((![v47] : Fin 1 → IVec S16 32) a x).toNat < S26000.size a := fun v47 k0_hw8 => k0_hw8

def k0_chk9 (v52 : IVec S16 32) : Prop :=
  (∀ a x, ((![v52] : Fin 1 → IVec S16 32) a x).toNat < S26000.size a)
theorem k0_idx9_inb : ∀ (v52 : IVec S16 32) (k0_hw9 : k0_chk9 v52), ∀ a x, ((![v52] : Fin 1 → IVec S16 32) a x).toNat < S26000.size a := fun v52 k0_hw9 => k0_hw9

def k0_chk10 (v57 : IVec S16 32) : Prop :=
  (∀ a x, ((![v57] : Fin 1 → IVec S16 32) a x).toNat < S26000.size a)
theorem k0_idx10_inb : ∀ (v57 : IVec S16 32) (k0_hw10 : k0_chk10 v57), ∀ a x, ((![v57] : Fin 1 → IVec S16 32) a x).toNat < S26000.size a := fun v57 k0_hw10 => k0_hw10

def k0_chk11 (v62 : IVec S16 32) : Prop :=
  (∀ a x, ((![v62] : Fin 1 → IVec S16 32) a x).toNat < S26000.size a)
theorem k0_idx11_inb : ∀ (v62 : IVec S16 32) (k0_hw11 : k0_chk11 v62), ∀ a x, ((![v62] : Fin 1 → IVec S16 32) a x).toNat < S26000.size a := fun v62 k0_hw11 => k0_hw11

def k0_chk12 (v67 : IVec S16 32) : Prop :=
  (∀ a x, ((![v67] : Fin 1 → IVec S16 32) a x).toNat < S26000.size a)
theorem k0_idx12_inb : ∀ (v67 : IVec S16 32) (k0_hw12 : k0_chk12 v67), ∀ a x, ((![v67] : Fin 1 → IVec S16 32) a x).toNat < S26000.size a := fun v67 k0_hw12 => k0_hw12

def k0_chk13 (v72 : IVec S16 32) : Prop :=
  (∀ a x, ((![v72] : Fin 1 → IVec S16 32) a x).toNat < S26000.size a)
theorem k0_idx13_inb : ∀ (v72 : IVec S16 32) (k0_hw13 : k0_chk13 v72), ∀ a x, ((![v72] : Fin 1 → IVec S16 32) a x).toNat < S26000.size a := fun v72 k0_hw13 => k0_hw13

def k0_chk14 (v77 : IVec S16 32) : Prop :=
  (∀ a x, ((![v77] : Fin 1 → IVec S16 32) a x).toNat < S26000.size a)
theorem k0_idx14_inb : ∀ (v77 : IVec S16 32) (k0_hw14 : k0_chk14 v77), ∀ a x, ((![v77] : Fin 1 → IVec S16 32) a x).toNat < S26000.size a := fun v77 k0_hw14 => k0_hw14

def k0_chk15 (v82 : IVec S16 32) : Prop :=
  (∀ a x, ((![v82] : Fin 1 → IVec S16 32) a x).toNat < S26000.size a)
theorem k0_idx15_inb : ∀ (v82 : IVec S16 32) (k0_hw15 : k0_chk15 v82), ∀ a x, ((![v82] : Fin 1 → IVec S16 32) a x).toNat < S26000.size a := fun v82 k0_hw15 => k0_hw15

def k0_chk16 (v87 : IVec S16 32) : Prop :=
  (∀ a x, ((![v87] : Fin 1 → IVec S16 32) a x).toNat < S26000.size a)
theorem k0_idx16_inb : ∀ (v87 : IVec S16 32) (k0_hw16 : k0_chk16 v87), ∀ a x, ((![v87] : Fin 1 → IVec S16 32) a x).toNat < S26000.size a := fun v87 k0_hw16 => k0_hw16

def k0_chk17 (v92 : IVec S16 32) : Prop :=
  (∀ a x, ((![v92] : Fin 1 → IVec S16 32) a x).toNat < S26000.size a)
theorem k0_idx17_inb : ∀ (v92 : IVec S16 32) (k0_hw17 : k0_chk17 v92), ∀ a x, ((![v92] : Fin 1 → IVec S16 32) a x).toNat < S26000.size a := fun v92 k0_hw17 => k0_hw17

def k0_chk18 (v97 : IVec S16 32) : Prop :=
  (∀ a x, ((![v97] : Fin 1 → IVec S16 32) a x).toNat < S26000.size a)
theorem k0_idx18_inb : ∀ (v97 : IVec S16 32) (k0_hw18 : k0_chk18 v97), ∀ a x, ((![v97] : Fin 1 → IVec S16 32) a x).toNat < S26000.size a := fun v97 k0_hw18 => k0_hw18

def k0_chk19 (v102 : IVec S16 32) : Prop :=
  (∀ a x, ((![v102] : Fin 1 → IVec S16 32) a x).toNat < S26000.size a)
theorem k0_idx19_inb : ∀ (v102 : IVec S16 32) (k0_hw19 : k0_chk19 v102), ∀ a x, ((![v102] : Fin 1 → IVec S16 32) a x).toNat < S26000.size a := fun v102 k0_hw19 => k0_hw19

def k0_chk20 (v107 : IVec S16 32) : Prop :=
  (∀ a x, ((![v107] : Fin 1 → IVec S16 32) a x).toNat < S26000.size a)
theorem k0_idx20_inb : ∀ (v107 : IVec S16 32) (k0_hw20 : k0_chk20 v107), ∀ a x, ((![v107] : Fin 1 → IVec S16 32) a x).toNat < S26000.size a := fun v107 k0_hw20 => k0_hw20

def k0_chk21 (v112 : IVec S16 32) : Prop :=
  (∀ a x, ((![v112] : Fin 1 → IVec S16 32) a x).toNat < S26000.size a)
theorem k0_idx21_inb : ∀ (v112 : IVec S16 32) (k0_hw21 : k0_chk21 v112), ∀ a x, ((![v112] : Fin 1 → IVec S16 32) a x).toNat < S26000.size a := fun v112 k0_hw21 => k0_hw21

def k0_chk22 (v117 : IVec S16 32) : Prop :=
  (∀ a x, ((![v117] : Fin 1 → IVec S16 32) a x).toNat < S26000.size a)
theorem k0_idx22_inb : ∀ (v117 : IVec S16 32) (k0_hw22 : k0_chk22 v117), ∀ a x, ((![v117] : Fin 1 → IVec S16 32) a x).toNat < S26000.size a := fun v117 k0_hw22 => k0_hw22

def k0_chk23 (v122 : IVec S16 32) : Prop :=
  (∀ a x, ((![v122] : Fin 1 → IVec S16 32) a x).toNat < S26000.size a)
theorem k0_idx23_inb : ∀ (v122 : IVec S16 32) (k0_hw23 : k0_chk23 v122), ∀ a x, ((![v122] : Fin 1 → IVec S16 32) a x).toNat < S26000.size a := fun v122 k0_hw23 => k0_hw23

def k0_chk24 (v127 : IVec S16 32) : Prop :=
  (∀ a x, ((![v127] : Fin 1 → IVec S16 32) a x).toNat < S26000.size a)
theorem k0_idx24_inb : ∀ (v127 : IVec S16 32) (k0_hw24 : k0_chk24 v127), ∀ a x, ((![v127] : Fin 1 → IVec S16 32) a x).toNat < S26000.size a := fun v127 k0_hw24 => k0_hw24

def k0_chk25 (v132 : IVec S16 32) : Prop :=
  (∀ a x, ((![v132] : Fin 1 → IVec S16 32) a x).toNat < S26000.size a)
theorem k0_idx25_inb : ∀ (v132 : IVec S16 32) (k0_hw25 : k0_chk25 v132), ∀ a x, ((![v132] : Fin 1 → IVec S16 32) a x).toNat < S26000.size a := fun v132 k0_hw25 => k0_hw25

def k0_chk26 (v137 : IVec S16 32) : Prop :=
  (∀ a x, ((![v137] : Fin 1 → IVec S16 32) a x).toNat < S26000.size a)
theorem k0_idx26_inb : ∀ (v137 : IVec S16 32) (k0_hw26 : k0_chk26 v137), ∀ a x, ((![v137] : Fin 1 → IVec S16 32) a x).toNat < S26000.size a := fun v137 k0_hw26 => k0_hw26

def k0_chk27 (v142 : IVec S16 32) : Prop :=
  (∀ a x, ((![v142] : Fin 1 → IVec S16 32) a x).toNat < S26000.size a)
theorem k0_idx27_inb : ∀ (v142 : IVec S16 32) (k0_hw27 : k0_chk27 v142), ∀ a x, ((![v142] : Fin 1 → IVec S16 32) a x).toNat < S26000.size a := fun v142 k0_hw27 => k0_hw27

def k0_chk28 (v147 : IVec S16 32) : Prop :=
  (∀ a x, ((![v147] : Fin 1 → IVec S16 32) a x).toNat < S26000.size a)
theorem k0_idx28_inb : ∀ (v147 : IVec S16 32) (k0_hw28 : k0_chk28 v147), ∀ a x, ((![v147] : Fin 1 → IVec S16 32) a x).toNat < S26000.size a := fun v147 k0_hw28 => k0_hw28

def k0_chk29 (v152 : IVec S16 32) : Prop :=
  (∀ a x, ((![v152] : Fin 1 → IVec S16 32) a x).toNat < S26000.size a)
theorem k0_idx29_inb : ∀ (v152 : IVec S16 32) (k0_hw29 : k0_chk29 v152), ∀ a x, ((![v152] : Fin 1 → IVec S16 32) a x).toNat < S26000.size a := fun v152 k0_hw29 => k0_hw29

def k0_chk30 (v157 : IVec S16 32) : Prop :=
  (∀ a x, ((![v157] : Fin 1 → IVec S16 32) a x).toNat < S26000.size a)
theorem k0_idx30_inb : ∀ (v157 : IVec S16 32) (k0_hw30 : k0_chk30 v157), ∀ a x, ((![v157] : Fin 1 → IVec S16 32) a x).toNat < S26000.size a := fun v157 k0_hw30 => k0_hw30

def k0_chk31 (v162 : IVec S16 32) : Prop :=
  (∀ a x, ((![v162] : Fin 1 → IVec S16 32) a x).toNat < S26000.size a)
theorem k0_idx31_inb : ∀ (v162 : IVec S16 32) (k0_hw31 : k0_chk31 v162), ∀ a x, ((![v162] : Fin 1 → IVec S16 32) a x).toNat < S26000.size a := fun v162 k0_hw31 => k0_hw31

def k0_chk32 (v167 : IVec S16 32) : Prop :=
  (∀ a x, ((![v167] : Fin 1 → IVec S16 32) a x).toNat < S26000.size a)
theorem k0_idx32_inb : ∀ (v167 : IVec S16 32) (k0_hw32 : k0_chk32 v167), ∀ a x, ((![v167] : Fin 1 → IVec S16 32) a x).toNat < S26000.size a := fun v167 k0_hw32 => k0_hw32
def k0_off2 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c13312_i32 : BitVec 32 := 13312#32
  let v2 : BitVec 32 := Scalar.muli v1 c13312_i32
  let c0_i32_0 : BitVec 32 := 0#32
  let c1_i32 : BitVec 32 := 1#32
  let arg8 : BitVec 32 := Scf.iv c0_i32_0 c1_i32 k0_t1
  let c512_i32 : BitVec 32 := 512#32
  let v4 : BitVec 32 := Scalar.muli arg8 c512_i32
  let v5 : BitVec 32 := Scalar.addi v2 v4
  let c14_i32 : BitVec 32 := 14#32
  let v6 : BitVec 32 := Scalar.shrui v5 c14_i32
  let c16384_i32 : BitVec 32 := 16384#32
  let v7 : BitVec 32 := Scalar.muli v6 c16384_i32
  let v8 : BitVec 32 := Scalar.subi v5 v7
  ![v6.toNat, v8.toNat]
abbrev grid1 : Pipeline.Grid := ⟨2, ![2, 16], ![false, false]⟩

def k1_off1 (i : grid1.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c52_i32 : BitVec 32 := 52#32
  let v3 : BitVec 32 := Scalar.muli v1 c52_i32
  let v4 : BitVec 32 := Scalar.addi v3 c0_i32
  let c0_i32_183_r0 : BitVec 32 := 0#32
  ![v4.toNat, 0]
@[reducible] def k1_t1_loop : Scf.Loop 32 :=
  let c0_i32_146 : BitVec 32 := 0#32
  let c12_i32 : BitVec 32 := 12#32
  let v316 : BitVec 32 := Scalar.addi c0_i32_146 c12_i32
  let c1_i32_147 : BitVec 32 := 1#32
  ⟨c0_i32_146, v316, c1_i32_147⟩
def k1_off2 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c6656_i32 : BitVec 32 := 6656#32
  let v2 : BitVec 32 := Scalar.muli v1 c6656_i32
  let c2_i32_183 : BitVec 32 := 2#32
  let c0_i32_146 : BitVec 32 := 0#32
  let c1_i32_147 : BitVec 32 := 1#32
  let arg13 : BitVec 32 := Scf.iv c0_i32_146 c1_i32_147 k1_t1
  let v345 : BitVec 32 := Scalar.muli c2_i32_183 arg13
  let c256_i32_197 : BitVec 32 := 256#32
  let v355 : BitVec 32 := Scalar.muli v345 c256_i32_197
  let v356 : BitVec 32 := Scalar.addi v2 v355
  let c0_i32_198 : BitVec 32 := 0#32
  ![v356.toNat, 0]
def k1_off3 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c6656_i32 : BitVec 32 := 6656#32
  let v2 : BitVec 32 := Scalar.muli v1 c6656_i32
  let c2_i32_183 : BitVec 32 := 2#32
  let c0_i32_146 : BitVec 32 := 0#32
  let c1_i32_147 : BitVec 32 := 1#32
  let arg13 : BitVec 32 := Scf.iv c0_i32_146 c1_i32_147 k1_t1
  let v345 : BitVec 32 := Scalar.muli c2_i32_183 arg13
  let c1_i32_184 : BitVec 32 := 1#32
  let v346 : BitVec 32 := Scalar.addi v345 c1_i32_184
  let c256_i32_212 : BitVec 32 := 256#32
  let v367 : BitVec 32 := Scalar.muli v346 c256_i32_212
  let v368 : BitVec 32 := Scalar.addi v2 v367
  let c0_i32_213 : BitVec 32 := 0#32
  ![v368.toNat, 0]
def k1_off4 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c52_i32 : BitVec 32 := 52#32
  let v3 : BitVec 32 := Scalar.muli v1 c52_i32
  let c2_i32_183 : BitVec 32 := 2#32
  let c0_i32_146 : BitVec 32 := 0#32
  let c1_i32_147 : BitVec 32 := 1#32
  let arg13 : BitVec 32 := Scf.iv c0_i32_146 c1_i32_147 k1_t1
  let v345 : BitVec 32 := Scalar.muli c2_i32_183 arg13
  let c2_i32_215 : BitVec 32 := 2#32
  let v371 : BitVec 32 := Scalar.addi v345 c2_i32_215
  let c2_i32_216 : BitVec 32 := 2#32
  let v372 : BitVec 32 := Scalar.muli v371 c2_i32_216
  let v373 : BitVec 32 := Scalar.addi v3 v372
  let c0_i32_383_r2 : BitVec 32 := 0#32
  ![v373.toNat, 0]
def k1_off5 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c52_i32 : BitVec 32 := 52#32
  let v3 : BitVec 32 := Scalar.muli v1 c52_i32
  let c2_i32_183 : BitVec 32 := 2#32
  let c0_i32_146 : BitVec 32 := 0#32
  let c1_i32_147 : BitVec 32 := 1#32
  let arg13 : BitVec 32 := Scf.iv c0_i32_146 c1_i32_147 k1_t1
  let v345 : BitVec 32 := Scalar.muli c2_i32_183 arg13
  let c1_i32_184 : BitVec 32 := 1#32
  let v346 : BitVec 32 := Scalar.addi v345 c1_i32_184
  let c2_i32_299 : BitVec 32 := 2#32
  let v534 : BitVec 32 := Scalar.addi v346 c2_i32_299
  let c2_i32_300 : BitVec 32 := 2#32
  let v535 : BitVec 32 := Scalar.muli v534 c2_i32_300
  let v536 : BitVec 32 := Scalar.addi v3 v535
  let c0_i32_383_r3 : BitVec 32 := 0#32
  ![v536.toNat, 0]
def k1_off6 (i : grid1.Coords) (c6144_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c6656_i32 : BitVec 32 := 6656#32
  let v2 : BitVec 32 := Scalar.muli v1 c6656_i32
  let v325 : BitVec 32 := Scalar.addi v2 c6144_i32
  let c0_i32_161 : BitVec 32 := 0#32
  ![v325.toNat, 0]
abbrev grid2 : Pipeline.Grid := ⟨2, ![2, 16], ![false, false]⟩

def k2_off1 (i : grid2.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c52_i32 : BitVec 32 := 52#32
  let v3 : BitVec 32 := Scalar.muli v1 c52_i32
  let v4 : BitVec 32 := Scalar.addi v3 c0_i32
  let c0_i32_183_r0 : BitVec 32 := 0#32
  ![v4.toNat, 0]
@[reducible] def k2_t1_loop : Scf.Loop 32 :=
  let c0_i32_146 : BitVec 32 := 0#32
  let c12_i32 : BitVec 32 := 12#32
  let v316 : BitVec 32 := Scalar.addi c0_i32_146 c12_i32
  let c1_i32_147 : BitVec 32 := 1#32
  ⟨c0_i32_146, v316, c1_i32_147⟩
def k2_off2 (i : grid2.Coords) (k2_t1 : Fin k2_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c6656_i32 : BitVec 32 := 6656#32
  let v2 : BitVec 32 := Scalar.muli v1 c6656_i32
  let c2_i32_183 : BitVec 32 := 2#32
  let c0_i32_146 : BitVec 32 := 0#32
  let c1_i32_147 : BitVec 32 := 1#32
  let arg13 : BitVec 32 := Scf.iv c0_i32_146 c1_i32_147 k2_t1
  let v345 : BitVec 32 := Scalar.muli c2_i32_183 arg13
  let c256_i32_197 : BitVec 32 := 256#32
  let v355 : BitVec 32 := Scalar.muli v345 c256_i32_197
  let v356 : BitVec 32 := Scalar.addi v2 v355
  let c0_i32_198 : BitVec 32 := 0#32
  ![v356.toNat, 0]
def k2_off3 (i : grid2.Coords) (k2_t1 : Fin k2_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c6656_i32 : BitVec 32 := 6656#32
  let v2 : BitVec 32 := Scalar.muli v1 c6656_i32
  let c2_i32_183 : BitVec 32 := 2#32
  let c0_i32_146 : BitVec 32 := 0#32
  let c1_i32_147 : BitVec 32 := 1#32
  let arg13 : BitVec 32 := Scf.iv c0_i32_146 c1_i32_147 k2_t1
  let v345 : BitVec 32 := Scalar.muli c2_i32_183 arg13
  let c1_i32_184 : BitVec 32 := 1#32
  let v346 : BitVec 32 := Scalar.addi v345 c1_i32_184
  let c256_i32_212 : BitVec 32 := 256#32
  let v367 : BitVec 32 := Scalar.muli v346 c256_i32_212
  let v368 : BitVec 32 := Scalar.addi v2 v367
  let c0_i32_213 : BitVec 32 := 0#32
  ![v368.toNat, 0]
def k2_off4 (i : grid2.Coords) (k2_t1 : Fin k2_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c52_i32 : BitVec 32 := 52#32
  let v3 : BitVec 32 := Scalar.muli v1 c52_i32
  let c2_i32_183 : BitVec 32 := 2#32
  let c0_i32_146 : BitVec 32 := 0#32
  let c1_i32_147 : BitVec 32 := 1#32
  let arg13 : BitVec 32 := Scf.iv c0_i32_146 c1_i32_147 k2_t1
  let v345 : BitVec 32 := Scalar.muli c2_i32_183 arg13
  let c2_i32_215 : BitVec 32 := 2#32
  let v371 : BitVec 32 := Scalar.addi v345 c2_i32_215
  let c2_i32_216 : BitVec 32 := 2#32
  let v372 : BitVec 32 := Scalar.muli v371 c2_i32_216
  let v373 : BitVec 32 := Scalar.addi v3 v372
  let c0_i32_383_r2 : BitVec 32 := 0#32
  ![v373.toNat, 0]
def k2_off5 (i : grid2.Coords) (k2_t1 : Fin k2_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c52_i32 : BitVec 32 := 52#32
  let v3 : BitVec 32 := Scalar.muli v1 c52_i32
  let c2_i32_183 : BitVec 32 := 2#32
  let c0_i32_146 : BitVec 32 := 0#32
  let c1_i32_147 : BitVec 32 := 1#32
  let arg13 : BitVec 32 := Scf.iv c0_i32_146 c1_i32_147 k2_t1
  let v345 : BitVec 32 := Scalar.muli c2_i32_183 arg13
  let c1_i32_184 : BitVec 32 := 1#32
  let v346 : BitVec 32 := Scalar.addi v345 c1_i32_184
  let c2_i32_299 : BitVec 32 := 2#32
  let v534 : BitVec 32 := Scalar.addi v346 c2_i32_299
  let c2_i32_300 : BitVec 32 := 2#32
  let v535 : BitVec 32 := Scalar.muli v534 c2_i32_300
  let v536 : BitVec 32 := Scalar.addi v3 v535
  let c0_i32_383_r3 : BitVec 32 := 0#32
  ![v536.toNat, 0]
def k2_off6 (i : grid2.Coords) (c6144_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c6656_i32 : BitVec 32 := 6656#32
  let v2 : BitVec 32 := Scalar.muli v1 c6656_i32
  let v325 : BitVec 32 := Scalar.addi v2 c6144_i32
  let c0_i32_161 : BitVec 32 := 0#32
  ![v325.toNat, 0]
abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_14 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_15 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_18 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_19 (i : grid3.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

abbrev stage3_0 : Fin 2 → Memref sig .tc .vmem S26x512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S26x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3328x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x512 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S512 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S512x256 .bf16 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S256 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S256 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S256 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S256x1 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S1 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 2 → Memref sig .tc .vmem S512x1 .f32 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true]

abbrev stage3_19 : Fin 2 → Memref sig .tc .vmem S26x512x128 .f32 := fun | 0 => Memref.whole cc3_stg19_0 | 1 => Memref.whole cc3_stg19_1 | ⟨_ + 2, h⟩ => absurd h (Nat.not_lt.2 (Nat.le_add_left _ _))
abbrev sem3_19 : Fin 2 → DmaSem sig := fun | 0 => cc3_sem19_0 | 1 => cc3_sem19_1 | ⟨_ + 2, h⟩ => absurd h (Nat.not_lt.2 (Nat.le_add_left _ _))
abbrev reads3_19 : Fin grid3.rank → Bool := ![true]

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc4_transform_2 (i : grid4.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_14 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_15 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_19 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_20 (i : grid4.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, v0.toNat, c0_i32_0.toNat]

abbrev stage4_0 : Fin 2 → Memref sig .tc .vmem S26x512x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x4 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S26x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S3328x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S4x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1024x512 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S512 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S512 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S512 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S512x256 .bf16 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S256 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S256 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S256 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S256x1 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 1 → Memref sig .tc .vmem S1 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false]

abbrev stage4_18 : Fin 2 → Memref sig .tc .vmem S512x1 .f32 := fun | 0 => Memref.whole cc4_stg18_0 | 1 => Memref.whole cc4_stg18_1 | ⟨_ + 2, h⟩ => absurd h (Nat.not_lt.2 (Nat.le_add_left _ _))
abbrev sem4_18 : Fin 2 → DmaSem sig := fun | 0 => cc4_sem18_0 | 1 => cc4_sem18_1 | ⟨_ + 2, h⟩ => absurd h (Nat.not_lt.2 (Nat.le_add_left _ _))
abbrev reads4_18 : Fin grid4.rank → Bool := ![true]

abbrev stage4_19 : Fin 2 → Memref sig .tc .vmem S26x512x128 .f32 := fun | 0 => Memref.whole cc4_stg19_0 | 1 => Memref.whole cc4_stg19_1 | ⟨_ + 2, h⟩ => absurd h (Nat.not_lt.2 (Nat.le_add_left _ _))
abbrev sem4_19 : Fin 2 → DmaSem sig := fun | 0 => cc4_sem19_0 | 1 => cc4_sem19_1 | ⟨_ + 2, h⟩ => absurd h (Nat.not_lt.2 (Nat.le_add_left _ _))
abbrev reads4_19 : Fin grid4.rank → Bool := ![true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S16384x26 : Shape := ⟨2, ![16384, 26]⟩
abbrev S16384x4 : Shape := ⟨2, ![16384, 4]⟩
abbrev S26000x128 : Shape := ⟨2, ![26000, 128]⟩
abbrev S26000x1 : Shape := ⟨2, ![26000, 1]⟩
abbrev S3332x1024 : Shape := ⟨2, ![3332, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S26 : Shape := ⟨1, ![26]⟩
abbrev S_ : Shape := ⟨0, ![]⟩
abbrev S1x26 : Shape := ⟨2, ![1, 26]⟩
abbrev S16384x26x1 : Shape := ⟨3, ![16384, 26, 1]⟩
abbrev S1x1x1 : Shape := ⟨3, ![1, 1, 1]⟩
abbrev S16384x1 : Shape := ⟨2, ![16384, 1]⟩
abbrev S16384x26x128 : Shape := ⟨3, ![16384, 26, 128]⟩
abbrev S16384x128 : Shape := ⟨2, ![16384, 128]⟩
abbrev S16384 : Shape := ⟨1, ![16384]⟩
abbrev S16384x3328 : Shape := ⟨2, ![16384, 3328]⟩
abbrev S16384x3332 : Shape := ⟨2, ![16384, 3332]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S1x1 : Shape := ⟨2, ![1, 1]⟩

abbrev nBuf : Space → Nat
  | .hbm => 247
  | .vmem => 0
  | .smem => 0
  | _ => 0

abbrev hbmTy0_0 (i : Nat) : BufTy := match i % 128 with
  | 0 => ⟨S16384x26, .i32⟩
  | 1 => ⟨S16384x4, .f32⟩
  | 2 => ⟨S26000x128, .f32⟩
  | 3 => ⟨S26000x1, .f32⟩
  | 4 => ⟨S3332x1024, .f32⟩
  | 5 => ⟨S1024, .f32⟩
  | 6 => ⟨S1024, .f32⟩
  | 7 => ⟨S1024, .f32⟩
  | 8 => ⟨S1024x512, .f32⟩
  | 9 => ⟨S512, .f32⟩
  | 10 => ⟨S512, .f32⟩
  | 11 => ⟨S512, .f32⟩
  | 12 => ⟨S512x256, .f32⟩
  | 13 => ⟨S256, .f32⟩
  | 14 => ⟨S256, .f32⟩
  | 15 => ⟨S256, .f32⟩
  | 16 => ⟨S256x1, .f32⟩
  | 17 => ⟨S1, .f32⟩
  | 18 => ⟨S26, .i32⟩
  | 19 => ⟨S_, .i32⟩
  | 20 => ⟨S26, .i32⟩
  | 21 => ⟨S26, .i32⟩
  | 22 => ⟨S1x26, .i32⟩
  | 23 => ⟨S16384x26, .i32⟩
  | 24 => ⟨S16384x26, .i32⟩
  | 25 => ⟨S_, .i32⟩
  | 26 => ⟨S16384x26, .i32⟩
  | 27 => ⟨S16384x26, .i1⟩
  | 28 => ⟨S_, .i32⟩
  | 29 => ⟨S16384x26, .i32⟩
  | 30 => ⟨S16384x26, .i32⟩
  | 31 => ⟨S16384x26, .i32⟩
  | 32 => ⟨S16384x26x1, .i32⟩
  | 33 => ⟨S1, .i32⟩
  | 34 => ⟨S_, .i32⟩
  | 35 => ⟨S16384x26x1, .i32⟩
  | 36 => ⟨S16384x26x1, .i1⟩
  | 37 => ⟨S1x1x1, .i32⟩
  | 38 => ⟨S16384x26x1, .i32⟩
  | 39 => ⟨S16384x26x1, .i1⟩
  | 40 => ⟨S16384x26x1, .i1⟩
  | 41 => ⟨S_, .i1⟩
  | 42 => ⟨S16384x26, .i1⟩
  | 43 => ⟨S16384x26x1, .f32⟩
  | 44 => ⟨S16384x26x1, .i1⟩
  | 45 => ⟨S_, .f32⟩
  | 46 => ⟨S16384x26x1, .f32⟩
  | 47 => ⟨S16384x26x1, .f32⟩
  | 48 => ⟨S_, .f32⟩
  | 49 => ⟨S16384x1, .f32⟩
  | 50 => ⟨S_, .i32⟩
  | 51 => ⟨S16384x26, .i32⟩
  | 52 => ⟨S16384x26, .i1⟩
  | 53 => ⟨S_, .i32⟩
  | 54 => ⟨S16384x26, .i32⟩
  | 55 => ⟨S16384x26, .i32⟩
  | 56 => ⟨S16384x26, .i32⟩
  | 57 => ⟨S16384x26x1, .i32⟩
  | 58 => ⟨S1, .i32⟩
  | 59 => ⟨S_, .i32⟩
  | 60 => ⟨S16384x26x1, .i32⟩
  | 61 => ⟨S16384x26x1, .i1⟩
  | 62 => ⟨S1x1x1, .i32⟩
  | 63 => ⟨S16384x26x1, .i32⟩
  | 64 => ⟨S16384x26x1, .i1⟩
  | 65 => ⟨S16384x26x1, .i1⟩
  | 66 => ⟨S_, .i1⟩
  | 67 => ⟨S16384x26, .i1⟩
  | 68 => ⟨S16384x26x128, .f32⟩
  | 69 => ⟨S16384x26x128, .i1⟩
  | 70 => ⟨S_, .f32⟩
  | 71 => ⟨S16384x26x128, .f32⟩
  | 72 => ⟨S16384x26x128, .f32⟩
  | 73 => ⟨S_, .f32⟩
  | 74 => ⟨S16384x128, .f32⟩
  | 75 => ⟨S16384x128, .f32⟩
  | 76 => ⟨S16384x26x128, .f32⟩
  | 77 => ⟨S_, .f32⟩
  | 78 => ⟨S16384x128, .f32⟩
  | 79 => ⟨S16384x128, .f32⟩
  | 80 => ⟨S_, .f32⟩
  | 81 => ⟨S16384, .f32⟩
  | 82 => ⟨S16384x1, .f32⟩
  | 83 => ⟨S_, .f32⟩
  | 84 => ⟨S16384x1, .f32⟩
  | 85 => ⟨S16384x1, .f32⟩
  | 86 => ⟨S16384x1, .f32⟩
  | 87 => ⟨S16384x3328, .f32⟩
  | 88 => ⟨S16384x3332, .f32⟩
  | 89 => ⟨S16384x1024, .f32⟩
  | 90 => ⟨S1x1024, .f32⟩
  | 91 => ⟨S16384x1024, .f32⟩
  | 92 => ⟨S16384x1024, .f32⟩
  | 93 => ⟨S_, .f32⟩
  | 94 => ⟨S16384x1024, .f32⟩
  | 95 => ⟨S16384x1024, .f32⟩
  | 96 => ⟨S_, .f32⟩
  | 97 => ⟨S16384, .f32⟩
  | 98 => ⟨S16384x1, .f32⟩
  | 99 => ⟨S_, .f32⟩
  | 100 => ⟨S16384x1, .f32⟩
  | 101 => ⟨S16384x1, .f32⟩
  | 102 => ⟨S_, .i32⟩
  | 103 => ⟨S_, .f32⟩
  | 104 => ⟨S16384, .f32⟩
  | 105 => ⟨S16384x1, .f32⟩
  | 106 => ⟨S_, .f32⟩
  | 107 => ⟨S16384x1, .f32⟩
  | 108 => ⟨S16384x1, .f32⟩
  | 109 => ⟨S16384x1024, .f32⟩
  | 110 => ⟨S16384x1024, .f32⟩
  | 111 => ⟨S16384x1024, .f32⟩
  | 112 => ⟨S_, .f32⟩
  | 113 => ⟨S_, .f32⟩
  | 114 => ⟨S_, .f32⟩
  | 115 => ⟨S_, .f32⟩
  | 116 => ⟨S16384, .f32⟩
  | 117 => ⟨S16384x1, .f32⟩
  | 118 => ⟨S16384x1, .f32⟩
  | 119 => ⟨S16384x1, .f32⟩
  | 120 => ⟨S_, .f32⟩
  | 121 => ⟨S_, .i1⟩
  | 122 => ⟨S_, .f32⟩
  | 123 => ⟨S_, .f32⟩
  | 124 => ⟨S16384x1, .f32⟩
  | 125 => ⟨S16384x1, .f32⟩
  | 126 => ⟨S16384x1024, .f32⟩
  | 127 => ⟨S16384x1024, .f32⟩
  | _ => ⟨S16384x26, .i32⟩

abbrev hbmTy0_1 (i : Nat) : BufTy := match i % 128 with
  | 0 => ⟨S_, .f32⟩
  | 1 => ⟨S16384x1, .f32⟩
  | 2 => ⟨S16384x1, .f32⟩
  | 3 => ⟨S16384x1, .f32⟩
  | 4 => ⟨S16384x1024, .f32⟩
  | 5 => ⟨S16384x1024, .f32⟩
  | 6 => ⟨S1x1024, .f32⟩
  | 7 => ⟨S16384x1024, .f32⟩
  | 8 => ⟨S16384x1024, .f32⟩
  | 9 => ⟨S1x1024, .f32⟩
  | 10 => ⟨S16384x1024, .f32⟩
  | 11 => ⟨S16384x1024, .f32⟩
  | 12 => ⟨S16384x512, .f32⟩
  | 13 => ⟨S1x512, .f32⟩
  | 14 => ⟨S16384x512, .f32⟩
  | 15 => ⟨S16384x512, .f32⟩
  | 16 => ⟨S_, .f32⟩
  | 17 => ⟨S16384x512, .f32⟩
  | 18 => ⟨S16384x512, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S_, .i32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S16384x512, .f32⟩
  | 33 => ⟨S16384x512, .f32⟩
  | 34 => ⟨S16384x512, .f32⟩
  | 35 => ⟨S_, .f32⟩
  | 36 => ⟨S_, .f32⟩
  | 37 => ⟨S_, .f32⟩
  | 38 => ⟨S_, .f32⟩
  | 39 => ⟨S16384, .f32⟩
  | 40 => ⟨S16384x1, .f32⟩
  | 41 => ⟨S16384x1, .f32⟩
  | 42 => ⟨S16384x1, .f32⟩
  | 43 => ⟨S_, .f32⟩
  | 44 => ⟨S_, .i1⟩
  | 45 => ⟨S_, .f32⟩
  | 46 => ⟨S_, .f32⟩
  | 47 => ⟨S16384x1, .f32⟩
  | 48 => ⟨S16384x1, .f32⟩
  | 49 => ⟨S16384x512, .f32⟩
  | 50 => ⟨S16384x512, .f32⟩
  | 51 => ⟨S_, .f32⟩
  | 52 => ⟨S16384x1, .f32⟩
  | 53 => ⟨S16384x1, .f32⟩
  | 54 => ⟨S16384x1, .f32⟩
  | 55 => ⟨S16384x512, .f32⟩
  | 56 => ⟨S16384x512, .f32⟩
  | 57 => ⟨S1x512, .f32⟩
  | 58 => ⟨S16384x512, .f32⟩
  | 59 => ⟨S16384x512, .f32⟩
  | 60 => ⟨S1x512, .f32⟩
  | 61 => ⟨S16384x512, .f32⟩
  | 62 => ⟨S16384x512, .f32⟩
  | 63 => ⟨S16384x256, .f32⟩
  | 64 => ⟨S1x256, .f32⟩
  | 65 => ⟨S16384x256, .f32⟩
  | 66 => ⟨S16384x256, .f32⟩
  | 67 => ⟨S_, .f32⟩
  | 68 => ⟨S16384x256, .f32⟩
  | 69 => ⟨S16384x256, .f32⟩
  | 70 => ⟨S_, .f32⟩
  | 71 => ⟨S16384, .f32⟩
  | 72 => ⟨S16384x1, .f32⟩
  | 73 => ⟨S_, .f32⟩
  | 74 => ⟨S16384x1, .f32⟩
  | 75 => ⟨S16384x1, .f32⟩
  | 76 => ⟨S_, .i32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S16384x256, .f32⟩
  | 84 => ⟨S16384x256, .f32⟩
  | 85 => ⟨S16384x256, .f32⟩
  | 86 => ⟨S_, .f32⟩
  | 87 => ⟨S_, .f32⟩
  | 88 => ⟨S_, .f32⟩
  | 89 => ⟨S_, .f32⟩
  | 90 => ⟨S16384, .f32⟩
  | 91 => ⟨S16384x1, .f32⟩
  | 92 => ⟨S16384x1, .f32⟩
  | 93 => ⟨S16384x1, .f32⟩
  | 94 => ⟨S_, .f32⟩
  | 95 => ⟨S_, .i1⟩
  | 96 => ⟨S_, .f32⟩
  | 97 => ⟨S_, .f32⟩
  | 98 => ⟨S16384x1, .f32⟩
  | 99 => ⟨S16384x1, .f32⟩
  | 100 => ⟨S16384x256, .f32⟩
  | 101 => ⟨S16384x256, .f32⟩
  | 102 => ⟨S_, .f32⟩
  | 103 => ⟨S16384x1, .f32⟩
  | 104 => ⟨S16384x1, .f32⟩
  | 105 => ⟨S16384x1, .f32⟩
  | 106 => ⟨S16384x256, .f32⟩
  | 107 => ⟨S16384x256, .f32⟩
  | 108 => ⟨S1x256, .f32⟩
  | 109 => ⟨S16384x256, .f32⟩
  | 110 => ⟨S16384x256, .f32⟩
  | 111 => ⟨S1x256, .f32⟩
  | 112 => ⟨S16384x256, .f32⟩
  | 113 => ⟨S16384x256, .f32⟩
  | 114 => ⟨S16384x1, .f32⟩
  | 115 => ⟨S1x1, .f32⟩
  | 116 => ⟨S16384x1, .f32⟩
  | 117 => ⟨S16384x1, .f32⟩
  | 118 => ⟨S16384x1, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v8 : Ref sig .tc := ⟨.hbm, 72, rfl⟩
abbrev main_cst_0 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_cst_1 : Ref sig .tc := ⟨.hbm, 77, rfl⟩
abbrev main_v12 : Ref sig .tc := ⟨.hbm, 78, rfl⟩
abbrev main_v13 : Ref sig .tc := ⟨.hbm, 79, rfl⟩
abbrev main_cst_2 : Ref sig .tc := ⟨.hbm, 80, rfl⟩
abbrev main_v14 : Ref sig .tc := ⟨.hbm, 81, rfl⟩
abbrev main_v15 : Ref sig .tc := ⟨.hbm, 82, rfl⟩
abbrev main_cst_3 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_call2_cst : Ref sig .tc := ⟨.hbm, 93, rfl⟩
abbrev main_call2_v0 : Ref sig .tc := ⟨.hbm, 94, rfl⟩
abbrev main_v25 : Ref sig .tc := ⟨.hbm, 95, rfl⟩
abbrev main_cst_4 : Ref sig .tc := ⟨.hbm, 96, rfl⟩
abbrev main_v26 : Ref sig .tc := ⟨.hbm, 97, rfl⟩
abbrev main_v27 : Ref sig .tc := ⟨.hbm, 98, rfl⟩
abbrev main_cst_5 : Ref sig .tc := ⟨.hbm, 99, rfl⟩
abbrev main_v28 : Ref sig .tc := ⟨.hbm, 100, rfl⟩
abbrev main_v29 : Ref sig .tc := ⟨.hbm, 101, rfl⟩
abbrev main_c_6 : Ref sig .tc := ⟨.hbm, 102, rfl⟩
abbrev main_call3_cst : Ref sig .tc := ⟨.hbm, 103, rfl⟩
abbrev main_call3_v0 : Ref sig .tc := ⟨.hbm, 104, rfl⟩
abbrev main_call3_v1 : Ref sig .tc := ⟨.hbm, 105, rfl⟩
abbrev main_call3_cst_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_v6 : Ref sig .tc := ⟨.hbm, 111, rfl⟩
abbrev main_call3_v7 : Ref sig .tc := ⟨.hbm, 112, rfl⟩
abbrev main_call3_cst_1 : Ref sig .tc := ⟨.hbm, 113, rfl⟩
abbrev main_call3_v8 : Ref sig .tc := ⟨.hbm, 114, rfl⟩
abbrev main_call3_cst_2 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_v12 : Ref sig .tc := ⟨.hbm, 119, rfl⟩
abbrev main_call3_cst_3 : Ref sig .tc := ⟨.hbm, 120, rfl⟩
abbrev main_call3_v13 : Ref sig .tc := ⟨.hbm, 121, rfl⟩
abbrev main_call3_cst_4 : Ref sig .tc := ⟨.hbm, 122, rfl⟩
abbrev main_call3_call0_v0 : Ref sig .tc := ⟨.hbm, 123, rfl⟩
abbrev main_call3_call0_v1 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_cst_7 : Ref sig .tc := ⟨.hbm, 128, rfl⟩
abbrev main_v33 : Ref sig .tc := ⟨.hbm, 129, rfl⟩
abbrev main_v34 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_call4_cst : Ref sig .tc := ⟨.hbm, 144, rfl⟩
abbrev main_call4_v0 : Ref sig .tc := ⟨.hbm, 145, rfl⟩
abbrev main_v48 : Ref sig .tc := ⟨.hbm, 146, rfl⟩
abbrev main_cst_8 : Ref sig .tc := ⟨.hbm, 147, rfl⟩
abbrev main_v49 : Ref sig .tc := ⟨.hbm, 148, rfl⟩
abbrev main_v50 : Ref sig .tc := ⟨.hbm, 149, rfl⟩
abbrev main_cst_9 : Ref sig .tc := ⟨.hbm, 150, rfl⟩
abbrev main_v51 : Ref sig .tc := ⟨.hbm, 151, rfl⟩
abbrev main_v52 : Ref sig .tc := ⟨.hbm, 152, rfl⟩
abbrev main_c_10 : Ref sig .tc := ⟨.hbm, 153, rfl⟩
abbrev main_call5_cst : Ref sig .tc := ⟨.hbm, 154, rfl⟩
abbrev main_call5_v0 : Ref sig .tc := ⟨.hbm, 155, rfl⟩
abbrev main_call5_v1 : Ref sig .tc := ⟨.hbm, 156, rfl⟩
abbrev main_call5_cst_0 : Ref sig .tc := ⟨.hbm, 157, rfl⟩
abbrev main_call5_v2 : Ref sig .tc := ⟨.hbm, 158, rfl⟩
abbrev main_call5_v3 : Ref sig .tc := ⟨.hbm, 159, rfl⟩
abbrev main_call5_v4 : Ref sig .tc := ⟨.hbm, 160, rfl⟩
abbrev main_call5_v5 : Ref sig .tc := ⟨.hbm, 161, rfl⟩
abbrev main_call5_v6 : Ref sig .tc := ⟨.hbm, 162, rfl⟩
abbrev main_call5_v7 : Ref sig .tc := ⟨.hbm, 163, rfl⟩
abbrev main_call5_cst_1 : Ref sig .tc := ⟨.hbm, 164, rfl⟩
abbrev main_call5_v8 : Ref sig .tc := ⟨.hbm, 165, rfl⟩
abbrev main_call5_cst_2 : Ref sig .tc := ⟨.hbm, 166, rfl⟩
abbrev main_call5_v9 : Ref sig .tc := ⟨.hbm, 167, rfl⟩
abbrev main_call5_v10 : Ref sig .tc := ⟨.hbm, 168, rfl⟩
abbrev main_call5_v11 : Ref sig .tc := ⟨.hbm, 169, rfl⟩
abbrev main_call5_v12 : Ref sig .tc := ⟨.hbm, 170, rfl⟩
abbrev main_call5_cst_3 : Ref sig .tc := ⟨.hbm, 171, rfl⟩
abbrev main_call5_v13 : Ref sig .tc := ⟨.hbm, 172, rfl⟩
abbrev main_call5_cst_4 : Ref sig .tc := ⟨.hbm, 173, rfl⟩
abbrev main_call5_call0_v0 : Ref sig .tc := ⟨.hbm, 174, rfl⟩
abbrev main_call5_call0_v1 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_cst_11 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩
abbrev main_v59 : Ref sig .tc := ⟨.hbm, 183, rfl⟩
abbrev main_v60 : Ref sig .tc := ⟨.hbm, 184, rfl⟩
abbrev main_v61 : Ref sig .tc := ⟨.hbm, 185, rfl⟩
abbrev main_v62 : Ref sig .tc := ⟨.hbm, 186, rfl⟩
abbrev main_v63 : Ref sig .tc := ⟨.hbm, 187, rfl⟩
abbrev main_v64 : Ref sig .tc := ⟨.hbm, 188, rfl⟩
abbrev main_v65 : Ref sig .tc := ⟨.hbm, 189, rfl⟩
abbrev main_v66 : Ref sig .tc := ⟨.hbm, 190, rfl⟩
abbrev main_v67 : Ref sig .tc := ⟨.hbm, 191, rfl⟩
abbrev main_v68 : Ref sig .tc := ⟨.hbm, 192, rfl⟩
abbrev main_v69 : Ref sig .tc := ⟨.hbm, 193, rfl⟩
abbrev main_v70 : Ref sig .tc := ⟨.hbm, 194, rfl⟩
abbrev main_call6_cst : Ref sig .tc := ⟨.hbm, 195, rfl⟩
abbrev main_call6_v0 : Ref sig .tc := ⟨.hbm, 196, rfl⟩
abbrev main_v71 : Ref sig .tc := ⟨.hbm, 197, rfl⟩
abbrev main_cst_12 : Ref sig .tc := ⟨.hbm, 198, rfl⟩
abbrev main_v72 : Ref sig .tc := ⟨.hbm, 199, rfl⟩
abbrev main_v73 : Ref sig .tc := ⟨.hbm, 200, rfl⟩
abbrev main_cst_13 : Ref sig .tc := ⟨.hbm, 201, rfl⟩
abbrev main_v74 : Ref sig .tc := ⟨.hbm, 202, rfl⟩
abbrev main_v75 : Ref sig .tc := ⟨.hbm, 203, rfl⟩
abbrev main_c_14 : Ref sig .tc := ⟨.hbm, 204, rfl⟩
abbrev main_call7_cst : Ref sig .tc := ⟨.hbm, 205, rfl⟩
abbrev main_call7_v0 : Ref sig .tc := ⟨.hbm, 206, rfl⟩
abbrev main_call7_v1 : Ref sig .tc := ⟨.hbm, 207, rfl⟩
abbrev main_call7_cst_0 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_call7_v5 : Ref sig .tc := ⟨.hbm, 212, rfl⟩
abbrev main_call7_v6 : Ref sig .tc := ⟨.hbm, 213, rfl⟩
abbrev main_call7_v7 : Ref sig .tc := ⟨.hbm, 214, rfl⟩
abbrev main_call7_cst_1 : Ref sig .tc := ⟨.hbm, 215, rfl⟩
abbrev main_call7_v8 : Ref sig .tc := ⟨.hbm, 216, rfl⟩
abbrev main_call7_cst_2 : Ref sig .tc := ⟨.hbm, 217, rfl⟩
abbrev main_call7_v9 : Ref sig .tc := ⟨.hbm, 218, rfl⟩
abbrev main_call7_v10 : Ref sig .tc := ⟨.hbm, 219, rfl⟩
abbrev main_call7_v11 : Ref sig .tc := ⟨.hbm, 220, rfl⟩
abbrev main_call7_v12 : Ref sig .tc := ⟨.hbm, 221, rfl⟩
abbrev main_call7_cst_3 : Ref sig .tc := ⟨.hbm, 222, rfl⟩
abbrev main_call7_v13 : Ref sig .tc := ⟨.hbm, 223, rfl⟩
abbrev main_call7_cst_4 : Ref sig .tc := ⟨.hbm, 224, rfl⟩
abbrev main_call7_call0_v0 : Ref sig .tc := ⟨.hbm, 225, rfl⟩
abbrev main_call7_call0_v1 : Ref sig .tc := ⟨.hbm, 226, rfl⟩
abbrev main_v76 : Ref sig .tc := ⟨.hbm, 227, rfl⟩
abbrev main_v77 : Ref sig .tc := ⟨.hbm, 228, rfl⟩
abbrev main_v78 : Ref sig .tc := ⟨.hbm, 229, rfl⟩
abbrev main_cst_15 : Ref sig .tc := ⟨.hbm, 230, rfl⟩
abbrev main_v79 : Ref sig .tc := ⟨.hbm, 231, rfl⟩
abbrev main_v80 : Ref sig .tc := ⟨.hbm, 232, rfl⟩
abbrev main_v81 : Ref sig .tc := ⟨.hbm, 233, rfl⟩
abbrev main_v82 : Ref sig .tc := ⟨.hbm, 234, rfl⟩
abbrev main_v83 : Ref sig .tc := ⟨.hbm, 235, rfl⟩
abbrev main_v84 : Ref sig .tc := ⟨.hbm, 236, rfl⟩
abbrev main_v85 : Ref sig .tc := ⟨.hbm, 237, rfl⟩
abbrev main_v86 : Ref sig .tc := ⟨.hbm, 238, rfl⟩
abbrev main_v87 : Ref sig .tc := ⟨.hbm, 239, rfl⟩
abbrev main_v88 : Ref sig .tc := ⟨.hbm, 240, rfl⟩
abbrev main_v89 : Ref sig .tc := ⟨.hbm, 241, rfl⟩
abbrev main_v90 : Ref sig .tc := ⟨.hbm, 242, rfl⟩
abbrev main_v91 : Ref sig .tc := ⟨.hbm, 243, rfl⟩
abbrev main_v92 : Ref sig .tc := ⟨.hbm, 244, rfl⟩
abbrev main_v93 : Ref sig .tc := ⟨.hbm, 245, rfl⟩
abbrev main_v94 : Ref sig .tc := ⟨.hbm, 246, rfl⟩

abbrev nD : Nat := 1
abbrev τ : Topo := Topo.v7x

variable {F : FTy → Type} [FloatOps F]
-- ==== Proof.Gather.Shape.lean ====
/-
  The gather kernel written with its own helper procedures: `stage` (fetch 256 row numbers and add the table's
  offset), `gstart` / `gwait` (two indirect gathers of 128 rows on one semaphore) and `trip` (one trip of the loop).
  The printed kernel is this program by definitional unfolding.
-/
module

public import proofs.«01_k».proof.Proof.Gen.KernelIdeal

@[expose] public section

noncomputable section

namespace Cert.Proof.Gather

open Cert.KernelIdeal Cert.KernelIdeal.Gen
open Idealize.ShloMosaic Idealize.SL.Sem

variable {F : FTy → Type} [FloatOps F]

/-- The processor of a tile. -/
abbrev Tile (c : Fin τ.nSC) (j : Fin τ.nSub) : Type → Type _ := Prog (TpuEff nD τ sig (Elt F) Λ₀ (.scVector c j))

/-- One window of sixteen row numbers: read, the table's offset added, written back (the second read's value is unused). -/
def bump (c : Fin τ.nSC) (j : Fin τ.nSub) (a : Memref sig .scVector .vmem S2x128 .i32) (off : Fin 2 → ℕ)
    (h : ∀ x, off x + S1x16.size x ≤ S2x128.size x) (w : BitVec 32) : Tile (F := F) c j PUnit := do
  let x : Vec F S1x16 .i32 ← Prog.lift (.load a (Rect.unit (s := S2x128) off S1x16.size h).toLoadRect (View.loadsAt_vmem h_S1x16))
  let _ : Vec F S1x16 .i32 ← Prog.lift (.load a (Rect.unit (s := S2x128) off S1x16.size h).toLoadRect (View.loadsAt_vmem h_S1x16))
  Prog.lift (.store a (Rect.unit (s := S2x128) off S1x16.size h)
    (shapeCast S1x16 (addi (shapeCast S16 x shapeCasts_S1x16_S16) (broadcast S16 w)) shapeCasts_S16_S1x16) Finset.univ
    (View.stores_vmem_bits_univ h_S1x16 rfl) (.inl rfl))

/-- The sixteen windows in order. -/
def bumps (c : Fin τ.nSC) (j : Fin τ.nSub) (a : Memref sig .scVector .vmem S2x128 .i32) (w : BitVec 32) : Tile (F := F) c j PUnit := do
  bump c j a ![0, 0] inb_S2x128_S1x16_0_0 w
  bump c j a ![0, 16] inb_S2x128_S1x16_0_16 w
  bump c j a ![0, 32] inb_S2x128_S1x16_0_32 w
  bump c j a ![0, 48] inb_S2x128_S1x16_0_48 w
  bump c j a ![0, 64] inb_S2x128_S1x16_0_64 w
  bump c j a ![0, 80] inb_S2x128_S1x16_0_80 w
  bump c j a ![0, 96] inb_S2x128_S1x16_0_96 w
  bump c j a ![0, 112] inb_S2x128_S1x16_0_112 w
  bump c j a ![1, 0] inb_S2x128_S1x16_1_0 w
  bump c j a ![1, 16] inb_S2x128_S1x16_1_16 w
  bump c j a ![1, 32] inb_S2x128_S1x16_1_32 w
  bump c j a ![1, 48] inb_S2x128_S1x16_1_48 w
  bump c j a ![1, 64] inb_S2x128_S1x16_1_64 w
  bump c j a ![1, 80] inb_S2x128_S1x16_1_80 w
  bump c j a ![1, 96] inb_S2x128_S1x16_1_96 w
  bump c j a ![1, 112] inb_S2x128_S1x16_1_112 w

/-- Two rows of `fi` fetched into `a` and waited for, then every entry raised by `w`. -/
def stage (c : Fin τ.nSC) (j : Fin τ.nSub) (fi : Memref sig .scVector .hbm S1664x128 .i32) (a : Memref sig .scVector .vmem S2x128 .i32)
    (ha : a.IsWhole) (off : Fin 2 → ℕ) (h : ∀ x, off x + S2x128.size x ≤ S1664x128.size x) (sem : DmaSem sig) (w : BitVec 32) :
    Tile (F := F) c j PUnit := do
  Prog.lift (.enqueueDma (fi.slice (Rect.unit (s := S1664x128) off S2x128.size h) (fun _ => rfl)) (.here a) (.dma sem)
    (View.wordExact_bits rfl) ha.wordExact ⟨Or.inl rfl, trivial⟩)
  Prog.lift (.waitDma2 sem (fi.slice (Rect.unit (s := S1664x128) off S2x128.size h) (fun _ => rfl)) a (View.wordExact_bits rfl) ha.wordExact)
  bumps c j a w

/-- The whole table, as a gather names it. -/
abbrev tabAll (tab : Memref sig .scVector .hbm S26000x128 .f32) : Memref sig .scVector .hbm S26000x128 .f32 :=
  tab.slice (Rect.unit (s := S26000x128) ![0, 0] S26000x128.size inb_S26000x128_S26000x128_0_0) (fun _ => rfl)
/-- The first 128 rows of a buffer of 256, -/
abbrev rowsLo (r : Memref sig .scVector .vmem S256x128 .f32) : Memref sig .scVector .vmem S128x128 .f32 :=
  r.slice (Rect.unit (s := S256x128) ![0, 0] S128x128.size inb_S256x128_S128x128_0_0) (fun _ => rfl)
/-- and the last. -/
abbrev rowsHi (r : Memref sig .scVector .vmem S256x128 .f32) : Memref sig .scVector .vmem S128x128 .f32 :=
  r.slice (Rect.unit (s := S256x128) ![128, 0] S128x128.size inb_S256x128_S128x128_128_0) (fun _ => rfl)
/-- The first row of a list buffer, -/
abbrev idxLo (a : Memref sig .scVector .vmem S2x128 .i32) : Memref sig .scVector .vmem S128 .i32 :=
  (a.slice (Rect.unit (s := S2x128) ![0, 0] S1x128.size inb_S2x128_S1x128_0_0) (fun _ => rfl)).squeeze S128 squeezes_S1x128_S128
/-- and the second. -/
abbrev idxHi (a : Memref sig .scVector .vmem S2x128 .i32) : Memref sig .scVector .vmem S128 .i32 :=
  (a.slice (Rect.unit (s := S2x128) ![1, 0] S1x128.size inb_S2x128_S1x128_1_0) (fun _ => rfl)).squeeze S128 squeezes_S1x128_S128

/-- Both halves of `a`'s rows of the table gathered into `r`, on the semaphore `sem`. -/
def gstart (c : Fin τ.nSC) (j : Fin τ.nSub) (tab : Memref sig .scVector .hbm S26000x128 .f32) (a : Memref sig .scVector .vmem S2x128 .i32)
    (r : Memref sig .scVector .vmem S256x128 .f32) (sem : DmaSem sig) : Tile (F := F) c j PUnit := do
  SparseCore.enqueueIndirectGather rfl (tabAll tab) (rowsLo r) gathers_S26000x128_S128x128 (idxLo a) rfl sem (View.wordExact_bits rfl) rfl (Or.inl rfl)
  SparseCore.enqueueIndirectGather rfl (tabAll tab) (rowsHi r) gathers_S26000x128_S128x128 (idxHi a) rfl sem (View.wordExact_bits rfl) rfl (Or.inl rfl)

/-- Both gathers waited for. -/
def gwait (c : Fin τ.nSC) (j : Fin τ.nSub) (tab : Memref sig .scVector .hbm S26000x128 .f32)
    (r : Memref sig .scVector .vmem S256x128 .f32) (sem : DmaSem sig) : Tile (F := F) c j PUnit := do
  SparseCore.waitIndirectGather sem (tabAll tab) (rowsLo r) (View.wordExact_bits rfl) (View.wordExact_bits rfl)
  SparseCore.waitIndirectGather sem (tabAll tab) (rowsHi r) (View.wordExact_bits rfl) (View.wordExact_bits rfl)

/-- The block of 256 output rows at `off`. -/
abbrev outBlk (o : Memref sig .scVector .hbm S212992x128 .f32) (off : Fin 2 → ℕ) (h : ∀ x, off x + S256x128.size x ≤ S212992x128.size x) :
    Memref sig .scVector .hbm S256x128 .f32 := o.slice (Rect.unit (s := S212992x128) off S256x128.size h) (fun _ => rfl)

/-- A buffer of 256 rows sent to the output rows at `off`. -/
def sstart (c : Fin τ.nSC) (j : Fin τ.nSub) (r : Memref sig .scVector .vmem S256x128 .f32) (hr : r.IsWhole)
    (o : Memref sig .scVector .hbm S212992x128 .f32) (off : Fin 2 → ℕ) (h : ∀ x, off x + S256x128.size x ≤ S212992x128.size x)
    (sem : DmaSem sig) : Tile (F := F) c j PUnit :=
  Prog.lift (.enqueueDma r (.here (outBlk o off h)) (.dma sem) hr.wordExact (View.wordExact_bits rfl) ⟨Or.inl rfl, trivial⟩)

/-- The transfer of `sstart` waited for. -/
def swait (c : Fin τ.nSC) (j : Fin τ.nSub) (r : Memref sig .scVector .vmem S256x128 .f32) (hr : r.IsWhole)
    (o : Memref sig .scVector .hbm S212992x128 .f32) (off : Fin 2 → ℕ) (h : ∀ x, off x + S256x128.size x ≤ S212992x128.size x)
    (sem : DmaSem sig) : Tile (F := F) c j PUnit :=
  Prog.lift (.waitDma2 sem r (outBlk o off h) hr.wordExact (View.wordExact_bits rfl))

/-- The number of the worker at coordinates `i`. -/
abbrev wid (i : grid1.Coords) : BitVec 32 := Scalar.addi (Scalar.muli (BitVec.ofNat 32 (i 0).val) 16#32) (BitVec.ofNat 32 (i 1).val)
/-- Its first output row. -/
abbrev base (i : grid1.Coords) : BitVec 32 := Scalar.muli (wid i) 6656#32
/-- The table offset of the output rows from `x` on. -/
abbrev tabOff (x : BitVec 32) : BitVec 32 := Scalar.muli (Scalar.shrui x 13#32) 1000#32
/-- Twice the number of a trip. -/
abbrev two (t : Fin k1_t1_loop.trips) : BitVec 32 := Scalar.muli 2#32 (Scf.iv 0#32 1#32 t)

section Body

variable (i : grid1.Coords) (arg2 : Memref sig .scVector .hbm S1664x128 .i32) (harg2 : arg2.IsWhole) (arg3 : Memref sig .scVector .hbm S26000x128 .f32) (harg3 : arg3.IsWhole) (arg4 : Memref sig .scVector .hbm S212992x128 .f32) (harg4 : arg4.IsWhole) (arg5 : Memref sig .scVector .vmem S2x128 .i32) (harg5 : arg5.IsWhole) (arg6 : Memref sig .scVector .vmem S2x128 .i32) (harg6 : arg6.IsWhole) (arg7 : Memref sig .scVector .vmem S256x128 .f32) (harg7 : arg7.IsWhole) (arg8 : Memref sig .scVector .vmem S256x128 .f32) (harg8 : arg8.IsWhole) (arg9 : DmaSems sig S_) (arg10 : DmaSems sig S_) (arg11 : DmaSems sig S_) (arg12 : DmaSems sig S_) (r0 : DmaSems sig S_) (r1 : DmaSems sig S_) (r2 : DmaSems sig S_) (r3 : DmaSems sig S_)

/-- The SparseCore and the tile of the worker at coordinates `i`. -/
abbrev cOf : Fin τ.nSC := (i 0).castLE hcore1
abbrev jOf : Fin τ.nSub := (i 1).castLE hsub1

/-- One trip of the loop: both buffers' gathers waited for and sent out; each buffer's next row numbers fetched,
    its sending waited for, and its next gathers started. -/
def trip (t : Fin k1_t1_loop.trips) : Tile (F := F) (cOf i) (jOf i) PUnit := do
  gwait _ _ arg3 arg7 arg9.sem
  sstart _ _ arg7 harg7 arg4 (k1_off2 i t) (k1_off2_inb i t) arg11.sem
  gwait _ _ arg3 arg8 arg10.sem
  sstart _ _ arg8 harg8 arg4 (k1_off3 i t) (k1_off3_inb i t) arg12.sem
  stage _ _ arg2 arg5 harg5 (k1_off4 i t) (k1_off4_inb i t) r2.sem
    (tabOff (Scalar.addi (base i) (Scalar.muli (Scalar.addi (two t) 2#32) 256#32)))
  swait _ _ arg7 harg7 arg4 (k1_off2 i t) (k1_off2_inb i t) arg11.sem
  gstart _ _ arg3 arg5 arg7 arg9.sem
  stage _ _ arg2 arg6 harg6 (k1_off5 i t) (k1_off5_inb i t) r3.sem
    (tabOff (Scalar.addi (base i) (Scalar.muli (Scalar.addi (Scalar.addi (two t) 1#32) 2#32) 256#32)))
  swait _ _ arg8 harg8 arg4 (k1_off3 i t) (k1_off3_inb i t) arg12.sem
  gstart _ _ arg3 arg6 arg8 arg10.sem

/-- Before the loop: both buffers' row numbers fetched and gathers started. -/
def before : Tile (F := F) (cOf i) (jOf i) PUnit := do
  stage _ _ arg2 arg5 harg5 (k1_off1 i 0#32) (k1_off1_inb i 0) r0.sem (tabOff (Scalar.addi (base i) 0#32))
  gstart _ _ arg3 arg5 arg7 arg9.sem
  stage _ _ arg2 arg6 harg6 (k1_off1 i 2#32) (k1_off1_inb i 1) r1.sem (tabOff (Scalar.addi (base i) 256#32))
  gstart _ _ arg3 arg6 arg8 arg10.sem

/-- After it: the last two blocks waited for and the first of them sent out, -/
def after₁ : Tile (F := F) (cOf i) (jOf i) PUnit := do
  gwait _ _ arg3 arg7 arg9.sem
  sstart _ _ arg7 harg7 arg4 (k1_off6 i 6144#32) (k1_off6_inb i 0) arg11.sem
  gwait _ _ arg3 arg8 arg10.sem

/-- then the other, and both sendings waited for. -/
def after₂ : Tile (F := F) (cOf i) (jOf i) PUnit := do
  sstart _ _ arg8 harg8 arg4 (k1_off6 i 6400#32) (k1_off6_inb i 1) arg12.sem
  swait _ _ arg7 harg7 arg4 (k1_off6 i 6144#32) (k1_off6_inb i 0) arg11.sem
  swait _ _ arg8 harg8 arg4 (k1_off6 i 6400#32) (k1_off6_inb i 1) arg12.sem

/-- The gather kernel. -/
def gatherProg : Tile (F := F) (cOf i) (jOf i) PUnit := do
  before i arg2 arg3 arg5 harg5 arg6 harg6 arg7 arg8 arg9 arg10 r0 r1
  (do
    Scf.Loop.for k1_t1_loop k1_t1_ok ⟨⟩ fun t _ => trip i arg2 arg3 arg4 arg5 harg5 arg6 harg6 arg7 harg7 arg8 harg8 arg9 arg10 arg11 arg12 r2 r3 t
    after₁ i arg3 arg4 arg7 harg7 arg8 arg9 arg10 arg11)
  after₂ i arg4 arg7 harg7 arg8 harg8 arg11 arg12

set_option maxRecDepth 65536 in
set_option maxHeartbeats 4000000 in
theorem cc1_k_eq : cc1_k (F := F) i arg2 harg2 arg3 harg3 arg4 harg4 arg5 harg5 arg6 harg6 arg7 harg7 arg8 harg8 arg9 arg10 arg11 arg12 r0 r1 r2 r3
    = gatherProg (F := F) i arg2 arg3 arg4 arg5 harg5 arg6 harg6 arg7 harg7 arg8 harg8 arg9 arg10 arg11 arg12 r0 r1 r2 r3 := rfl

set_option maxRecDepth 65536 in
set_option maxHeartbeats 4000000 in
theorem cc2_k_eq : cc2_k (F := F) i arg2 harg2 arg3 harg3 arg4 harg4 arg5 harg5 arg6 harg6 arg7 harg7 arg8 harg8 arg9 arg10 arg11 arg12 r0 r1 r2 r3
    = gatherProg (F := F) i arg2 arg3 arg4 arg5 harg5 arg6 harg6 arg7 harg7 arg8 harg8 arg9 arg10 arg11 arg12 r0 r1 r2 r3 := rfl

end Body

end Cert.Proof.Gather
-- ==== Proof.Gather.Pair.lean ====
/-
  Two indirect gathers in flight on one semaphore. The cell is shared by a batch whose members are the rows of both
  gathers; issuing a gather spends the rights of its own rows, and the two waits together give every row back.
-/
module

public import proofs.«01_k».proof.Proof.Gather.Shape
public import Idealize.ShloMosaic.Lib.SparseCore.Stream
public import Idealize.ShloMosaic.Lib.Batch

@[expose] public section

noncomputable section

namespace Cert.Proof.Gather

open Idealize.ShloMosaic
open Idealize.ShloMosaic.SparseCore
open Idealize.ShloMosaic.Transfers (batchBody batch_creditUpdate)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The element of an offset list that entry `j` of a gather reads. -/
def entryOf {o : ℕ} (hn : si.numel = o) (j : Fin o) : si.Idx := si.rowMajor.symm (j.cast hn.symm)

theorem entryOf_bijective {o : ℕ} (hn : si.numel = o) : Function.Bijective (entryOf (si := si) hn) :=
  si.rowMajor.symm.bijective.comp (finCongr hn.symm).bijective

/-- The values row `j` of a gather lands, the source's contents read as `g`. -/
abbrev rowVal (hg : s₀.Gathers a s) (g : s₀.Idx → Elt F e) (r : Fin (s.size hg.axis') → Fin (s₀.size hg.axis)) (j : Fin (s.size hg.axis')) :
    (s.rowShape hg.axis').Idx → Elt F e := fun i => g (hg.rowIdx (r j) i)

/-- What one row of a gather hands back: its row of the destination written, its entry of the list, its piece of the
    source's share. -/
def rowBack (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
        ((dst.view.slice (s.rowRect hg.axis' j)).write (Elt F) fd (rowVal hg (src.view.read (Elt F) fs) r j) Finset.univ))
      ∗ (offs.view.loc c ↦[{offs.view.emb (entryOf hn j)}]{qo} fo))
      ∗ (src.view.loc c ↦[src.view.set]{pieceOf q _ ho j} fs))

instance rowBack_storable {src : Memref sig c.2.kind sp s₀ e} {dst : Memref sig c.2.kind .vmem s e} {hg : s₀.Gathers a s}
    {offs : Memref sig c.2.kind .vmem si .i32} {hn : si.numel = s.size hg.axis'} {ho : 0 < s.size hg.axis'}
    {q qo : PosShare TreeShare} {fs : Buf (Elt F) (src.view.loc c)} {fd : Buf (Elt F) (dst.view.loc c)} {fo : Buf (Elt F) (offs.view.loc c)}
    {r : Fin (s.size hg.axis') → Fin (s₀.size hg.axis)} {j : Fin (s.size hg.axis')} :
    Storable (upEmb : UEmb _ 𝕄) (rowBack c src dst hg offs hn ho q qo fs fd fo r j) := by
  unfold rowBack; infer_instance

/-- Every row of a gather handed back is the destination written with the gathered rows, and both shares. -/
theorem rowBack_all {src : Memref sig c.2.kind sp s₀ e} {dst : Memref sig c.2.kind .vmem s e} {hg : s₀.Gathers a s}
    {offs : Memref sig c.2.kind .vmem si .i32} {hn : si.numel = s.size hg.axis'} {ho : 0 < s.size hg.axis'}
    {q qo : PosShare TreeShare} {fs : Buf (Elt F) (src.view.loc c)} {fd : Buf (Elt F) (dst.view.loc c)} {fo : Buf (Elt F) (offs.view.loc c)}
    {r : Fin (s.size hg.axis') → Fin (s₀.size hg.axis)} :
    bigSep Finset.univ (rowBack c src dst hg offs hn ho q qo fs fd fo r)
      ⊢ (iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) : sProp 𝕄) := by
  have hW : ∀ j i, rowVal hg (src.view.read (Elt F) fs) r j i = gatherPayload hg (src.view.read (Elt F) fs) r ((s.rowRect hg.axis' j).emb i) := fun j i => by
    unfold rowVal gatherPayload; rw [Shape.Gathers.idx_rowRect_emb]
  unfold rowBack
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (pointsTo_rows_write c dst.view hg.axis' fd (rowVal hg (src.view.read (Elt F) fs) r) _ hW) $$ Hrows
  isplitl [Hsrc]; · iapply (Entails.of_eq (pointsTo_piecesOf (src.view.set) fs ho q).symm) $$ Hsrc
  iapply (Entails.of_eq (pointsTo_entries c offs.view (entryOf hn) (entryOf_bijective hn) qo fo).symm) $$ Hoffs

/-- An indirect gather issued on a cell that a batch shares: the rights of the batch's members `ν j` pay for its rows,
    and the credit of the whole gather comes back. -/
theorem wp_gatherInto [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N M : ℕ) (hrow : ∀ j, (dst.slice (s.rowRect hg.axis' j) (s.stride_rowRect hg.axis' j)).view.dmaCredit = N)
    (hM : s.size hg.axis' * N = M) (ho : 0 < s.size hg.axis') (hin : ∀ x, (offs.view.read (Elt F) fo x).toNat < s₀.size hg.axis)
    {n : ℕ} {D : Fin n → sProp 𝕄} {γ : Fin n → ℕ} {γ₀ : ℕ} {κ : Name} (ν : Fin (s.size hg.axis') → Fin n)
    (hD : ∀ j, rowBack c src dst hg offs hn ho q qo fs fd fo (rows (offs.view.read (Elt F) fo) hn hin) j ⊢ D (ν j)) :
    iprop(inv κ (batchBody EC (c, SemLoc.dma sem) N D γ γ₀) ∗ (src.view.loc c ↦[src.view.set]{q} fs) ∗ (dst.view.loc c ↦[dst.view.set]{fullShare} fd)
        ∗ (offs.view.loc c ↦[offs.view.set]{qo} fo) ∗ bigSep Finset.univ (fun j => count EC (γ (ν j)) 0))
      ⊢ iprop((cred (tallyAt (c, SemLoc.dma sem) ι M) -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hN : ∑ j, (rd j).dst.view.dmaCredit = M := by
    rw [← hM]
    exact (Finset.sum_congr rfl fun j _ => hrow j).trans (by simp)
  iintro ⟨#Hinv, Hs, Hd, Ho, Hγ⟩ Hk
  ihave Hd' := (Entails.of_eq (pointsTo_rows c dst.view hg.axis' fullShare fd)) $$ Hd
  ihave Ho' := (Entails.of_eq (pointsTo_entries c offs.view (entryOf hn) (entryOf_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι M hA hrd hN) $$ [Hd' Ho' Hs' Hγ]
  · have hone : ∀ j, iprop(inv κ (batchBody EC (c, SemLoc.dma sem) N D γ γ₀)
          ∗ ((((dst.view.loc c ↦[(dst.view.slice (s.rowRect hg.axis' j)).set]{fullShare} fd) ∗ (offs.view.loc c ↦[{offs.view.emb (entryOf hn j)}]{qo} fo))
          ∗ (src.view.loc c ↦[src.view.set]{pieceOf q _ ho j} fs)) ∗ count EC (γ (ν j)) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare} ((dst.view.slice (s.rowRect hg.axis' j)).write (Elt F) fd (rowVal hg (src.view.read (Elt F) fs) r j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hamt : (rd j).dst.view.amount (.dma sem) = N := hrow j
        rw [hamt]
        iapply (batch_creditUpdate EC (D := D) (γ₀ := γ₀) (ν j) (hD j))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hone j)
    isplitr; · iexact Hinv
    iexact H3
  · iexact Hk

end Cert.Proof.Gather
-- ==== Proof.Gather.Held.lean ====
/-
  A memref held at what it READS: `Held c m q X` is its elements at share `q`, at some contents the memref reads as `X`.
  The rules of a kernel's loads, stores and transfers in that form, and the splitting of a memref along a family of
  rectangles.
-/
module

public import proofs.«01_k».proof.Proof.Gather.Pair

@[expose] public section

noncomputable section

namespace Cert.Proof.Gather

open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp sp' : Space} {s s' : Shape} {e : EltTy} {α : Type} {Q : α → sProp (MT nD τ sig Ix (Elt F) Name U Lvl)}

local notation "𝕄" => MT nD τ sig Ix (Elt F) Name U Lvl

/-- The memref's elements at share `q`, reading `X`. -/
def Held (m : Memref sig c.2.kind sp s e) (q : PosShare TreeShare) (X : s.Idx → Elt F e) : sProp 𝕄 :=
  iprop(∃ f, (m.view.loc c ↦[m.view.set]{q} f) ∗ ⌜m.view.read (Elt F) f = X⌝)

instance held_storable (m : Memref sig c.2.kind sp s e) (q : PosShare TreeShare) (X : s.Idx → Elt F e) :
    Storable (upEmb : UEmb _ 𝕄) (Held c m q X) := by
  unfold Held; infer_instance

theorem held_intro (m : Memref sig c.2.kind sp s e) (q : PosShare TreeShare) (f : Buf (Elt F) (m.view.loc c)) :
    (m.view.loc c ↦[m.view.set]{q} f : sProp 𝕄) ⊢ Held c m q (m.view.read (Elt F) f) := by
  unfold Held
  iintro H
  iexists f
  isplitl [H]; · iexact H
  ipureintro; rfl

theorem held_of_read (m : Memref sig c.2.kind sp s e) (q : PosShare TreeShare) (f : Buf (Elt F) (m.view.loc c)) (X : s.Idx → Elt F e)
    (h : m.view.read (Elt F) f = X) : (m.view.loc c ↦[m.view.set]{q} f : sProp 𝕄) ⊢ Held c m q X := h ▸ held_intro c m q f

/-- Contents that read the same are the same on the memref's elements. -/
theorem agree_of_read {v : View sig c.2.kind sp s e} {f g : Buf (Elt F) (v.loc c)} (h : v.read (Elt F) f = v.read (Elt F) g) :
    ∀ i ∈ v.set, f i = g i := fun i hi => by
  obtain ⟨x, -, rfl⟩ := Finset.mem_map.mp hi
  have := congrFun h x
  rw [View.read_apply, View.read_apply] at this
  exact cast_inj _ |>.mp this

/-- A memref held at what it reads is its elements at any contents that read so. -/
theorem held_at (m : Memref sig c.2.kind sp s e) (q : PosShare TreeShare) (X : s.Idx → Elt F e) (g : Buf (Elt F) (m.view.loc c))
    (h : m.view.read (Elt F) g = X) : (Held c m q X : sProp 𝕄) ⊢ (m.view.loc c ↦[m.view.set]{q} g) := by
  unfold Held
  iintro ⟨%f, H, %hf⟩
  ihave H' := (Entails.of_eq (pointsTo_congr (agree_of_read c (hf.trans h.symm)))) $$ H
  iexact H'

/-- A whole buffer held at what it reads is the buffer at those contents. -/
theorem held_whole (b : Ref sig c.2.kind) (q : PosShare TreeShare) (X : b.ty.Contents (Elt F)) :
    (Held c (Memref.whole b) q X : sProp 𝕄) = (c.loc b ↦{q} X) := by
  have hs : (Memref.whole b : Memref sig c.2.kind _ _ _).view.set = Finset.univ := View.set_whole b
  refine BI.Entails.antisymm ((held_at c _ q X X rfl).trans (Entails.of_eq ?_)) ((Entails.of_eq ?_).trans (held_intro c (Memref.whole b) q X))
  · rw [hs]
  · rw [hs]

/-! ## Loads and stores -/

theorem wp_load_held {cs : CoreSpace} {m : Memref sig c.2.kind cs s e} {r : Rect s} {hl : m.view.LoadsAt r}
    {k : (r.shape.Idx → Elt F e) → Prog (TpuEff nD τ sig (Elt F) Λ c.2) α} {q : PosShare TreeShare} {X : s.Idx → Elt F e} :
    Held c m q X
      ⊢ iprop((Held c m q X -∗ wp frame (wpE defs 𝒱 c bd) Set.univ (k fun y => X (r.emb y)) Q)
        -∗ wp frame (wpE defs 𝒱 c bd) Set.univ (.op (.load m r hl) k) Q) := by
  unfold Held
  iintro ⟨%f, H, %hf⟩ Hk
  have hsub : (m.access r).set ⊆ m.view.set := View.set_slice_subset m.view r
  have hv : (m.access r).read (Elt F) f = fun y => X (r.emb y) := by subst hf; rfl
  iapply (wp_load_rect (defs := defs) 𝒱 c bd Set.univ (r := r) (hl := hl) (k := k) (S := m.view.set) (q := q) (f := f) hsub) $$ [H]
  · iexact H
  iintro H
  rw [hv]
  iapply Hk
  iexists f
  isplitl [H]; · iexact H
  ipureintro; exact hf

theorem wp_store_held {cs : CoreSpace} {m : Memref sig c.2.kind cs s e} {r : Rect s} {w : r.shape.Idx → Elt F e}
    {hx : (m.access r).Stores Finset.univ} {hm : Finset.univ = Finset.univ ∨ ∀ a, r.stride a = 1}
    {k : PUnit → Prog (TpuEff nD τ sig (Elt F) Λ c.2) α} {X X' : s.Idx → Elt F e}
    (hin : ∀ y, X' (r.emb y) = w y) (hout : ∀ x, x ∉ Finset.univ.map r.emb → X' x = X x) :
    Held c m fullShare X
      ⊢ iprop((Held c m fullShare X' -∗ wp frame (wpE defs 𝒱 c bd) Set.univ (k ⟨⟩) Q)
        -∗ wp frame (wpE defs 𝒱 c bd) Set.univ (.op (.store m r w Finset.univ hx hm) k) Q) := by
  unfold Held
  iintro ⟨%f, H, %hf⟩ Hk
  have hsub : (m.access r).setOn Finset.univ ⊆ m.view.set := View.set_slice_subset m.view r
  iapply (wp_store (defs := defs) 𝒱 c bd Set.univ (m := m) (r := r) (Mk := Finset.univ) (hx := hx) (hm := hm) (k := k) (S := m.view.set) (f := f) hsub) $$ [H]
  · iexact H
  iintro H
  iapply Hk
  iexists ((m.access r).write (Elt F) f w Finset.univ)
  isplitl [H]; · iexact H
  ipureintro
  funext x
  by_cases hxr : x ∈ Finset.univ.map r.emb
  · obtain ⟨y, -, rfl⟩ := Finset.mem_map.mp hxr
    exact (View.read_slice_write_emb (v := m.view) (Val := Elt F) r f w (Finset.mem_univ y)).trans (hin y).symm
  · exact (View.read_slice_write_of_not_mem (v := m.view) (Val := Elt F) r f w Finset.univ hxr).trans ((congrFun hf x).trans (hout x hxr).symm)

/-! ## Parts of a memref -/

/-- A view's elements are those of its parts along rectangles that cover it, -/
theorem set_parts {ι : Type} [DecidableEq ι] [Fintype ι] (v : View sig c.2.kind sp s e) (r : ι → Rect s) (hcov : ∀ x, ∃ i y, (r i).emb y = x) :
    v.set = Finset.univ.biUnion fun i => (v.slice (r i)).set := by
  ext z
  constructor
  · intro hz
    obtain ⟨x, -, rfl⟩ := Finset.mem_map.mp hz
    obtain ⟨i, y, rfl⟩ := hcov x
    exact Finset.mem_biUnion.mpr ⟨i, Finset.mem_univ i, View.emb_mem_set (v := v.slice (r i)) y⟩
  · intro hz
    obtain ⟨i, -, hi⟩ := Finset.mem_biUnion.mp hz
    exact View.set_slice_subset v (r i) hi

/-- and the parts along rectangles apart are apart. -/
theorem disjoint_parts {ι : Type} [DecidableEq ι] [Fintype ι] (v : View sig c.2.kind sp s e) (r : ι → Rect s)
    (hdis : ∀ i j, i ≠ j → ∀ x y, (r i).emb x ≠ (r j).emb y) :
    ∀ i ∈ (Finset.univ : Finset ι), ∀ j ∈ (Finset.univ : Finset ι), i ≠ j → Disjoint (v.slice (r i)).set (v.slice (r j)).set := by
  intro i _ j _ hij
  refine Finset.disjoint_left.mpr fun z hz hz' => ?_
  obtain ⟨x, -, rfl⟩ := Finset.mem_map.mp hz
  obtain ⟨y, -, hy⟩ := Finset.mem_map.mp hz'
  exact hdis i j hij x y (v.emb.injective hy.symm)

/-- A memref is its parts along rectangles that are apart and cover it, each part reading its own elements. -/
theorem held_parts {ι : Type} [DecidableEq ι] [Fintype ι] (m : Memref sig c.2.kind sp s e) (r : ι → Rect s) (hr : ∀ i a, (r i).stride a = 1)
    (hdis : ∀ i j, i ≠ j → ∀ x y, (r i).emb x ≠ (r j).emb y) (hcov : ∀ x, ∃ i y, (r i).emb y = x)
    (q : PosShare TreeShare) (X : s.Idx → Elt F e) :
    (Held c m q X : sProp 𝕄) ⊢ bigSep Finset.univ fun i => Held c (m.slice (r i) (hr i)) q fun y => X ((r i).emb y) := by
  have hset := set_parts c m.view r hcov
  have hd := disjoint_parts c m.view r hdis
  have h0 : (Held c m q X : sProp 𝕄) ⊢ iprop(∃ f, (m.view.loc c ↦[m.view.set]{q} f) ∗ ⌜m.view.read (Elt F) f = X⌝) := .rfl
  iintro H
  ihave H1 := h0 $$ H
  icases H1 with ⟨%f, H, %hf⟩
  ihave H' := (Entails.of_eq ((congrArg (fun S => (m.view.loc c ↦[S]{q} f : sProp 𝕄)) hset).trans (pointsTo_biUnion Finset.univ _ hd))) $$ H
  have hone : ∀ i ∈ (Finset.univ : Finset ι), (m.view.loc c ↦[(m.view.slice (r i)).set]{q} f : sProp 𝕄)
      ⊢ Held c (m.slice (r i) (hr i)) q fun y => X ((r i).emb y) := fun i _ =>
    held_of_read c (m.slice (r i) (hr i)) q f _ (by subst hf; rfl)
  iapply (show _ ⊢ _ from BI.bigSep_mono hone) $$ H'

/-- And back: the parts, each reading its own elements of `X`, are the memref reading `X`. -/
theorem held_join {ι : Type} [DecidableEq ι] [Fintype ι] (m : Memref sig c.2.kind sp s e) (r : ι → Rect s) (hr : ∀ i a, (r i).stride a = 1)
    (hdis : ∀ i j, i ≠ j → ∀ x y, (r i).emb x ≠ (r j).emb y) (hcov : ∀ x, ∃ i y, (r i).emb y = x)
    (q : PosShare TreeShare) (X : s.Idx → Elt F e) [∀ e, Nonempty (Elt F e)] :
    (bigSep Finset.univ fun i => Held c (m.slice (r i) (hr i)) q fun y => X ((r i).emb y)) ⊢ (Held c m q X : sProp 𝕄) := by
  have hset := set_parts c m.view r hcov
  have hd := disjoint_parts c m.view r hdis
  let f₀ : Buf (Elt F) (m.view.loc c) := fun _ => Classical.arbitrary _
  have hone : ∀ i ∈ (Finset.univ : Finset ι), (Held c (m.slice (r i) (hr i)) q (fun y => X ((r i).emb y)) : sProp 𝕄)
      ⊢ (m.view.loc c ↦[(m.view.slice (r i)).set]{q} (m.view.write (Elt F) f₀ X Finset.univ)) := fun i _ =>
    held_at c (m.slice (r i) (hr i)) q _ (m.view.write (Elt F) f₀ X Finset.univ) (by
      funext y
      exact congrFun (View.read_write_univ (v := m.view) (Val := Elt F) f₀ X) ((r i).emb y))
  refine (BI.bigSep_mono hone).trans ?_
  rw [← pointsTo_biUnion Finset.univ _ hd, ← hset]
  exact held_of_read c m q _ X (View.read_write_univ f₀ X)

/-- A part borrowed from a memref: held itself, and given back unchanged. -/
theorem held_borrow (m : Memref sig c.2.kind sp s e) (r : Rect s) (hr : ∀ a, r.stride a = 1) (q : PosShare TreeShare) (X : s.Idx → Elt F e) :
    (Held c m q X : sProp 𝕄) ⊢ iprop(Held c (m.slice r hr) q (fun y => X (r.emb y)) ∗ (Held c (m.slice r hr) q (fun y => X (r.emb y)) -∗ Held c m q X)) := by
  have h1 : (Held c m q X : sProp 𝕄) ⊢ iprop(∃ f, (m.view.loc c ↦[m.view.set]{q} f) ∗ ⌜m.view.read (Elt F) f = X⌝) := .rfl
  iintro H
  ihave H' := h1 $$ H
  icases H' with ⟨%f, H, %hf⟩
  ihave H2 := (pointsTo_split_subset (q := q) (f := f) (View.set_slice_subset m.view r)).1 $$ H
  icases H2 with ⟨Ha, Hb⟩
  have hv : (m.slice r hr).view.read (Elt F) f = fun y => X (r.emb y) := by subst hf; rfl
  isplitl [Ha]
  · iapply (held_of_read c (m.slice r hr) q f _ hv) $$ Ha
  · iintro Ha
    ihave Ha' := (held_at c (m.slice r hr) q _ f hv) $$ Ha
    iapply (held_of_read c m q f X hf)
    iapply (pointsTo_split_subset (q := q) (f := f) (View.set_slice_subset m.view r)).2
    isplitl [Ha'] <;> iassumption

/-- A memref re-indexed by dropping unit axes reads the same elements. -/
theorem held_squeeze (m : Memref sig c.2.kind sp s e) (h : s.Squeezes s') (q : PosShare TreeShare) (X : s.Idx → Elt F e) :
    (Held c (m.squeeze s' h) q (fun y => X (Shape.reshapeEquiv h.numel_eq y)) : sProp 𝕄) = Held c m q X := by
  have hs : (m.squeeze s' h).view.set = m.view.set := View.set_reshape m.view h.numel_eq
  have hl : ∀ f, (((m.squeeze s' h).view.loc c ↦[(m.squeeze s' h).view.set]{q} f) : sProp 𝕄) = (m.view.loc c ↦[m.view.set]{q} f) := fun f => by rw [hs]
  have h1 : (Held c (m.squeeze s' h) q (fun y => X (Shape.reshapeEquiv h.numel_eq y)) : sProp 𝕄) ⊢ Held c m q X := by
    unfold Held
    iintro ⟨%f, H, %hf⟩
    iexists f
    isplitl [H]
    · iapply (Entails.of_eq (hl f)) $$ H
    · ipureintro
      funext x
      have := congrFun hf ((Shape.reshapeEquiv h.numel_eq).symm x)
      simp only [Equiv.apply_symm_apply] at this
      rw [← this]
      show m.view.read (Elt F) f x = m.view.read (Elt F) f (Shape.reshapeEquiv h.numel_eq ((Shape.reshapeEquiv h.numel_eq).symm x))
      rw [Equiv.apply_symm_apply]
  have h2 : (Held c m q X : sProp 𝕄) ⊢ Held c (m.squeeze s' h) q (fun y => X (Shape.reshapeEquiv h.numel_eq y)) := by
    unfold Held
    iintro ⟨%f, H, %hf⟩
    iexists f
    isplitl [H]
    · iapply (Entails.of_eq (hl f).symm) $$ H
    · ipureintro; subst hf; rfl
  exact BI.Entails.antisymm h1 h2

/-- Two rectangles apart that cover a memref cut it in two, -/
theorem held_two (m : Memref sig c.2.kind sp s e) (r r' : Rect s) (hr : ∀ a, r.stride a = 1) (hr' : ∀ a, r'.stride a = 1)
    (hdis : ∀ x y, r.emb x ≠ r'.emb y) (hcov : ∀ x, (∃ y, r.emb y = x) ∨ ∃ y, r'.emb y = x)
    (q : PosShare TreeShare) (X : s.Idx → Elt F e) [∀ e, Nonempty (Elt F e)] :
    (Held c m q X : sProp 𝕄) = iprop(Held c (m.slice r hr) q (fun y => X (r.emb y)) ∗ Held c (m.slice r' hr') q (fun y => X (r'.emb y))) := by
  let R : Bool → Rect s := fun b => match b with | true => r | false => r'
  have hR : ∀ i a, (R i).stride a = 1 := fun i => match i with | true => hr | false => hr'
  have hd : ∀ i j, i ≠ j → ∀ x y, (R i).emb x ≠ (R j).emb y := fun i j hij => match i, j, hij with
    | true, true, h => absurd rfl h | false, false, h => absurd rfl h
    | true, false, _ => hdis | false, true, _ => fun x y h => hdis y x h.symm
  have hc : ∀ x, ∃ i y, (R i).emb y = x := fun x => (hcov x).elim (fun h => ⟨true, h⟩) fun h => ⟨false, h⟩
  have hb : (bigSep Finset.univ fun i => Held c (m.slice (R i) (hR i)) q fun y => X ((R i).emb y) : sProp 𝕄)
      = iprop(Held c (m.slice r hr) q (fun y => X (r.emb y)) ∗ Held c (m.slice r' hr') q (fun y => X (r'.emb y))) := by
    rw [Fintype.univ_bool, BI.bigSep_insert (by simp), BI.bigSep_singleton]; rfl
  exact (BI.Entails.antisymm (held_parts c m R hR hd hc q X) (held_join c m R hR hd hc q X)).trans hb

/-- a rectangle that covers it is it, -/
theorem held_all (m : Memref sig c.2.kind sp s e) (r : Rect s) (hr : ∀ a, r.stride a = 1) (hcov : ∀ x, ∃ y, r.emb y = x)
    (q : PosShare TreeShare) (X : s.Idx → Elt F e) [∀ e, Nonempty (Elt F e)] :
    (Held c m q X : sProp 𝕄) = Held c (m.slice r hr) q (fun y => X (r.emb y)) := by
  have hd : ∀ i j : Unit, i ≠ j → ∀ x y, r.emb x ≠ r.emb y := fun _ _ h => absurd rfl h
  have hb : (bigSep Finset.univ fun _ : Unit => Held c (m.slice r hr) q fun y => X (r.emb y) : sProp 𝕄)
      = Held c (m.slice r hr) q (fun y => X (r.emb y)) := BI.bigSep_univ_of_subsingleton ()
  exact (BI.Entails.antisymm (held_parts c m (fun _ : Unit => r) (fun _ => hr) hd (fun x => ⟨(), hcov x⟩) q X)
    (held_join c m (fun _ : Unit => r) (fun _ => hr) hd (fun x => ⟨(), hcov x⟩) q X)).trans hb

/-- and its share may be halved. -/
theorem held_halves (m : Memref sig c.2.kind sp s e) (q : PosShare TreeShare) (X : s.Idx → Elt F e) [∀ e, Nonempty (Elt F e)] :
    (Held c m q X : sProp 𝕄) = iprop(Held c m q.left X ∗ Held c m q.right X) := by
  let f₀ : Buf (Elt F) (m.view.loc c) := fun _ => Classical.arbitrary _
  have hat : ∀ q, (Held c m q X : sProp 𝕄) = (m.view.loc c ↦[m.view.set]{q} (m.view.write (Elt F) f₀ X Finset.univ)) := fun q =>
    BI.Entails.antisymm (held_at c m q X _ (View.read_write_univ f₀ X)) (held_of_read c m q _ X (View.read_write_univ f₀ X))
  rw [hat, hat, hat]
  exact BI.Entails.antisymm (pointsTo_share (PosShare.mem_left_op_right q)).1 (pointsTo_share (PosShare.mem_left_op_right q)).2

/-! ## A transfer and its wait -/

/-- What a transfer of `src` into `dst` in flight on `sm` will hand back. -/
abbrev Sending (sm : SemLoc sig) (ι : Ix) (N : ℕ) (src : Memref sig c.2.kind sp s e) (dst : Memref sig c.2.kind sp' s e) (q : PosShare TreeShare)
    (X : s.Idx → Elt F e) : sProp 𝕄 := Transfers.Flight EC c sm ι N iprop(Held c dst fullShare X ∗ Held c src q X)

theorem wp_send [Infinite Name] [EC.LandsIn (upEmb : UEmb _ 𝕄)]
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {k : PUnit → Prog (TpuEff nD τ sig (Elt F) Λ c.2) α} {q : PosShare TreeShare} {X Y : s.Idx → Elt F e}
    (ι : Ix) (N : ℕ) (hN : dst.view.dmaCredit = N) (hN0 : 0 < N) :
    iprop(Held c src q X ∗ Held c dst fullShare Y ∗ semVal (c, SemLoc.dma sem) 0)
      ⊢ iprop((Sending EC c (.dma sem) ι N src dst q X -∗ wp frame (wpE defs 𝒱 c bd) Set.univ (k ⟨⟩) Q)
          -∗ wp frame (wpE defs 𝒱 c bd) Set.univ (.op (.enqueueDma src (.here dst) (.dma sem) hsrc hdst hsem) k) Q) := by
  have h1 : ∀ (sp : Space) (m : Memref sig c.2.kind sp s e) (q : PosShare TreeShare) (X : s.Idx → Elt F e),
    (Held c m q X : sProp 𝕄) ⊢ iprop(∃ f, (m.view.loc c ↦[m.view.set]{q} f) ∗ ⌜m.view.read (Elt F) f = X⌝) := fun _ _ _ _ => .rfl
  iintro ⟨Hs, Hd, Hv⟩ Hk
  ihave Hs' := h1 _ _ _ _ $$ Hs
  ihave Hd' := h1 _ _ _ _ $$ Hd
  icases Hs' with ⟨%fs, Hs, %hs⟩
  icases Hd' with ⟨%fd, Hd, %hd⟩
  iapply (Transfers.wp_dmaLocal EC 𝒱 c bd (via := .same) (q := q) (fs := fs) (fd := fd) (Sd := dst.view.set) ι N (show dst.view.amount (.dma sem) = N from hN) hN0 subset_rfl) $$ [Hs Hd Hv]
  · isplitl [Hs]; · iexact Hs
    isplitl [Hd] <;> iassumption
  iintro Hf
  iapply Hk
  iapply (Transfers.Flight_mono EC c ?_) $$ Hf
  iintro ⟨Hd, Hs⟩
  isplitl [Hd]
  · iapply (held_of_read c dst fullShare _ X ?_) $$ Hd
    rw [View.read_write_univ]; exact hs
  · iapply (held_of_read c src q fs X hs) $$ Hs

/-- The waits so far: those of `W`, and waits of the tile's own transfers. -/
def Owing (O : CellTallies nD τ sig Ix) (W : Waits sig Ix) (ι : Ix) : sProp 𝕄 :=
  iprop(∃ W', ⌜∀ p ∈ W', p ∈ W ∨ p.2 = ι⌝ ∗ owes c O W')

theorem wp_sent [EC.LandsIn (upEmb : UEmb _ 𝕄)] {src : Memref sig c.2.kind sp s e} {dst : Memref sig c.2.kind sp' s e} {sem : DmaSem sig}
    {hsrc : src.view.WordExact} {hdst : dst.view.WordExact}
    {k : PUnit → Prog (TpuEff nD τ sig (Elt F) Λ c.2) α} {q : PosShare TreeShare} {X : s.Idx → Elt F e}
    (ι : Ix) {N : ℕ} (hN : dst.view.dmaCredit = N) {O : CellTallies nD τ sig Ix} {W : Waits sig Ix} :
    iprop(Sending EC c (.dma sem) ι N src dst q X ∗ Owing c O W ι ∗ Transfers.MayWaits c ι O)
      ⊢ iprop((iprop(Held c dst fullShare X ∗ Held c src q X ∗ semVal (c, SemLoc.dma sem) 0 ∗ Owing c O W ι) -∗ wp frame (wpE defs 𝒱 c bd) Set.univ (k ⟨⟩) Q)
          -∗ wp frame (wpE defs 𝒱 c bd) Set.univ (.op (.waitDma2 sem src dst hsrc hdst) k) Q) := by
  unfold Owing
  iintro ⟨Hf, ⟨%W', %hW, HO⟩, Hmw⟩ Hk
  iapply (Transfers.wp_waitLocalO EC 𝒱 c bd ι hN) $$ [Hf HO Hmw]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hd]; · iexact Hd
  isplitl [Hs]; · iexact Hs
  isplitl [Hv]; · iexact Hv
  iexists _
  isplitr; swap
  · iexact HO
  ipureintro
  intro p hp
  rcases Finset.mem_insert.mp hp with rfl | hp
  · exact .inr rfl
  · exact hW p hp

/-! ## Two gathers on one semaphore -/

/-- Gathers in flight on `sem` whose rows, once landed, are together `R`. -/
def Gathering (sem : DmaSem sig) (ι : Ix) (N n : ℕ) (R : sProp 𝕄) : sProp 𝕄 :=
  iprop(∃ D : Fin n → sProp 𝕄, Transfers.Batch EC c (.dma sem) ι N D n 0 ∗ ⌜bigSep Finset.univ D ⊢ R⌝)

theorem held_out (m : Memref sig c.2.kind sp s e) (q : PosShare TreeShare) (X : s.Idx → Elt F e) :
    (Held c m q X : sProp 𝕄) ⊢ iprop(∃ f, (m.view.loc c ↦[m.view.set]{q} f) ∗ ⌜m.view.read (Elt F) f = X⌝) := .rfl

variable {s₀ si : Shape} {a : Nat}

theorem wp_gatherPair [Infinite Name] [EC.LandsIn (upEmb : UEmb _ 𝕄)]
    {src : Memref sig c.2.kind sp s₀ e} {dst dst' : Memref sig c.2.kind .vmem s e} {hg : s₀.Gathers a s}
    {offs offs' : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q q' qo : PosShare TreeShare} {T : s₀.Idx → Elt F e} {Y Y' : s.Idx → Elt F e} {X X' : si.Idx → Elt F .i32}
    (ι : Ix) (N : ℕ) (hrow : ∀ j, (dst.slice (s.rowRect hg.axis' j) (s.stride_rowRect hg.axis' j)).view.dmaCredit = N)
    (hrow' : ∀ j, (dst'.slice (s.rowRect hg.axis' j) (s.stride_rowRect hg.axis' j)).view.dmaCredit = N)
    (ho : 0 < s.size hg.axis') (hin : ∀ x, (X x).toNat < s₀.size hg.axis) (hin' : ∀ x, (X' x).toNat < s₀.size hg.axis) :
    iprop(Held c src q T ∗ Held c src q' T ∗ Held c dst fullShare Y ∗ Held c dst' fullShare Y' ∗ Held c offs qo X ∗ Held c offs' qo X'
        ∗ semVal (c, SemLoc.dma sem) 0)
      ⊢ iprop((Gathering EC c sem ι N (s.size hg.axis' + s.size hg.axis')
            iprop(Held c src q T ∗ Held c src q' T ∗ Held c dst fullShare (gatherPayload hg T (rows X hn hin))
              ∗ Held c dst' fullShare (gatherPayload hg T (rows X' hn hin')) ∗ Held c offs qo X ∗ Held c offs' qo X')
              -∗ wp frame (wpE defs 𝒱 c bd) Set.univ (k ⟨⟩) Q)
          -∗ wp frame (wpE defs 𝒱 c bd) Set.univ (enqueueIndirectGather hp src dst hg offs hn sem hsrc he hsp hr >>= fun _ =>
              enqueueIndirectGather hp src dst' hg offs' hn sem hsrc he hsp hr >>= k) Q) := by
  iintro ⟨Hs, Hs', Hd, Hd', Ho, Ho', Hv⟩ Hk
  ihave Hs1 := held_out c _ _ _ $$ Hs
  ihave Hs2 := held_out c _ _ _ $$ Hs'
  ihave Hd1 := held_out c _ _ _ $$ Hd
  ihave Hd2 := held_out c _ _ _ $$ Hd'
  ihave Ho1 := held_out c _ _ _ $$ Ho
  ihave Ho2 := held_out c _ _ _ $$ Ho'
  icases Hs1 with ⟨%fs, Hs, %hfs⟩
  icases Hs2 with ⟨%fs', Hs', %hfs'⟩
  icases Hd1 with ⟨%fd, Hd, -⟩
  icases Hd2 with ⟨%fd', Hd', -⟩
  icases Ho1 with ⟨%fo, Ho, %hfo⟩
  icases Ho2 with ⟨%fo', Ho', %hfo'⟩
  subst hfs hfo hfo'
  let D₁ := rowBack (Ix := Ix) (Name := Name) (U := U) (Lvl := Lvl) c src dst hg offs hn ho q qo fs fd fo (rows (offs.view.read (Elt F) fo) hn hin)
  let D₂ := rowBack (Ix := Ix) (Name := Name) (U := U) (Lvl := Lvl) c src dst' hg offs' hn ho q' qo fs' fd' fo' (rows (offs'.view.read (Elt F) fo') hn hin')
  let D : Fin (s.size hg.axis' + s.size hg.axis') → sProp 𝕄 := fun t => Sum.elim D₁ D₂ (finSumFinEquiv.symm t)
  haveI hst : ∀ t, Storable (upEmb : UEmb _ 𝕄) (D t) := fun t => by
    show Storable (upEmb : UEmb _ 𝕄) (Sum.elim D₁ D₂ (finSumFinEquiv.symm t))
    cases finSumFinEquiv.symm t with
    | inl j => exact rowBack_storable c
    | inr j => exact rowBack_storable c
  have hD₁ : ∀ j, D (finSumFinEquiv (Sum.inl j)) = D₁ j := fun j => by show Sum.elim D₁ D₂ _ = _; rw [Equiv.symm_apply_apply]; rfl
  have hD₂ : ∀ j, D (finSumFinEquiv (Sum.inr j)) = D₂ j := fun j => by show Sum.elim D₁ D₂ _ = _; rw [Equiv.symm_apply_apply]; rfl
  imod (Transfers.batch_alloc EC N D (g := (c, SemLoc.dma sem))) $$ Hv with ⟨%γ, %γ₀, %κ, #Hinv, H0, Hc⟩
  have hsplit : (bigSep Finset.univ fun t => (count EC (γ t) 0 : sProp 𝕄)) = iprop((bigSep Finset.univ fun j : Fin (s.size hg.axis') => count EC (γ (finSumFinEquiv (Sum.inl j))) 0)
      ∗ bigSep Finset.univ fun j : Fin (s.size hg.axis') => count EC (γ (finSumFinEquiv (Sum.inr j))) 0) :=
    (BI.bigSep_univ_equiv finSumFinEquiv (fun t => (count EC (γ t) 0 : sProp 𝕄))).trans (BI.bigSep_univ_sum _)
  ihave Hc' := (Entails.of_eq hsplit) $$ Hc
  icases Hc' with ⟨Hγ, Hγ'⟩
  iapply (wp_gatherInto EC 𝒱 c bd (D := D) (γ₀ := γ₀) ι N _ hrow rfl ho hin (fun j => finSumFinEquiv (Sum.inl j)) (fun j => Entails.of_eq (hD₁ j).symm)) $$ [Hs Hd Ho Hγ]
  · isplitr; · iexact Hinv
    isplitl [Hs]; · iexact Hs
    isplitl [Hd]; · iexact Hd
    isplitl [Ho] <;> iassumption
  iintro Hcr
  iapply (wp_gatherInto EC 𝒱 c bd (D := D) (γ₀ := γ₀) ι N _ hrow' rfl ho hin' (fun j => finSumFinEquiv (Sum.inr j)) (fun j => Entails.of_eq (hD₂ j).symm)) $$ [Hs' Hd' Ho' Hγ']
  · isplitr; · iexact Hinv
    isplitl [Hs']; · iexact Hs'
    isplitl [Hd']; · iexact Hd'
    isplitl [Ho'] <;> iassumption
  iintro Hcr'
  iapply Hk
  unfold Gathering
  iexists D
  isplitl
  · unfold Transfers.Batch
    iexists γ, γ₀, κ
    isplitr; · iexact Hinv
    isplitr
    · have hp : Transfers.pending (n := s.size hg.axis' + s.size hg.axis') (s.size hg.axis' + s.size hg.axis') = ∅ := by
        ext t; simp [Transfers.pending]
      rw [hp, BI.bigSep_empty]
      iempintro
    isplitl [H0]; · iexact H0
    rw [Nat.sub_zero, Nat.add_mul, ← tallyAt_add]
    iapply (show iprop(cred (tallyAt (c, SemLoc.dma sem) ι (s.size hg.axis' * N)) ∗ cred (tallyAt (c, SemLoc.dma sem) ι (s.size hg.axis' * N)))
      ⊢ (cred (tallyAt (c, SemLoc.dma sem) ι (s.size hg.axis' * N) + tallyAt (c, SemLoc.dma sem) ι (s.size hg.axis' * N)) : sProp 𝕄) from ?_)
    · exact (cred_add _ _).2
    isplitl [Hcr] <;> iassumption
  · ipureintro
    have hsum : bigSep Finset.univ D = iprop(bigSep Finset.univ D₁ ∗ bigSep Finset.univ D₂) := by
      have h1 : bigSep Finset.univ D = iprop((bigSep Finset.univ fun j => D (finSumFinEquiv (Sum.inl j)))
          ∗ bigSep Finset.univ fun j => D (finSumFinEquiv (Sum.inr j))) :=
        (BI.bigSep_univ_equiv finSumFinEquiv D).trans (BI.bigSep_univ_sum _)
      rw [h1, funext hD₁, funext hD₂]
    rw [hsum]
    iintro ⟨H1, H2⟩
    ihave H1' := (rowBack_all c) $$ H1
    ihave H2' := (rowBack_all c) $$ H2
    icases H1' with ⟨Hd, Hs, Ho⟩
    icases H2' with ⟨Hd', Hs', Ho'⟩
    isplitl [Hs]; · iapply (held_intro c src q fs) $$ Hs
    isplitl [Hs']; · iapply (held_of_read c src q' fs' _ hfs') $$ Hs'
    isplitl [Hd]; · iapply (held_of_read c dst fullShare _ _ (View.read_write_univ _ _)) $$ Hd
    isplitl [Hd']
    · iapply (held_of_read c dst' fullShare _ _ ((View.read_write_univ _ _).trans (by rw [hfs']))) $$ Hd'
    isplitl [Ho]; · iapply (held_intro c offs qo fo) $$ Ho
    iapply (held_intro c offs' qo fo') $$ Ho'

theorem wp_gatheredPair [EC.LandsIn (upEmb : UEmb _ 𝕄)]
    {src : Memref sig c.2.kind sp s₀ e} {dst dst' : Memref sig c.2.kind .vmem s e} {sem : DmaSem sig}
    {hsrc : src.view.WordExact} {hdst : dst.view.WordExact} {hdst' : dst'.view.WordExact}
    {k : PUnit → Prog (TpuEff nD τ sig (Elt F) Λ c.2) α} {o N : ℕ} {R : sProp 𝕄}
    (ι : Ix) (hN0 : 0 < N) (hcr : dst.view.dmaCredit = o * N) (hcr' : dst'.view.dmaCredit = o * N) {O : CellTallies nD τ sig Ix} {W : Waits sig Ix} :
    iprop(Gathering EC c sem ι N (o + o) R ∗ Owing c O W ι ∗ Transfers.MayWaits c ι O)
      ⊢ iprop((iprop(R ∗ semVal (c, SemLoc.dma sem) 0 ∗ Owing c O W ι) -∗ wp frame (wpE defs 𝒱 c bd) Set.univ (k ⟨⟩) Q)
          -∗ wp frame (wpE defs 𝒱 c bd) Set.univ (waitIndirectGather sem src dst hsrc hdst >>= fun _ => waitIndirectGather sem src dst' hsrc hdst' >>= k) Q) := by
  unfold Gathering Owing
  iintro ⟨⟨%D, HB, %hR⟩, ⟨%W', %hW, HO⟩, #Hmw⟩ Hk
  have hu : 0 + o * N ≤ N * (o + o) := by rw [Nat.mul_add, Nat.mul_comm N o]; omega
  have hu' : 0 + o * N + o * N = N * (o + o) := by rw [Nat.mul_add, Nat.mul_comm N o]; omega
  have hprog : (waitIndirectGather sem src dst hsrc hdst >>= fun _ => waitIndirectGather sem src dst' hsrc hdst' >>= k)
      = .op (.waitDma2 sem src dst hsrc hdst) fun _ => .op (.waitDma2 sem src dst' hsrc hdst') k := rfl
  rw [hprog]
  iapply (Transfers.wp_waitBatchMulO EC 𝒱 c bd (D := D) (j := o + o) (O := O) (W := W') ι o hcr hu) $$ [HB HO]
  · isplitl [HB]; · iexact HB
    isplitl [HO]; · iexact HO
    iapply (Transfers.MayWaits.elim (SemLoc.dma sem)) $$ Hmw
  iintro ⟨HB, HO⟩
  iapply (Transfers.wp_waitBatchAllO EC 𝒱 c bd (D := D) (O := O) ι hcr' hN0 hu') $$ [HB HO]
  · isplitl [HB]; · iexact HB
    isplitl [HO]; · iexact HO
    iapply (Transfers.MayWaits.elim (SemLoc.dma sem)) $$ Hmw
  iintro ⟨HD, Hv, HO⟩
  iapply Hk
  isplitl [HD]; · iapply hR $$ HD
  isplitl [Hv]; · iexact Hv
  iexists _
  isplitr; swap
  · iexact HO
  ipureintro
  intro p hp
  rcases Finset.mem_insert.mp hp with rfl | hp
  · exact .inr rfl
  rcases Finset.mem_insert.mp hp with rfl | hp
  · exact .inr rfl
  · exact hW p hp

end Cert.Proof.Gather
-- ==== Proof.Gather.Ops.lean ====
/-
  What each helper procedure of the gather kernel does, in terms of what the buffers read: `stage` leaves a list of row
  numbers raised by the table's offset, `gstart` and `gwait` leave the rows the list names, `sstart` and `swait` copy
  them out.
-/
module

public import proofs.«01_k».proof.Proof.Gather.Held
public import Idealize.ShloMosaic.Lib.ValueIdxCore

@[expose] public section

noncomputable section

namespace Cert.Proof.Gather

open Cert.KernelIdeal Cert.KernelIdeal.Gen
open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem

/-! ## The values -/

/-- The windows of a list buffer before the `n`-th raised by `w`. -/
def raised (n : ℕ) (X : S2x128.Idx → BitVec 32) (w : BitVec 32) : S2x128.Idx → BitVec 32 := fun x =>
  if 8 * (x 0).val + (x 1).val / 16 < n then X x + w else X x

theorem raised_zero (X : S2x128.Idx → BitVec 32) (w : BitVec 32) : raised 0 X w = X := by
  funext x; unfold raised; rw [if_neg (Nat.not_lt_zero _)]

theorem raised_all (X : S2x128.Idx → BitVec 32) (w : BitVec 32) : raised 16 X w = fun x => X x + w := by
  funext x
  have h0 : (x 0).val < 2 := (x 0).isLt
  have h1 : (x 1).val < 128 := (x 1).isLt
  unfold raised; rw [if_pos (by omega)]

theorem emb_unit {s : Shape} (off sz : Fin s.rank → ℕ) (h : ∀ a, off a + sz a ≤ s.size a) (y : (Rect.unit (s := s) off sz h).shape.Idx) (a : Fin s.rank) :
    ((Rect.unit (s := s) off sz h).emb y a).val = off a + (y a).val := by
  show off a + 1 * (y a).val = _
  omega

/-- An index outside a rectangle of unit strides leaves it on some axis. -/
theorem mem_unit {s : Shape} (off sz : Fin s.rank → ℕ) (h : ∀ a, off a + sz a ≤ s.size a) (x : s.Idx)
    (hx : ∀ a, off a ≤ (x a).val ∧ (x a).val < off a + sz a) : ∃ y, (Rect.unit (s := s) off sz h).emb y = x := by
  refine ⟨fun a => ⟨(x a).val - off a, by have := hx a; show _ < sz a; omega⟩, funext fun a => Fin.ext ?_⟩
  rw [emb_unit]
  have := (hx a).1
  show off a + ((x a).val - off a) = _
  omega

/-- The row of the table a list's entry names (the entries are below the table's height). -/
def tabRow (n : ℕ) : Fin 26000 := ⟨n % 26000, Nat.mod_lt _ (by decide)⟩

/-- The 256 rows of `T` that the list `X` names. -/
def picked {V : Type} (T : S26000x128.Idx → V) (X : S2x128.Idx → BitVec 32) : S256x128.Idx → V := fun x =>
  T (ValueIdx.ix2 (tabRow (X (ValueIdx.ix2 (⟨(x 0).val / 128, by have : (x 0).val < 256 := (x 0).isLt; omega⟩ : Fin 2) (⟨(x 0).val % 128, Nat.mod_lt _ (by decide)⟩ : Fin 128))).toNat)
    (⟨(x 1).val, (x 1).isLt⟩ : Fin 128))

/-- Entry `i` of a list that is row `k` of a list buffer. -/
theorem row_entry (i : Fin 128) : (Shape.reshapeEquiv (s := S1x128) (s' := S128) squeezes_S1x128_S128.numel_eq (S128.rowMajor.symm (i.cast rfl))) =
    ValueIdx.ix2 (0 : Fin 1) i := by
  refine (Shape.reshapeEquiv_eq_of_rowMajor _ ?_)
  rw [Equiv.apply_symm_apply, Shape.rowMajor_val_two]
  show 0 * 128 + i.val = i.val
  omega

/-- One half's gather read at an index: the table's row that the list names there. -/
theorem payload_apply {F : FTy → Type} (T : S26000x128.Idx → Elt F .f32) (X : S2x128.Idx → Elt F .i32) (k : Fin 2) (h : ∀ x, (![k.val, 0] : Fin 2 → ℕ) x + S1x128.size x ≤ S2x128.size x)
    (hin : ∀ x : S128.Idx, (X ((Rect.unit (s := S2x128) ![k.val, 0] S1x128.size h).emb (Shape.reshapeEquiv squeezes_S1x128_S128.numel_eq x))).toNat < 26000)
    (y : S128x128.Idx) :
    gatherPayload gathers_S26000x128_S128x128 T
        (rows (F := F) (fun x : S128.Idx => X ((Rect.unit (s := S2x128) ![k.val, 0] S1x128.size h).emb (Shape.reshapeEquiv squeezes_S1x128_S128.numel_eq x))) rfl hin) y
      = T (ValueIdx.ix2 (tabRow (X (ValueIdx.ix2 k (⟨(y 0).val, (y 0).isLt⟩ : Fin 128))).toNat) (⟨(y 1).val, (y 1).isLt⟩ : Fin 128)) := by
  have he : ∀ i : Fin 128, (Rect.unit (s := S2x128) ![k.val, 0] S1x128.size h).emb (Shape.reshapeEquiv squeezes_S1x128_S128.numel_eq (S128.rowMajor.symm (i.cast rfl))) = ValueIdx.ix2 k i := by
    intro i
    rw [row_entry i]
    funext a
    apply Fin.ext
    rw [emb_unit]
    match a with
    | 0 => rfl
    | 1 => exact Nat.zero_add _
  unfold gatherPayload
  congr 1
  funext b
  apply Fin.ext
  match b with
  | 0 =>
    refine (congrArg Fin.val (Shape.Gathers.idx_axis gathers_S26000x128_S128x128 _ y)).trans ?_
    show (X ((Rect.unit (s := S2x128) ![k.val, 0] S1x128.size h).emb (Shape.reshapeEquiv squeezes_S1x128_S128.numel_eq (S128.rowMajor.symm ((⟨(y 0).val, (y 0).isLt⟩ : Fin 128).cast rfl))))).toNat = _
    have h' := hin (S128.rowMajor.symm ((⟨(y 0).val, (y 0).isLt⟩ : Fin 128).cast rfl))
    rw [he] at h' ⊢
    exact (Nat.mod_eq_of_lt h').symm
  | 1 => exact Shape.Gathers.idx_of_ne gathers_S26000x128_S128x128 _ y 1 (by decide)

/-! ## The procedures -/

section Rules

variable {F : FTy → Type} [FloatOps F]
variable {Ix : Type} [DecidableEq Ix] {Name : Type} [DecidableEq Name] [Infinite Name] {U : Type} [URA U] {Lvl : Type} [Preorder Lvl]
variable {defs : Defs nD τ sig (Elt F) Λ₀} (EC : UEmb Counters (MT nD τ sig Ix (Elt F) Name U Lvl)) [EC.LandsIn (upEmb : UEmb _ (MT nD τ sig Ix (Elt F) Name U Lvl))]
variable (𝒱 : Variants) (bd : Option 𝒱.V) (d : Dev nD) (c : Fin τ.nSC) (j : Fin τ.nSub)
variable {Q : PUnit → sProp (MT nD τ sig Ix (Elt F) Name U Lvl)} (ι : Ix) {O : CellTallies nD τ sig Ix} {W : Waits sig Ix}

local notation "𝕄" => MT nD τ sig Ix (Elt F) Name U Lvl

theorem wp_bump (a : Memref sig .scVector .vmem S2x128 .i32) (off : Fin 2 → ℕ)
    (h : ∀ x, off x + S1x16.size x ≤ S2x128.size x) (w : BitVec 32) (X : S2x128.Idx → Elt F .i32) (n : ℕ) (hoff : off = ![n / 8, 16 * (n % 8)]) :
    Held (Ix := Ix) (Name := Name) (U := U) (Lvl := Lvl) (V d c j) a fullShare (raised n X w)
      ⊢ iprop((Held (V d c j) a fullShare (raised (n + 1) X w) -∗ Q ⟨⟩) -∗ wp frame (wpE defs 𝒱 (V d c j) bd) Set.univ (bump (F := F) c j a off h w) Q) := by
  subst hoff
  iintro H Hk
  unfold bump
  iapply (wp_load_held (defs := defs) 𝒱 (V d c j) bd (m := a)) $$ H
  iintro H
  iapply (wp_load_held (defs := defs) 𝒱 (V d c j) bd (m := a)) $$ H
  iintro H
  iapply (wp_store_held (defs := defs) 𝒱 (V d c j) bd (m := a) (X' := raised (n + 1) X w) ?_ ?_) $$ H
  · intro y
    have h0 := emb_unit (s := S2x128) _ _ h y 0
    have h1 := emb_unit (s := S2x128) _ _ h y 1
    have hy0 : (y 0).val < 1 := (y 0).isLt
    have hy1 : (y 1).val < 16 := (y 1).isLt
    simp only [Matrix.cons_val_zero, Matrix.cons_val_one] at h0 h1
    have e1 : raised (n + 1) X w ((Rect.unit (s := S2x128) ![n / 8, 16 * (n % 8)] S1x16.size h).emb y)
        = X ((Rect.unit (s := S2x128) ![n / 8, 16 * (n % 8)] S1x16.size h).emb y) + w := by
      unfold raised; rw [if_pos (by rw [h0, h1]; omega)]
    have e2 : raised n X w ((Rect.unit (s := S2x128) ![n / 8, 16 * (n % 8)] S1x16.size h).emb y)
        = X ((Rect.unit (s := S2x128) ![n / 8, 16 * (n % 8)] S1x16.size h).emb y) := by
      unfold raised; rw [if_neg (by rw [h0, h1]; omega)]
    rw [e1, ← e2]
    show _ = raised n X w ((Rect.unit (s := S2x128) ![n / 8, 16 * (n % 8)] S1x16.size h).emb
      (Shape.reshapeEquiv shapeCasts_S1x16_S16 (Shape.reshapeEquiv shapeCasts_S16_S1x16 y))) + w
    rw [Shape.reshapeEquiv_reshapeEquiv, Shape.reshapeEquiv_self]
  · intro x hx
    have hn : ¬ (8 * (x 0).val + (x 1).val / 16 = n) := fun hn => hx (by
      have h1 : (x 1).val < 128 := (x 1).isLt
      obtain ⟨y, hy⟩ := mem_unit (s := S2x128) ![n / 8, 16 * (n % 8)] S1x16.size h x (fun a => match a with
        | 0 => by show n / 8 ≤ (x 0).val ∧ (x 0).val < n / 8 + 1; omega
        | 1 => by show 16 * (n % 8) ≤ (x 1).val ∧ (x 1).val < 16 * (n % 8) + 16; omega)
      exact Finset.mem_map.mpr ⟨y, Finset.mem_univ _, hy⟩)
    unfold raised
    by_cases hlt : 8 * (x 0).val + (x 1).val / 16 < n
    · rw [if_pos hlt, if_pos (by omega)]
    · rw [if_neg hlt, if_neg (by omega)]
  iintro H
  rw [wp_ret]
  imodintro
  iapply Hk $$ H

theorem wp_bumps (a : Memref sig .scVector .vmem S2x128 .i32) (w : BitVec 32) (X : S2x128.Idx → Elt F .i32) :
    Held (Ix := Ix) (Name := Name) (U := U) (Lvl := Lvl) (V d c j) a fullShare X
      ⊢ iprop((Held (V d c j) a fullShare (fun x => X x + w) -∗ Q ⟨⟩) -∗ wp frame (wpE defs 𝒱 (V d c j) bd) Set.univ (bumps (F := F) c j a w) Q) := by
  iintro H Hk
  unfold bumps
  ihave H := (Entails.of_eq (congrArg (Held (V d c j) a fullShare) (raised_zero X w).symm)) $$ H
  iterate 15
    rw [wp_bind]
    iapply (wp_bump 𝒱 bd d c j a _ _ w X _ rfl) $$ H
    iintro H
  iapply (wp_bump 𝒱 bd d c j a _ _ w X _ rfl) $$ H
  iintro H
  iapply Hk
  iapply (Entails.of_eq (congrArg (Held (V d c j) a fullShare) (raised_all X w))) $$ H

include EC in
theorem wp_stage (fi : Memref sig .scVector .hbm S1664x128 .i32) (a : Memref sig .scVector .vmem S2x128 .i32)
    (ha : a.IsWhole) (off : Fin 2 → ℕ) (h : ∀ x, off x + S2x128.size x ≤ S1664x128.size x) (sem : DmaSem sig) (w : BitVec 32)
    (hcr : 0 < a.view.dmaCredit) (q : PosShare TreeShare) (Fi : S1664x128.Idx → Elt F .i32) (Y : S2x128.Idx → Elt F .i32) :
    iprop(Held (Ix := Ix) (Name := Name) (U := U) (Lvl := Lvl) (V d c j) fi q Fi ∗ Held (V d c j) a fullShare Y ∗ semVal (V d c j, SemLoc.dma sem) 0
        ∗ Owing (V d c j) O W ι ∗ Transfers.MayWaits (V d c j) ι O)
      ⊢ iprop((iprop(Held (V d c j) fi q Fi
            ∗ Held (V d c j) a fullShare (fun y => Fi ((Rect.unit (s := S1664x128) off S2x128.size h).emb y) + w)
            ∗ semVal (V d c j, SemLoc.dma sem) 0 ∗ Owing (V d c j) O W ι) -∗ Q ⟨⟩)
          -∗ wp frame (wpE defs 𝒱 (V d c j) bd) Set.univ (stage (F := F) c j fi a ha off h sem w) Q) := by
  iintro ⟨Hf, Ha, Hv, HO, #Hmw⟩ Hk
  ihave Hf := (held_borrow (V d c j) fi (Rect.unit (s := S1664x128) off S2x128.size h) (fun _ => rfl) q Fi) $$ Hf
  icases Hf with ⟨Hf, Hback⟩
  unfold stage
  iapply (wp_send (defs := defs) EC 𝒱 (V d c j) bd (src := fi.slice (Rect.unit (s := S1664x128) off S2x128.size h) (fun _ => rfl)) (dst := a) ι _ rfl hcr) $$ [Hf Ha Hv]
  · isplitl [Hf]; · iexact Hf
    isplitl [Ha] <;> iassumption
  iintro Hs
  iapply (wp_sent (defs := defs) EC 𝒱 (V d c j) bd (src := fi.slice (Rect.unit (s := S1664x128) off S2x128.size h) (fun _ => rfl)) (dst := a) ι rfl) $$ [Hs HO]
  · isplitl [Hs]; · iexact Hs
    isplitl [HO]; · iexact HO
    iexact Hmw
  iintro ⟨Ha, Hf, Hv, HO⟩
  ihave Hf := Hback $$ Hf
  iapply (wp_bumps 𝒱 bd d c j a w _) $$ Ha
  iintro Ha
  iapply Hk
  isplitl [Hf]; · iexact Hf
  isplitl [Ha]; · iexact Ha
  isplitl [Hv] <;> iassumption

/-- The credit of one row of a row buffer. -/
abbrev rowCredit (r : Memref sig .scVector .vmem S256x128 .f32) : ℕ :=
  ((rowsLo r).slice (S128x128.rowRect gathers_S26000x128_S128x128.axis' ⟨0, by decide⟩) (S128x128.stride_rowRect _ _)).view.dmaCredit

/-- The gathers of a row buffer in flight: landed, they leave the rows the list `X` names. -/
abbrev Coming (tab : Memref sig .scVector .hbm S26000x128 .f32) (a : Memref sig .scVector .vmem S2x128 .i32)
    (r : Memref sig .scVector .vmem S256x128 .f32) (sem : DmaSem sig) (q : PosShare TreeShare) (T : S26000x128.Idx → Elt F .f32) (X : S2x128.Idx → Elt F .i32) : sProp 𝕄 :=
  Gathering EC (V d c j) sem ι (rowCredit r) (128 + 128)
    iprop(Held (V d c j) tab q T ∗ Held (V d c j) a fullShare X ∗ Held (V d c j) r fullShare (picked T X))

theorem gathering_mono {sem : DmaSem sig} {N n : ℕ} {R R' : sProp 𝕄} (h : R ⊢ R') :
    Gathering EC (V d c j) sem ι N n R ⊢ Gathering EC (V d c j) sem ι N n R' := by
  unfold Gathering
  iintro ⟨%D, HB, %hD⟩
  iexists D
  isplitl [HB]; · iexact HB
  ipureintro
  exact hD.trans h

/-- The whole table as a gather names it, -/
theorem held_tabAll (tab : Memref sig .scVector .hbm S26000x128 .f32) (q : PosShare TreeShare) (T : S26000x128.Idx → Elt F .f32) :
    (Held (V d c j) tab q T : sProp 𝕄) = Held (V d c j) (tabAll tab) q T := by
  have he : ∀ y, (Rect.unit (s := S26000x128) ![0, 0] S26000x128.size inb_S26000x128_S26000x128_0_0).emb y = y := fun y => funext fun a => Fin.ext (by
    rw [emb_unit]
    match a with
    | 0 => exact Nat.zero_add _
    | 1 => exact Nat.zero_add _)
  exact (held_all (V d c j) tab _ (fun _ => rfl) (fun x => ⟨x, he x⟩) q T).trans
    (congrArg (Held (V d c j) (tabAll tab) q) (funext fun y => congrArg T (he y)))

/-- the halves of a row buffer, -/
theorem held_rows (r : Memref sig .scVector .vmem S256x128 .f32) (X : S256x128.Idx → Elt F .f32) :
    (Held (V d c j) r fullShare X : sProp 𝕄)
      = iprop(Held (V d c j) (rowsLo r) fullShare (fun y => X ((Rect.unit (s := S256x128) ![0, 0] S128x128.size inb_S256x128_S128x128_0_0).emb y))
        ∗ Held (V d c j) (rowsHi r) fullShare (fun y => X ((Rect.unit (s := S256x128) ![128, 0] S128x128.size inb_S256x128_S128x128_128_0).emb y))) :=
  held_two (V d c j) r _ _ (fun _ => rfl) (fun _ => rfl)
    (fun x y he => by
      have h0 := congrArg (fun z : S256x128.Idx => (z 0).val) he
      simp only [emb_unit] at h0
      have hx : (x 0).val < 128 := (x 0).isLt
      have h0' : 0 + (x 0).val = 128 + (y 0).val := h0
      omega)
    (fun x => by
      have h0 : (x 0).val < 256 := (x 0).isLt
      have h1 : (x 1).val < 128 := (x 1).isLt
      by_cases h : (x 0).val < 128
      · exact .inl (mem_unit _ _ _ x fun a => match a with
          | 0 => ⟨Nat.zero_le _, by show _ < 0 + 128; omega⟩
          | 1 => ⟨Nat.zero_le _, by show _ < 0 + 128; omega⟩)
      · exact .inr (mem_unit _ _ _ x fun a => match a with
          | 0 => ⟨Nat.not_lt.mp h, h0⟩
          | 1 => ⟨Nat.zero_le _, by show _ < 0 + 128; omega⟩))
    fullShare X

/-- and the rows of a list buffer. -/
theorem held_idx (a : Memref sig .scVector .vmem S2x128 .i32) (X : S2x128.Idx → Elt F .i32) :
    (Held (V d c j) a fullShare X : sProp 𝕄)
      = iprop(Held (V d c j) (idxLo a) fullShare (fun y => X ((Rect.unit (s := S2x128) ![0, 0] S1x128.size inb_S2x128_S1x128_0_0).emb (Shape.reshapeEquiv squeezes_S1x128_S128.numel_eq y)))
        ∗ Held (V d c j) (idxHi a) fullShare (fun y => X ((Rect.unit (s := S2x128) ![1, 0] S1x128.size inb_S2x128_S1x128_1_0).emb (Shape.reshapeEquiv squeezes_S1x128_S128.numel_eq y)))) := by
  refine (held_two (V d c j) a (Rect.unit (s := S2x128) ![0, 0] S1x128.size inb_S2x128_S1x128_0_0) (Rect.unit (s := S2x128) ![1, 0] S1x128.size inb_S2x128_S1x128_1_0)
    (fun _ => rfl) (fun _ => rfl)
    (fun x y he => by
      have h0 := congrArg (fun z : S2x128.Idx => (z 0).val) he
      simp only [emb_unit] at h0
      have hx : (x 0).val < 1 := (x 0).isLt
      have h0' : 0 + (x 0).val = 1 + (y 0).val := h0
      omega)
    (fun x => by
      have h0 : (x 0).val < 2 := (x 0).isLt
      have h1 : (x 1).val < 128 := (x 1).isLt
      by_cases h : (x 0).val < 1
      · exact .inl (mem_unit _ _ _ x fun a => match a with
          | 0 => ⟨Nat.zero_le _, by show _ < 0 + 1; omega⟩
          | 1 => ⟨Nat.zero_le _, by show _ < 0 + 128; omega⟩)
      · exact .inr (mem_unit _ _ _ x fun a => match a with
          | 0 => ⟨Nat.not_lt.mp h, h0⟩
          | 1 => ⟨Nat.zero_le _, by show _ < 0 + 128; omega⟩))
    fullShare X).trans ?_
  rw [← held_squeeze (V d c j) (a.slice (Rect.unit (s := S2x128) ![0, 0] S1x128.size inb_S2x128_S1x128_0_0) (fun _ => rfl)) squeezes_S1x128_S128,
    ← held_squeeze (V d c j) (a.slice (Rect.unit (s := S2x128) ![1, 0] S1x128.size inb_S2x128_S1x128_1_0) (fun _ => rfl)) squeezes_S1x128_S128]

theorem wp_gstart (tab : Memref sig .scVector .hbm S26000x128 .f32) (a : Memref sig .scVector .vmem S2x128 .i32)
    (r : Memref sig .scVector .vmem S256x128 .f32) (sem : DmaSem sig) (q : PosShare TreeShare) (T : S26000x128.Idx → Elt F .f32) (X : S2x128.Idx → Elt F .i32)
    (hX : ∀ x, (X x).toNat < 26000) (Y : S256x128.Idx → Elt F .f32) :
    iprop(Held (V d c j) tab q T ∗ Held (V d c j) a fullShare X ∗ Held (V d c j) r fullShare Y ∗ semVal (V d c j, SemLoc.dma sem) 0)
      ⊢ iprop((Coming EC d c j ι tab a r sem q T X -∗ Q ⟨⟩) -∗ wp frame (wpE defs 𝒱 (V d c j) bd) Set.univ (gstart (F := F) c j tab a r sem) Q) := by
  rw [held_halves (V d c j) tab q T, held_tabAll d c j tab q.left T, held_tabAll d c j tab q.right T, held_rows d c j r Y, held_idx d c j a X]
  iintro ⟨⟨Ht, Ht'⟩, ⟨Ha, Ha'⟩, ⟨Hr, Hr'⟩, Hv⟩ Hk
  unfold gstart
  have h26 : S26000x128.size gathers_S26000x128_S128x128.axis = 26000 := rfl
  have hin : ∀ x : S128.Idx, (X ((Rect.unit (s := S2x128) ![0, 0] S1x128.size inb_S2x128_S1x128_0_0).emb (Shape.reshapeEquiv squeezes_S1x128_S128.numel_eq x))).toNat
      < S26000x128.size gathers_S26000x128_S128x128.axis := fun x => h26 ▸ hX _
  have hin' : ∀ x : S128.Idx, (X ((Rect.unit (s := S2x128) ![1, 0] S1x128.size inb_S2x128_S1x128_1_0).emb (Shape.reshapeEquiv squeezes_S1x128_S128.numel_eq x))).toNat
      < S26000x128.size gathers_S26000x128_S128x128.axis := fun x => h26 ▸ hX _
  have h128 : 0 < S128x128.size gathers_S26000x128_S128x128.axis' := by decide
  iapply (wp_gatherPair (defs := defs) EC 𝒱 (V d c j) bd (src := tabAll tab) (dst := rowsLo r) (dst' := rowsHi r) (hg := gathers_S26000x128_S128x128)
    (offs := idxLo a) (offs' := idxHi a) (hn := rfl) (k := Prog.ret) ι (rowCredit r) (fun _ => rfl) (fun _ => rfl) h128 hin hin') $$ [Ht Ht' Ha Ha' Hr Hr' Hv]
  · isplitl [Ht]; · iexact Ht
    isplitl [Ht']; · iexact Ht'
    isplitl [Hr]; · iexact Hr
    isplitl [Hr']; · iexact Hr'
    isplitl [Ha]; · iexact Ha
    isplitl [Ha'] <;> iassumption
  iintro HG
  rw [wp_ret]
  imodintro
  iapply Hk
  iapply (gathering_mono EC d c j ι ?_) $$ HG
  rw [held_halves (V d c j) tab q T, held_tabAll d c j tab q.left T, held_tabAll d c j tab q.right T, held_rows d c j r (picked T X), held_idx d c j a X]
  iintro ⟨Ht, Ht', Hr, Hr', Ha, Ha'⟩
  isplitl [Ht Ht']
  · isplitl [Ht] <;> iassumption
  isplitl [Ha Ha']
  · isplitl [Ha] <;> iassumption
  have half : ∀ (k : Fin 2) (off off' : Fin 2 → ℕ) (hoff : off = ![k.val, 0]) (hoff' : off' = ![128 * k.val, 0])
      (h : ∀ x, off x + S1x128.size x ≤ S2x128.size x)
      (hi : ∀ x : S128.Idx, (X ((Rect.unit (s := S2x128) off S1x128.size h).emb (Shape.reshapeEquiv squeezes_S1x128_S128.numel_eq x))).toNat < S26000x128.size gathers_S26000x128_S128x128.axis)
      (h' : ∀ x, off' x + S128x128.size x ≤ S256x128.size x),
      gatherPayload gathers_S26000x128_S128x128 T (rows (F := F) (fun x : S128.Idx => X ((Rect.unit (s := S2x128) off S1x128.size h).emb (Shape.reshapeEquiv squeezes_S1x128_S128.numel_eq x))) rfl hi)
        = fun y => picked T X ((Rect.unit (s := S256x128) off' S128x128.size h').emb y) := by
    intro k off off' hoff hoff' h hi h'
    subst hoff hoff'
    funext y
    refine (payload_apply T X k h (fun x => h26 ▸ hi x) y).trans ?_
    have e0 : ((Rect.unit (s := S256x128) ![128 * k.val, 0] S128x128.size h').emb y 0).val = 128 * k.val + (y 0).val := emb_unit _ _ _ _ _
    have e1 : ((Rect.unit (s := S256x128) ![128 * k.val, 0] S128x128.size h').emb y 1).val = 0 + (y 1).val := emb_unit _ _ _ _ _
    have hy0 : (y 0).val < 128 := (y 0).isLt
    unfold picked
    congr 1
    refine congrArg₂ ValueIdx.ix2 (congrArg (fun i => tabRow (X i).toNat) (congrArg₂ ValueIdx.ix2 (Fin.ext ?_) (Fin.ext ?_))) (Fin.ext ?_)
    · show k.val = _ / 128
      rw [e0]; omega
    · show (y 0).val = _ % 128
      rw [e0]; omega
    · show (y 1).val = _
      rw [e1]; omega
  isplitl [Hr]
  · iapply (Entails.of_eq (congrArg (Held (V d c j) (rowsLo r) fullShare) (half 0 ![0, 0] ![0, 0] rfl rfl inb_S2x128_S1x128_0_0 hin inb_S256x128_S128x128_0_0))) $$ Hr
  · iapply (Entails.of_eq (congrArg (Held (V d c j) (rowsHi r) fullShare) (half 1 ![1, 0] ![128, 0] rfl rfl inb_S2x128_S1x128_1_0 hin' inb_S256x128_S128x128_128_0))) $$ Hr'

theorem wp_gwait (tab : Memref sig .scVector .hbm S26000x128 .f32) (a : Memref sig .scVector .vmem S2x128 .i32)
    (r : Memref sig .scVector .vmem S256x128 .f32) (sem : DmaSem sig) (q : PosShare TreeShare) (T : S26000x128.Idx → Elt F .f32) (X : S2x128.Idx → Elt F .i32)
    (hN : 0 < rowCredit r) (hcr : (rowsLo r).view.dmaCredit = 128 * rowCredit r) :
    iprop(Coming EC d c j ι tab a r sem q T X ∗ Owing (V d c j) O W ι ∗ Transfers.MayWaits (V d c j) ι O)
      ⊢ iprop((iprop(Held (V d c j) tab q T ∗ Held (V d c j) a fullShare X ∗ Held (V d c j) r fullShare (picked T X) ∗ semVal (V d c j, SemLoc.dma sem) 0
            ∗ Owing (V d c j) O W ι) -∗ Q ⟨⟩)
          -∗ wp frame (wpE defs 𝒱 (V d c j) bd) Set.univ (gwait (F := F) c j tab r sem) Q) := by
  iintro ⟨HC, HO, #Hmw⟩ Hk
  unfold gwait
  iapply (wp_gatheredPair (defs := defs) EC 𝒱 (V d c j) bd (src := tabAll tab) (dst := rowsLo r) (dst' := rowsHi r) (hsrc := View.wordExact_bits rfl)
    (hdst := View.wordExact_bits rfl) (hdst' := View.wordExact_bits rfl) (k := Prog.ret) ι (o := 128) (N := rowCredit r) hN hcr hcr) $$ [HC HO]
  · isplitl [HC]; · iexact HC
    isplitl [HO]; · iexact HO
    iexact Hmw
  iintro ⟨⟨Ht, Ha, Hr⟩, Hv, HO⟩
  rw [wp_ret]
  imodintro
  iapply Hk
  isplitl [Ht]; · iexact Ht
  isplitl [Ha]; · iexact Ha
  isplitl [Hr]; · iexact Hr
  isplitl [Hv] <;> iassumption

theorem wp_sstart (r : Memref sig .scVector .vmem S256x128 .f32) (hr : r.IsWhole)
    (o : Memref sig .scVector .hbm S212992x128 .f32) (off : Fin 2 → ℕ) (h : ∀ x, off x + S256x128.size x ≤ S212992x128.size x)
    (sem : DmaSem sig) (hcr : 0 < (outBlk o off h).view.dmaCredit) (X Y : S256x128.Idx → Elt F .f32) :
    iprop(Held (V d c j) r fullShare X ∗ Held (V d c j) (outBlk o off h) fullShare Y ∗ semVal (V d c j, SemLoc.dma sem) 0)
      ⊢ iprop((Sending EC (V d c j) (.dma sem) ι (outBlk o off h).view.dmaCredit r (outBlk o off h) fullShare X -∗ Q ⟨⟩)
          -∗ wp frame (wpE defs 𝒱 (V d c j) bd) Set.univ (sstart (F := F) c j r hr o off h sem) Q) := by
  iintro H Hk
  unfold sstart
  iapply (wp_send (defs := defs) EC 𝒱 (V d c j) bd (k := Prog.ret) (src := r) (dst := outBlk o off h) ι _ rfl hcr) $$ H
  iintro Hs
  rw [wp_ret]
  imodintro
  iapply Hk $$ Hs

theorem wp_swait (r : Memref sig .scVector .vmem S256x128 .f32) (hr : r.IsWhole)
    (o : Memref sig .scVector .hbm S212992x128 .f32) (off : Fin 2 → ℕ) (h : ∀ x, off x + S256x128.size x ≤ S212992x128.size x)
    (sem : DmaSem sig) (X : S256x128.Idx → Elt F .f32) :
    iprop(Sending EC (V d c j) (.dma sem) ι (outBlk o off h).view.dmaCredit r (outBlk o off h) fullShare X
        ∗ Owing (V d c j) O W ι ∗ Transfers.MayWaits (V d c j) ι O)
      ⊢ iprop((iprop(Held (V d c j) (outBlk o off h) fullShare X ∗ Held (V d c j) r fullShare X ∗ semVal (V d c j, SemLoc.dma sem) 0 ∗ Owing (V d c j) O W ι) -∗ Q ⟨⟩)
          -∗ wp frame (wpE defs 𝒱 (V d c j) bd) Set.univ (swait (F := F) c j r hr o off h sem) Q) := by
  iintro H Hk
  unfold swait
  iapply (wp_sent (defs := defs) EC 𝒱 (V d c j) bd (k := Prog.ret) (src := r) (dst := outBlk o off h) ι rfl) $$ H
  iintro Hs
  rw [wp_ret]
  imodintro
  iapply Hk $$ Hs

end Rules

end Cert.Proof.Gather
-- ==== Proof.Gather.Body.lean ====
/-
  The gather kernel's run on one tile. The tile of number `w` writes the 26 blocks of 256 output rows from block `26 w`
  on; block `B` ends as the rows of the table named by rows `2B`, `2B + 1` of the row-number array, raised by the offset
  of the block's table.
-/
module

public import proofs.«01_k».proof.Proof.Gather.Ops

@[expose] public section

noncomputable section

namespace Cert.Proof.Gather

open Cert.KernelIdeal Cert.KernelIdeal.Gen
open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem

/-! ## The blocks -/

/-- The offset, in the table of all fields, of the field that block `B` of the output lies in. -/
def offAt (B : ℕ) : BitVec 32 := tabOff (BitVec.ofNat 32 (256 * B))

theorem offAt_toNat {B : ℕ} (hB : B < 832) : (offAt B).toNat = B / 32 * 1000 := by
  show ((BitVec.ofNat 32 (256 * B) >>> 13) * 1000#32).toNat = _
  rw [BitVec.toNat_mul, BitVec.toNat_ushiftRight, BitVec.toNat_ofNat, Nat.shiftRight_eq_div_pow]
  simp only [BitVec.toNat_ofNat]
  omega

/-- The list of row numbers of block `B`. -/
def listAt (Fi : S1664x128.Idx → BitVec 32) (B : Fin 832) : S2x128.Idx → BitVec 32 := fun y =>
  Fi (ValueIdx.ix2 (⟨2 * B.val + (y 0).val, by have : (y 0).val < 2 := (y 0).isLt; have := B.isLt; omega⟩ : Fin 1664) (⟨(y 1).val, (y 1).isLt⟩ : Fin 128)) + offAt B.val

theorem listAt_lt {Fi : S1664x128.Idx → BitVec 32} (hFi : ∀ x, (Fi x).toNat < 1000) (B : Fin 832) (y : S2x128.Idx) : (listAt Fi B y).toNat < 26000 := by
  unfold listAt
  rw [BitVec.toNat_add, offAt_toNat B.isLt]
  have h1 := hFi (ValueIdx.ix2 (⟨2 * B.val + (y 0).val, by have : (y 0).val < 2 := (y 0).isLt; have := B.isLt; omega⟩ : Fin 1664) (⟨(y 1).val, (y 1).isLt⟩ : Fin 128))
  have h2 := B.isLt
  rw [Nat.mod_eq_of_lt (by omega)]
  omega

/-- The rows of block `B`. -/
abbrev blockVal {V : Type} (T : S26000x128.Idx → V) (Fi : S1664x128.Idx → BitVec 32) (B : Fin 832) : S256x128.Idx → V := picked T (listAt Fi B)

theorem blk_inb (B : Fin 832) : ∀ x, (![256 * B.val, 0] : Fin 2 → ℕ) x + S256x128.size x ≤ S212992x128.size x := fun x => match x with
  | 0 => by show 256 * B.val + 256 ≤ 212992; have := B.isLt; omega
  | 1 => by show 0 + 128 ≤ 128; omega

/-- Block `B` of the output. -/
abbrev blk (o : Memref sig .scVector .hbm S212992x128 .f32) (B : Fin 832) : Memref sig .scVector .hbm S256x128 .f32 := outBlk o ![256 * B.val, 0] (blk_inb B)

/-- The number of the worker at coordinates `i`, -/
def widOf (i : grid1.Coords) : ℕ := 16 * (i 0).val + (i 1).val

theorem widOf_lt (i : grid1.Coords) : widOf i < 32 := by
  have h0 : (i 0).val < 2 := (i 0).isLt
  have h1 : (i 1).val < 16 := (i 1).isLt
  unfold widOf; omega

/-- and its `b`-th block. -/
def blkOf (i : grid1.Coords) (b : Fin 26) : Fin 832 := ⟨26 * widOf i + b.val, by have := widOf_lt i; have := b.isLt; omega⟩

theorem row_eq {x y : ℕ} (h : x = y) : (![x, 0] : Fin 2 → ℕ) = ![y, 0] := by rw [h]

theorem trips_eq : k1_t1_loop.trips = 12 := by decide

/-- The words the kernel computes are the blocks' offsets. -/
theorem word_first : ∀ i : grid1.Coords, tabOff (Scalar.addi (base i) 0#32) = offAt (26 * widOf i) := by decide +kernel
theorem word_second : ∀ i : grid1.Coords, tabOff (Scalar.addi (base i) 256#32) = offAt (26 * widOf i + 1) := by decide +kernel
theorem word_even : ∀ i : grid1.Coords, ∀ t : Fin 12,
    tabOff (Scalar.addi (base i) (Scalar.muli (Scalar.addi (Scalar.muli 2#32 (Scf.iv 0#32 1#32 t.val)) 2#32) 256#32)) = offAt (26 * widOf i + (2 * t.val + 2)) := by decide +kernel
theorem word_odd : ∀ i : grid1.Coords, ∀ t : Fin 12,
    tabOff (Scalar.addi (base i) (Scalar.muli (Scalar.addi (Scalar.addi (Scalar.muli 2#32 (Scf.iv 0#32 1#32 t.val)) 1#32) 2#32) 256#32)) = offAt (26 * widOf i + (2 * t.val + 3)) := by decide +kernel

section Rules

variable {F : FTy → Type} [FloatOps F]
variable {Ix : Type} [DecidableEq Ix] {Name : Type} [DecidableEq Name] [Infinite Name] {U : Type} [URA U] {Lvl : Type} [Preorder Lvl]
variable {defs : Defs nD τ sig (Elt F) Λ₀} (EC : UEmb Counters (MT nD τ sig Ix (Elt F) Name U Lvl)) [EC.LandsIn (upEmb : UEmb _ (MT nD τ sig Ix (Elt F) Name U Lvl))]
variable (𝒱 : Variants) (bd : Option 𝒱.V) (d : Dev nD) (c : Fin τ.nSC) (j : Fin τ.nSub)
variable {Q : PUnit → sProp (MT nD τ sig Ix (Elt F) Name U Lvl)} (ι : Ix) {O : CellTallies nD τ sig Ix} {W : Waits sig Ix}

local notation "𝕄" => MT nD τ sig Ix (Elt F) Name U Lvl

include EC in
/-- `wp_stage` at a block: the buffer ends holding the block's list. -/
theorem wp_stageAt (fi : Memref sig .scVector .hbm S1664x128 .i32) (a : Memref sig .scVector .vmem S2x128 .i32)
    (ha : a.IsWhole) (off : Fin 2 → ℕ) (h : ∀ x, off x + S2x128.size x ≤ S1664x128.size x) (sem : DmaSem sig) (w : BitVec 32)
    (hcr : 0 < a.view.dmaCredit) (q : PosShare TreeShare) (Fi : S1664x128.Idx → Elt F .i32) (Y : S2x128.Idx → Elt F .i32)
    (B : Fin 832) (hoff : off = ![2 * B.val, 0]) (hw : w = offAt B.val) :
    iprop(Held (Ix := Ix) (Name := Name) (U := U) (Lvl := Lvl) (V d c j) fi q Fi ∗ Held (V d c j) a fullShare Y ∗ semVal (V d c j, SemLoc.dma sem) 0
        ∗ Owing (V d c j) O W ι ∗ Transfers.MayWaits (V d c j) ι O)
      ⊢ iprop((iprop(Held (V d c j) fi q Fi ∗ Held (V d c j) a fullShare (listAt Fi B) ∗ semVal (V d c j, SemLoc.dma sem) 0 ∗ Owing (V d c j) O W ι) -∗ Q ⟨⟩)
          -∗ wp frame (wpE defs 𝒱 (V d c j) bd) Set.univ (stage (F := F) c j fi a ha off h sem w) Q) := by
  have hX : (fun y => Fi ((Rect.unit (s := S1664x128) off S2x128.size h).emb y) + w) = listAt Fi B := by
    subst hoff hw
    funext y
    unfold listAt
    refine congrArg (fun z => Fi z + offAt B.val) (funext fun a => Fin.ext ?_)
    rw [emb_unit]
    match a with
    | 0 => rfl
    | 1 => exact Nat.zero_add _
  rw [← hX]
  exact wp_stage EC 𝒱 bd d c j ι fi a ha off h sem w hcr q Fi Y

/-- `wp_sstart` and `wp_swait` at a block. -/
theorem wp_sstartAt (r : Memref sig .scVector .vmem S256x128 .f32) (hr : r.IsWhole)
    (o : Memref sig .scVector .hbm S212992x128 .f32) (off : Fin 2 → ℕ) (h : ∀ x, off x + S256x128.size x ≤ S212992x128.size x)
    (sem : DmaSem sig) (hcr : 0 < (blk o 0).view.dmaCredit) (X Y : S256x128.Idx → Elt F .f32) (B : Fin 832) (hoff : off = ![256 * B.val, 0]) :
    iprop(Held (V d c j) r fullShare X ∗ Held (V d c j) (blk o B) fullShare Y ∗ semVal (V d c j, SemLoc.dma sem) 0)
      ⊢ iprop((Sending EC (V d c j) (.dma sem) ι (blk o B).view.dmaCredit r (blk o B) fullShare X -∗ Q ⟨⟩)
          -∗ wp frame (wpE defs 𝒱 (V d c j) bd) Set.univ (sstart (F := F) c j r hr o off h sem) Q) := by
  subst hoff
  exact wp_sstart EC 𝒱 bd d c j ι r hr o _ h sem hcr X Y

theorem wp_swaitAt (r : Memref sig .scVector .vmem S256x128 .f32) (hr : r.IsWhole)
    (o : Memref sig .scVector .hbm S212992x128 .f32) (off : Fin 2 → ℕ) (h : ∀ x, off x + S256x128.size x ≤ S212992x128.size x)
    (sem : DmaSem sig) (X : S256x128.Idx → Elt F .f32) (B : Fin 832) (hoff : off = ![256 * B.val, 0]) :
    iprop(Sending EC (V d c j) (.dma sem) ι (blk o B).view.dmaCredit r (blk o B) fullShare X
        ∗ Owing (V d c j) O W ι ∗ Transfers.MayWaits (V d c j) ι O)
      ⊢ iprop((iprop(Held (V d c j) (blk o B) fullShare X ∗ Held (V d c j) r fullShare X ∗ semVal (V d c j, SemLoc.dma sem) 0 ∗ Owing (V d c j) O W ι) -∗ Q ⟨⟩)
          -∗ wp frame (wpE defs 𝒱 (V d c j) bd) Set.univ (swait (F := F) c j r hr o off h sem) Q) := by
  subst hoff
  exact wp_swait EC 𝒱 bd d c j ι r hr o _ h sem X

/-- Two members of a family taken out, and put back changed. -/
theorem take_two {Φ Ψ : Fin 26 → sProp 𝕄} {b b' : Fin 26} (hb : b ≠ b') (h : ∀ x, x ≠ b → x ≠ b' → Φ x = Ψ x) :
    bigSep Finset.univ Φ ⊢ iprop(Φ b ∗ Φ b' ∗ (iprop(Ψ b ∗ Ψ b') -∗ bigSep Finset.univ Ψ)) := by
  have hsp : ∀ Θ : Fin 26 → sProp 𝕄, bigSep Finset.univ Θ = iprop(Θ b ∗ Θ b' ∗ bigSep ((Finset.univ.erase b).erase b') Θ) := fun Θ => by
    rw [SparseCore.bigSep_erase' (Finset.mem_univ b), SparseCore.bigSep_erase' (Finset.mem_erase.mpr ⟨hb.symm, Finset.mem_univ b'⟩)]
  have hrest : bigSep ((Finset.univ.erase b).erase b') Φ = bigSep ((Finset.univ.erase b).erase b') Ψ :=
    BI.bigSep_congr fun x hx => h x (Finset.ne_of_mem_erase (Finset.mem_of_mem_erase hx)) (Finset.ne_of_mem_erase hx)
  rw [hsp Φ, hsp Ψ, hrest]
  iintro ⟨H, H', Hr⟩
  isplitl [H]; · iexact H
  isplitl [H']; · iexact H'
  iintro ⟨H, H'⟩
  isplitl [H]; · iexact H
  isplitl [H'] <;> iassumption

/-! ## The kernel -/

section Prog

variable (i : grid1.Coords) (arg2 : Memref sig .scVector .hbm S1664x128 .i32) (arg3 : Memref sig .scVector .hbm S26000x128 .f32) (arg4 : Memref sig .scVector .hbm S212992x128 .f32) (arg5 : Memref sig .scVector .vmem S2x128 .i32) (harg5 : arg5.IsWhole) (arg6 : Memref sig .scVector .vmem S2x128 .i32) (harg6 : arg6.IsWhole) (arg7 : Memref sig .scVector .vmem S256x128 .f32) (harg7 : arg7.IsWhole) (arg8 : Memref sig .scVector .vmem S256x128 .f32) (harg8 : arg8.IsWhole) (arg9 arg10 arg11 arg12 r0 r1 r2 r3 : DmaSems sig S_)

local notation "thr" => V d (cOf i) (jOf i)

/-- What the transfers' sizes must satisfy: every one is positive, and a half's gather is its 128 rows. -/
structure Credits : Prop where
  list : 0 < arg5.view.dmaCredit
  list' : 0 < arg6.view.dmaCredit
  row : 0 < rowCredit arg7
  row' : 0 < rowCredit arg8
  half : (rowsLo arg7).view.dmaCredit = 128 * rowCredit arg7
  half' : (rowsLo arg8).view.dmaCredit = 128 * rowCredit arg8
  out : 0 < (blk arg4 0).view.dmaCredit

variable (qf qt : PosShare TreeShare) (T : S26000x128.Idx → Elt F .f32) (Fi : S1664x128.Idx → Elt F .i32) (Y : Fin 26 → S256x128.Idx → Elt F .f32)

/-- The output's blocks with the first `n` written. -/
abbrev written (n : ℕ) (b : Fin 26) : sProp 𝕄 :=
  Held thr (blk arg4 (blkOf i b)) fullShare (if b.val < n then blockVal T Fi (blkOf i b) else Y b)

/-- Before trip `t`: both buffers' gathers are in flight, and `2 t` blocks are written. -/
def LoopInv (t : ℕ) : sProp 𝕄 :=
  iprop(∃ b b' : Fin 26, ⌜b.val = 2 * t ∧ b'.val = 2 * t + 1⌝ ∗ Held thr arg2 qf Fi
    ∗ Coming EC d (cOf i) (jOf i) ι arg3 arg5 arg7 arg9.sem qt.left T (listAt Fi (blkOf i b))
    ∗ Coming EC d (cOf i) (jOf i) ι arg3 arg6 arg8 arg10.sem qt.right T (listAt Fi (blkOf i b'))
    ∗ semVal (thr, SemLoc.dma arg11.sem) 0 ∗ semVal (thr, SemLoc.dma arg12.sem) 0
    ∗ semVal (thr, SemLoc.dma r2.sem) 0 ∗ semVal (thr, SemLoc.dma r3.sem) 0
    ∗ bigSep Finset.univ (written d i arg4 T Fi Y (2 * t)) ∗ Owing thr O W ι)

variable (hC : Credits arg4 arg5 arg6 arg7 arg8) (hFi : ∀ x, (Fi x).toNat < 1000)

include hC hFi in
theorem wp_trip (t : Fin k1_t1_loop.trips) :
    iprop(LoopInv (O := O) (W := W) EC d ι i arg2 arg3 arg4 arg5 arg6 arg7 arg8 arg9 arg10 arg11 arg12 r2 r3 qf qt T Fi Y t.val ∗ Transfers.MayWaits thr ι O)
      ⊢ iprop((LoopInv (O := O) (W := W) EC d ι i arg2 arg3 arg4 arg5 arg6 arg7 arg8 arg9 arg10 arg11 arg12 r2 r3 qf qt T Fi Y (t.val + 1) -∗ Q ⟨⟩)
          -∗ wp frame (wpE defs 𝒱 thr bd) Set.univ (trip (F := F) i arg2 arg3 arg4 arg5 harg5 arg6 harg6 arg7 harg7 arg8 harg8 arg9 arg10 arg11 arg12 r2 r3 t) Q) := by
  have ht : t.val < 12 := trips_eq ▸ t.isLt
  unfold LoopInv
  iintro ⟨⟨%b, %b', %hb, Hf, Hg, Hg', Hv11, Hv12, Hv2, Hv3, Hout, HO⟩, #Hmw⟩ Hk
  obtain ⟨hb, hb'⟩ := hb
  let n : Fin 26 := ⟨2 * t.val + 2, by omega⟩
  let n' : Fin 26 := ⟨2 * t.val + 3, by omega⟩
  have ho2 : k1_off2 i t = ![256 * (blkOf i b).val, 0] := (k1_off2_eq i t).trans (row_eq (by
    show _ = 256 * (26 * (16 * (i 0).val + (i 1).val) + b.val); omega))
  have ho3 : k1_off3 i t = ![256 * (blkOf i b').val, 0] := (k1_off3_eq i t).trans (row_eq (by
    show _ = 256 * (26 * (16 * (i 0).val + (i 1).val) + b'.val); omega))
  have ho4 : k1_off4 i t = ![2 * (blkOf i n).val, 0] := (k1_off4_eq i t).trans (row_eq (by
    show _ = 2 * (26 * (16 * (i 0).val + (i 1).val) + (2 * t.val + 2)); omega))
  have ho5 : k1_off5 i t = ![2 * (blkOf i n').val, 0] := (k1_off5_eq i t).trans (row_eq (by
    show _ = 2 * (26 * (16 * (i 0).val + (i 1).val) + (2 * t.val + 3)); omega))
  have hsame : ∀ x : Fin 26, x ≠ b → x ≠ b' → written (Ix := Ix) (Name := Name) (U := U) (Lvl := Lvl) d i arg4 T Fi Y (2 * t.val) x = written d i arg4 T Fi Y (2 * (t.val + 1)) x := fun x h h' => by
    have h1 : x.val ≠ b.val := fun e => h (Fin.ext e)
    have h2 : x.val ≠ b'.val := fun e => h' (Fin.ext e)
    unfold written
    by_cases hx : x.val < 2 * t.val
    · rw [if_pos hx, if_pos (by omega)]
    · rw [if_neg hx, if_neg (by omega)]
  have hval : ∀ x : Fin 26, x.val < 2 * (t.val + 1) → written (Ix := Ix) (Name := Name) (U := U) (Lvl := Lvl) d i arg4 T Fi Y (2 * (t.val + 1)) x
      = Held thr (blk arg4 (blkOf i x)) fullShare (blockVal T Fi (blkOf i x)) := fun x h => by unfold written; rw [if_pos h]
  ihave Hout := (take_two (b := b) (b' := b') (fun e => by have := congrArg Fin.val e; omega) hsame) $$ Hout
  icases Hout with ⟨Hb, Hb', Hback⟩
  unfold trip
  rw [wp_bind]
  iapply (wp_gwait EC 𝒱 bd d (cOf i) (jOf i) ι arg3 arg5 arg7 arg9.sem _ T _ hC.row hC.half) $$ [Hg HO]
  · isplitl [Hg]; · iexact Hg
    isplitl [HO]; · iexact HO
    iexact Hmw
  iintro ⟨Ht, Ha, Hr, Hv9, HO⟩
  rw [wp_bind]
  iapply (wp_sstartAt EC 𝒱 bd d (cOf i) (jOf i) ι arg7 harg7 arg4 _ _ arg11.sem hC.out _ _ (blkOf i b) ho2) $$ [Hr Hb Hv11]
  · isplitl [Hr]; · iexact Hr
    isplitl [Hb] <;> iassumption
  iintro Hs
  rw [wp_bind]
  iapply (wp_gwait EC 𝒱 bd d (cOf i) (jOf i) ι arg3 arg6 arg8 arg10.sem _ T _ hC.row' hC.half') $$ [Hg' HO]
  · isplitl [Hg']; · iexact Hg'
    isplitl [HO]; · iexact HO
    iexact Hmw
  iintro ⟨Ht', Ha', Hr', Hv10, HO⟩
  rw [wp_bind]
  iapply (wp_sstartAt EC 𝒱 bd d (cOf i) (jOf i) ι arg8 harg8 arg4 _ _ arg12.sem hC.out _ _ (blkOf i b') ho3) $$ [Hr' Hb' Hv12]
  · isplitl [Hr']; · iexact Hr'
    isplitl [Hb'] <;> iassumption
  iintro Hs'
  rw [wp_bind]
  iapply (wp_stageAt EC 𝒱 bd d (cOf i) (jOf i) ι arg2 arg5 harg5 _ _ r2.sem _ hC.list qf Fi _ (blkOf i n) ho4 (word_even i ⟨t.val, ht⟩)) $$ [Hf Ha Hv2 HO]
  · isplitl [Hf]; · iexact Hf
    isplitl [Ha]; · iexact Ha
    isplitl [Hv2]; · iexact Hv2
    isplitl [HO]; · iexact HO
    iexact Hmw
  iintro ⟨Hf, Ha, Hv2, HO⟩
  rw [wp_bind]
  iapply (wp_swaitAt EC 𝒱 bd d (cOf i) (jOf i) ι arg7 harg7 arg4 _ _ arg11.sem _ (blkOf i b) ho2) $$ [Hs HO]
  · isplitl [Hs]; · iexact Hs
    isplitl [HO]; · iexact HO
    iexact Hmw
  iintro ⟨Hb, Hr, Hv11, HO⟩
  rw [wp_bind]
  iapply (wp_gstart EC 𝒱 bd d (cOf i) (jOf i) ι arg3 arg5 arg7 arg9.sem _ T _ (listAt_lt hFi _) _) $$ [Ht Ha Hr Hv9]
  · isplitl [Ht]; · iexact Ht
    isplitl [Ha]; · iexact Ha
    isplitl [Hr] <;> iassumption
  iintro Hg
  rw [wp_bind]
  iapply (wp_stageAt EC 𝒱 bd d (cOf i) (jOf i) ι arg2 arg6 harg6 _ _ r3.sem _ hC.list' qf Fi _ (blkOf i n') ho5 (word_odd i ⟨t.val, ht⟩)) $$ [Hf Ha' Hv3 HO]
  · isplitl [Hf]; · iexact Hf
    isplitl [Ha']; · iexact Ha'
    isplitl [Hv3]; · iexact Hv3
    isplitl [HO]; · iexact HO
    iexact Hmw
  iintro ⟨Hf, Ha', Hv3, HO⟩
  rw [wp_bind]
  iapply (wp_swaitAt EC 𝒱 bd d (cOf i) (jOf i) ι arg8 harg8 arg4 _ _ arg12.sem _ (blkOf i b') ho3) $$ [Hs' HO]
  · isplitl [Hs']; · iexact Hs'
    isplitl [HO]; · iexact HO
    iexact Hmw
  iintro ⟨Hb', Hr', Hv12, HO⟩
  iapply (wp_gstart EC 𝒱 bd d (cOf i) (jOf i) ι arg3 arg6 arg8 arg10.sem _ T _ (listAt_lt hFi _) _) $$ [Ht' Ha' Hr' Hv10]
  · isplitl [Ht']; · iexact Ht'
    isplitl [Ha']; · iexact Ha'
    isplitl [Hr'] <;> iassumption
  iintro Hg'
  iapply Hk
  iexists n, n'
  isplitr; · ipureintro; exact ⟨by show 2 * t.val + 2 = _; omega, by show 2 * t.val + 3 = _; omega⟩
  isplitl [Hf]; · iexact Hf
  isplitl [Hg]; · iexact Hg
  isplitl [Hg']; · iexact Hg'
  isplitl [Hv11]; · iexact Hv11
  isplitl [Hv12]; · iexact Hv12
  isplitl [Hv2]; · iexact Hv2
  isplitl [Hv3]; · iexact Hv3
  isplitr [HO]; swap; · iexact HO
  iapply Hback
  isplitl [Hb]
  · iapply (Entails.of_eq (hval b (by omega)).symm) $$ Hb
  · iapply (Entails.of_eq (hval b' (by omega)).symm) $$ Hb'

/-- What the kernel holds on entry, and on exit: its inputs at their shares, its buffers, its cells at zero. -/
def Kit : sProp 𝕄 :=
  iprop(Held thr arg2 qf Fi ∗ Held thr arg3 qt T
    ∗ (∃ X, Held thr arg5 fullShare X) ∗ (∃ X, Held thr arg6 fullShare X) ∗ (∃ X, Held thr arg7 fullShare X) ∗ (∃ X, Held thr arg8 fullShare X)
    ∗ semVal (thr, SemLoc.dma arg9.sem) 0 ∗ semVal (thr, SemLoc.dma arg10.sem) 0 ∗ semVal (thr, SemLoc.dma arg11.sem) 0 ∗ semVal (thr, SemLoc.dma arg12.sem) 0
    ∗ semVal (thr, SemLoc.dma r0.sem) 0 ∗ semVal (thr, SemLoc.dma r1.sem) 0 ∗ semVal (thr, SemLoc.dma r2.sem) 0 ∗ semVal (thr, SemLoc.dma r3.sem) 0)

include EC hC hFi in
theorem wp_gatherProg :
    iprop(Kit d i arg2 arg3 arg5 arg6 arg7 arg8 arg9 arg10 arg11 arg12 r0 r1 r2 r3 qf qt T Fi
        ∗ (bigSep Finset.univ fun b : Fin 26 => Held thr (blk arg4 (blkOf i b)) fullShare (Y b)) ∗ Owing thr O W ι ∗ Transfers.MayWaits thr ι O)
      ⊢ iprop((iprop(Kit d i arg2 arg3 arg5 arg6 arg7 arg8 arg9 arg10 arg11 arg12 r0 r1 r2 r3 qf qt T Fi
            ∗ (bigSep Finset.univ fun b : Fin 26 => Held thr (blk arg4 (blkOf i b)) fullShare (blockVal T Fi (blkOf i b))) ∗ Owing thr O W ι) -∗ Q ⟨⟩)
          -∗ wp frame (wpE defs 𝒱 thr bd) Set.univ (gatherProg (F := F) i arg2 arg3 arg4 arg5 harg5 arg6 harg6 arg7 harg7 arg8 harg8 arg9 arg10 arg11 arg12 r0 r1 r2 r3) Q) := by
  have h0 : blkOf i 0 = ⟨26 * widOf i, by have := widOf_lt i; omega⟩ := rfl
  have ho1 : k1_off1 i 0#32 = ![2 * (blkOf i 0).val, 0] := (k1_off1_eq i 0).trans (row_eq (by
    show 832 * (i 0).val + 52 * (i 1).val + 2 * 0 = 2 * (26 * (16 * (i 0).val + (i 1).val) + 0); omega))
  have ho1' : k1_off1 i 2#32 = ![2 * (blkOf i 1).val, 0] := (k1_off1_eq i 1).trans (row_eq (by
    show 832 * (i 0).val + 52 * (i 1).val + 2 * 1 = 2 * (26 * (16 * (i 0).val + (i 1).val) + 1); omega))
  have ho6 : k1_off6 i 6144#32 = ![256 * (blkOf i 24).val, 0] := (k1_off6_eq i 0).trans (row_eq (by
    show 106496 * (i 0).val + 6656 * (i 1).val + 256 * 0 + 6144 = 256 * (26 * (16 * (i 0).val + (i 1).val) + 24); omega))
  have ho6' : k1_off6 i 6400#32 = ![256 * (blkOf i 25).val, 0] := (k1_off6_eq i 1).trans (row_eq (by
    show 106496 * (i 0).val + 6656 * (i 1).val + 256 * 1 + 6144 = 256 * (26 * (16 * (i 0).val + (i 1).val) + 25); omega))
  have hstart : (bigSep Finset.univ fun b : Fin 26 => Held thr (blk arg4 (blkOf i b)) fullShare (Y b) : sProp 𝕄)
      = bigSep Finset.univ (written d i arg4 T Fi Y (2 * 0)) :=
    BI.bigSep_congr fun b _ => by unfold written; rw [if_neg (Nat.not_lt_zero _)]
  have hsame : ∀ x : Fin 26, x ≠ 24 → x ≠ 25 → written (Ix := Ix) (Name := Name) (U := U) (Lvl := Lvl) d i arg4 T Fi Y (2 * 12) x
      = Held thr (blk arg4 (blkOf i x)) fullShare (blockVal T Fi (blkOf i x)) := fun x h h' => by
    have h1 : x.val ≠ 24 := fun e => h (Fin.ext e)
    have h2 : x.val ≠ 25 := fun e => h' (Fin.ext e)
    have h3 := x.isLt
    unfold written
    rw [if_pos (by omega)]
  unfold Kit
  iintro ⟨⟨Hf, Ht, ⟨%X5, Ha⟩, ⟨%X6, Ha'⟩, ⟨%X7, Hr⟩, ⟨%X8, Hr'⟩, Hv9, Hv10, Hv11, Hv12, Hv0, Hv1, Hv2, Hv3⟩, Hout, HO, #Hmw⟩ Hk
  ihave Ht := (Entails.of_eq (held_halves thr arg3 qt T)) $$ Ht
  icases Ht with ⟨Ht, Ht'⟩
  ihave Hout := (Entails.of_eq hstart) $$ Hout
  unfold gatherProg
  rw [wp_bind]
  unfold before
  rw [wp_bind]
  iapply (wp_stageAt EC 𝒱 bd d (cOf i) (jOf i) ι arg2 arg5 harg5 _ _ r0.sem _ hC.list qf Fi _ (blkOf i 0) ho1 (word_first i)) $$ [Hf Ha Hv0 HO]
  · isplitl [Hf]; · iexact Hf
    isplitl [Ha]; · iexact Ha
    isplitl [Hv0]; · iexact Hv0
    isplitl [HO]; · iexact HO
    iexact Hmw
  iintro ⟨Hf, Ha, Hv0, HO⟩
  rw [wp_bind]
  iapply (wp_gstart EC 𝒱 bd d (cOf i) (jOf i) ι arg3 arg5 arg7 arg9.sem _ T _ (listAt_lt hFi _) _) $$ [Ht Ha Hr Hv9]
  · isplitl [Ht]; · iexact Ht
    isplitl [Ha]; · iexact Ha
    isplitl [Hr] <;> iassumption
  iintro Hg
  rw [wp_bind]
  iapply (wp_stageAt EC 𝒱 bd d (cOf i) (jOf i) ι arg2 arg6 harg6 _ _ r1.sem _ hC.list' qf Fi _ (blkOf i 1) ho1' (word_second i)) $$ [Hf Ha' Hv1 HO]
  · isplitl [Hf]; · iexact Hf
    isplitl [Ha']; · iexact Ha'
    isplitl [Hv1]; · iexact Hv1
    isplitl [HO]; · iexact HO
    iexact Hmw
  iintro ⟨Hf, Ha', Hv1, HO⟩
  iapply (wp_gstart EC 𝒱 bd d (cOf i) (jOf i) ι arg3 arg6 arg8 arg10.sem _ T _ (listAt_lt hFi _) _) $$ [Ht' Ha' Hr' Hv10]
  · isplitl [Ht']; · iexact Ht'
    isplitl [Ha']; · iexact Ha'
    isplitl [Hr'] <;> iassumption
  iintro Hg'
  rw [wp_bind]
  iapply (Scf.wp_for_bind frame (wpE defs 𝒱 thr bd) Set.univ k1_t1_loop.lb k1_t1_loop.ub k1_t1_loop.st k1_t1_ok ⟨⟩ _
    (fun t _ => iprop(LoopInv (O := O) (W := W) EC d ι i arg2 arg3 arg4 arg5 arg6 arg7 arg8 arg9 arg10 arg11 arg12 r2 r3 qf qt T Fi Y t ∗ Transfers.MayWaits thr ι O))
    (fun t acc => by
      iintro ⟨HI, #Hmw⟩
      iapply (wp_trip EC 𝒱 bd d ι i arg2 arg3 arg4 arg5 harg5 arg6 harg6 arg7 harg7 arg8 harg8 arg9 arg10 arg11 arg12 r2 r3 qf qt T Fi Y hC hFi t) $$ [HI]
      · isplitl [HI]; · iexact HI
        iexact Hmw
      iintro HI
      isplitl [HI]; · iexact HI
      iexact Hmw)) $$ [Hf Hg Hg' Hv11 Hv12 Hv2 Hv3 Hout HO]
  · unfold LoopInv
    isplitl; swap; · iexact Hmw
    iexists (0 : Fin 26), (1 : Fin 26)
    isplitr; · ipureintro; exact ⟨rfl, rfl⟩
    isplitl [Hf]; · iexact Hf
    isplitl [Hg]; · iexact Hg
    isplitl [Hg']; · iexact Hg'
    isplitl [Hv11]; · iexact Hv11
    isplitl [Hv12]; · iexact Hv12
    isplitl [Hv2]; · iexact Hv2
    isplitl [Hv3]; · iexact Hv3
    isplitl [Hout] <;> iassumption
  iintro %acc ⟨HI, -⟩
  ihave HI := (Entails.of_eq (congrArg (LoopInv (O := O) (W := W) EC d ι i arg2 arg3 arg4 arg5 arg6 arg7 arg8 arg9 arg10 arg11 arg12 r2 r3 qf qt T Fi Y) trips_eq)) $$ HI
  unfold LoopInv
  icases HI with ⟨%b, %b', %hb, Hf, Hg, Hg', Hv11, Hv12, Hv2, Hv3, Hout, HO⟩
  obtain ⟨hb, hb'⟩ := hb
  obtain rfl : b = 24 := Fin.ext hb
  obtain rfl : b' = 25 := Fin.ext hb'
  ihave Hout := (take_two (b := (24 : Fin 26)) (b' := 25) (by decide) hsame) $$ Hout
  icases Hout with ⟨Hb, Hb', Hback⟩
  unfold after₁ after₂
  rw [wp_bind]
  iapply (wp_gwait EC 𝒱 bd d (cOf i) (jOf i) ι arg3 arg5 arg7 arg9.sem _ T _ hC.row hC.half) $$ [Hg HO]
  · isplitl [Hg]; · iexact Hg
    isplitl [HO]; · iexact HO
    iexact Hmw
  iintro ⟨Ht, Ha, Hr, Hv9, HO⟩
  rw [wp_bind]
  iapply (wp_sstartAt EC 𝒱 bd d (cOf i) (jOf i) ι arg7 harg7 arg4 _ _ arg11.sem hC.out _ _ (blkOf i 24) ho6) $$ [Hr Hb Hv11]
  · isplitl [Hr]; · iexact Hr
    isplitl [Hb] <;> iassumption
  iintro Hs
  iapply (wp_gwait EC 𝒱 bd d (cOf i) (jOf i) ι arg3 arg6 arg8 arg10.sem _ T _ hC.row' hC.half') $$ [Hg' HO]
  · isplitl [Hg']; · iexact Hg'
    isplitl [HO]; · iexact HO
    iexact Hmw
  iintro ⟨Ht', Ha', Hr', Hv10, HO⟩
  rw [wp_bind]
  iapply (wp_sstartAt EC 𝒱 bd d (cOf i) (jOf i) ι arg8 harg8 arg4 _ _ arg12.sem hC.out _ _ (blkOf i 25) ho6') $$ [Hr' Hb' Hv12]
  · isplitl [Hr']; · iexact Hr'
    isplitl [Hb'] <;> iassumption
  iintro Hs'
  rw [wp_bind]
  iapply (wp_swaitAt EC 𝒱 bd d (cOf i) (jOf i) ι arg7 harg7 arg4 _ _ arg11.sem _ (blkOf i 24) ho6) $$ [Hs HO]
  · isplitl [Hs]; · iexact Hs
    isplitl [HO]; · iexact HO
    iexact Hmw
  iintro ⟨Hb, Hr, Hv11, HO⟩
  iapply (wp_swaitAt EC 𝒱 bd d (cOf i) (jOf i) ι arg8 harg8 arg4 _ _ arg12.sem _ (blkOf i 25) ho6') $$ [Hs' HO]
  · isplitl [Hs']; · iexact Hs'
    isplitl [HO]; · iexact HO
    iexact Hmw
  iintro ⟨Hb', Hr', Hv12, HO⟩
  iapply Hk
  isplitr [Hb Hb' Hback HO]
  · isplitl [Hf]; · iexact Hf
    isplitl [Ht Ht']
    · iapply (Entails.of_eq (held_halves thr arg3 qt T).symm)
      isplitl [Ht] <;> iassumption
    isplitl [Ha]; · iexists _; iexact Ha
    isplitl [Ha']; · iexists _; iexact Ha'
    isplitl [Hr]; · iexists _; iexact Hr
    isplitl [Hr']; · iexists _; iexact Hr'
    isplitl [Hv9]; · iexact Hv9
    isplitl [Hv10]; · iexact Hv10
    isplitl [Hv11]; · iexact Hv11
    isplitl [Hv12]; · iexact Hv12
    isplitl [Hv0]; · iexact Hv0
    isplitl [Hv1]; · iexact Hv1
    isplitl [Hv2] <;> iassumption
  isplitl [Hb Hb' Hback]
  · iapply Hback
    isplitl [Hb] <;> iassumption
  iexact HO

end Prog

end Rules

end Cert.Proof.Gather
-- ==== Proof.Linear.Shape.lean ====
/-
  The linear kernel written with its own helper procedures: `pull` (fetch 512 row numbers), `window` (sixteen of them
  raised by the table's offset and looked up), `push` (send the 512 values out) and `round` (one trip of the loop). The
  printed kernel is this program by definitional unfolding.
-/
module

public import proofs.«01_k».proof.Proof.Gather.Shape

@[expose] public section

noncomputable section

namespace Cert.Proof.Linear

open Cert.KernelIdeal Cert.KernelIdeal.Gen
open Cert.Proof.Gather (Tile)
open Idealize.ShloMosaic Idealize.SL.Sem

variable {F : FTy → Type} [FloatOps F]

/-- One window of sixteen row numbers: read, raised by `w`, found in range, looked up in the table, the values written
    (the read before the writing has no use). -/
def window (c : Fin τ.nSC) (j : Fin τ.nSub) (tab : Memref sig .scVector .vmem S26000 .f32) (a : Memref sig .scVector .vmem S512 .i32)
    (o : Memref sig .scVector .vmem S512 .f32) (off : Fin 1 → ℕ) (h : ∀ x, off x + S16.size x ≤ S512.size x) (w : BitVec 32) :
    Tile (F := F) c j PUnit := do
  let x : Vec F S16 .i32 ← Prog.lift (.load a (Rect.unit (s := S512) off S16.size h).toLoadRect (View.loadsAt_vmem h_S16))
  have hw : k0_chk1 (addi x (broadcast S16 w)) := (← Prog.lift (TpuEff.assume (k0_chk1 (addi x (broadcast S16 w))) (k0_chk1.dec _))).down
  let v : Vec F S16 .f32 ← SparseCore.vectorLoadIdx tab ![addi x (broadcast S16 w)] (k0_idx1_inb _ hw) (View.loads_vmem h_S26000)
  let _ : Vec F S16 .f32 ← Prog.lift (.load o (Rect.unit (s := S512) off S16.size h).toLoadRect (View.loadsAt_vmem h_S16))
  Prog.lift (.store o (Rect.unit (s := S512) off S16.size h) v Finset.univ (View.stores_vmem_bits_univ h_S16 rfl) (.inl rfl))

theorem windowAt_inb (n : ℕ) (hn : n < 32) : ∀ x, (![16 * n] : Fin 1 → ℕ) x + S16.size x ≤ S512.size x := fun x => by
  match x with
  | 0 => show 16 * n + 16 ≤ 512; omega

/-- The windows from the `n`-th on, `k` of them, then `rest`. -/
def windows (c : Fin τ.nSC) (j : Fin τ.nSub) (tab : Memref sig .scVector .vmem S26000 .f32) (a : Memref sig .scVector .vmem S512 .i32)
    (o : Memref sig .scVector .vmem S512 .f32) (w : BitVec 32) (rest : Tile (F := F) c j PUnit) : (k n : ℕ) → (h : n + k = 32) → Tile (F := F) c j PUnit
  | 0, _, _ => rest
  | k + 1, n, h => do
    window c j tab a o ![16 * n] (windowAt_inb n (by omega)) w
    windows c j tab a o w rest k (n + 1) (by omega)

section Body

variable (i : grid0.Coords) (arg2 : Memref sig .scVector .hbm S425984 .i32) (harg2 : arg2.IsWhole) (arg3 : Memref sig .scVector .hbm S26000 .f32) (harg3 : arg3.IsWhole) (arg4 : Memref sig .scVector .hbm S26x16384 .f32) (harg4 : arg4.IsWhole) (arg5 : Memref sig .scVector .vmem S26000 .f32) (harg5 : arg5.IsWhole) (arg6 : Memref sig .scVector .vmem S512 .i32) (harg6 : arg6.IsWhole) (arg7 : Memref sig .scVector .vmem S512 .f32) (harg7 : arg7.IsWhole) (r0 r1 r2 : DmaSems sig S_)

/-- The SparseCore and the tile of the worker at coordinates `i`. -/
abbrev cOf : Fin τ.nSC := (i 0).castLE hcore0
abbrev jOf : Fin τ.nSub := (i 1).castLE hsub0

/-- The first output element of a trip of the worker's, counted over the whole output. -/
abbrev first (t : Fin k0_t1_loop.trips) : BitVec 32 :=
  Scalar.addi (Scalar.muli (Scalar.addi (Scalar.muli (BitVec.ofNat 32 (i 0).val) 16#32) (BitVec.ofNat 32 (i 1).val)) 13312#32)
    (Scalar.muli (Scf.iv 0#32 1#32 t) 512#32)
/-- The table offset of that trip. -/
abbrev tabOff (t : Fin k0_t1_loop.trips) : BitVec 32 := Scalar.muli (Scalar.shrui (first i t) 14#32) 1000#32

/-- The 512 row numbers at `off`. -/
abbrev inBlk (off : Fin 1 → ℕ) (h : ∀ x, off x + S512.size x ≤ S425984.size x) : Memref sig .scVector .hbm S512 .i32 :=
  arg2.slice (Rect.unit (s := S425984) off S512.size h) (fun _ => rfl)
/-- The 512 output elements at `off`. -/
abbrev outBlk (off : Fin 2 → ℕ) (h : ∀ x, off x + S1x512.size x ≤ S26x16384.size x) : Memref sig .scVector .hbm S512 .f32 :=
  (arg4.slice (Rect.unit (s := S26x16384) off S1x512.size h) (fun _ => rfl)).squeeze S512 squeezes_S1x512_S512

/-- The table fetched. -/
def fetch : Tile (F := F) (cOf i) (jOf i) PUnit := do
  Prog.lift (.enqueueDma arg3 (.here arg5) (.dma r0.sem) harg3.wordExact harg5.wordExact ⟨Or.inl rfl, trivial⟩)
  Prog.lift (.waitDma2 r0.sem arg3 arg5 harg3.wordExact harg5.wordExact)

/-- One trip of the loop: the row numbers fetched, the windows, the values sent out. -/
def round (t : Fin k0_t1_loop.trips) : Tile (F := F) (cOf i) (jOf i) PUnit := do
  Prog.lift (.enqueueDma (inBlk arg2 (k0_off1 i t) (k0_off1_inb i t)) (.here arg6) (.dma r1.sem) (View.wordExact_bits rfl) harg6.wordExact ⟨Or.inl rfl, trivial⟩)
  Prog.lift (.waitDma2 r1.sem (inBlk arg2 (k0_off1 i t) (k0_off1_inb i t)) arg6 (View.wordExact_bits rfl) harg6.wordExact)
  windows _ _ arg5 arg6 arg7 (tabOff i t) (do
    Prog.lift (.enqueueDma arg7 (.here (outBlk arg4 (k0_off2 i t) (k0_off2_inb i t))) (.dma r2.sem) harg7.wordExact ((View.wordExact_bits rfl).reshape _ _) ⟨Or.inl rfl, trivial⟩)
    Prog.lift (.waitDma2 r2.sem arg7 (outBlk arg4 (k0_off2 i t) (k0_off2_inb i t)) harg7.wordExact ((View.wordExact_bits rfl).reshape _ _))
    pure ⟨⟩) 32 0 rfl

/-- The linear kernel. -/
def linearProg : Tile (F := F) (cOf i) (jOf i) PUnit := do
  fetch i arg3 harg3 arg5 harg5 r0
  Scf.Loop.for k0_t1_loop k0_t1_ok ⟨⟩ fun t _ => round i arg2 arg4 arg5 arg6 harg6 arg7 harg7 r1 r2 t
  pure ⟨⟩

set_option maxRecDepth 65536 in
set_option maxHeartbeats 40000000 in
theorem cc0_k_eq : cc0_k (F := F) i arg2 harg2 arg3 harg3 arg4 harg4 arg5 harg5 arg6 harg6 arg7 harg7 r0 r1 r2
    = linearProg (F := F) i arg2 arg3 harg3 arg4 arg5 harg5 arg6 harg6 arg7 harg7 r0 r1 r2 := rfl

end Body

end Cert.Proof.Linear
-- ==== Proof.Linear.Body.lean ====
/-
  The linear kernel on one tile: from the table, the row numbers and its 26 chunks of the output, to the chunks
  holding the table's entries that the row numbers, raised by their field's offset, name.
-/
module

public import proofs.«01_k».proof.Proof.Linear.Shape
public import proofs.«01_k».proof.Proof.Gather.Ops

@[expose] public section

noncomputable section

namespace Cert.Proof.Linear

open Cert.KernelIdeal Cert.KernelIdeal.Gen Cert.Proof.Gather
open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem

/-! ## The values -/

/-- A chunk with its windows before the `n`-th as in `Z`, the others as in `Y`. -/
def filled {V : Type} (n : ℕ) (Z Y : S512.Idx → V) : S512.Idx → V := fun y => if (y 0).val / 16 < n then Z y else Y y

theorem filled_zero {V : Type} (Z Y : S512.Idx → V) : filled 0 Z Y = Y := by
  funext y; unfold filled; rw [if_neg (Nat.not_lt_zero _)]

theorem filled_all {V : Type} (Z Y : S512.Idx → V) : filled 32 Z Y = Z := by
  funext y
  have h : (y 0).val < 512 := (y 0).isLt
  unfold filled; rw [if_pos (by omega)]

/-- The table's entries that 512 row numbers, raised by `w`, name. -/
def looked {V : Type} (T : S26000.Idx → V) (X : S512.Idx → BitVec 32) (w : BitVec 32) : S512.Idx → V := fun y =>
  T (ValueIdx.ix1 (tabRow (X y + w).toNat))

/-- The offset, in the table of all fields, of the field that chunk `B` lies in. -/
def offC (B : ℕ) : BitVec 32 := BitVec.ofNat 32 (B / 32 * 1000)

theorem offC_toNat {B : ℕ} (hB : B < 832) : (offC B).toNat = B / 32 * 1000 := by
  unfold offC
  rw [BitVec.toNat_ofNat]
  omega

/-- The row numbers of chunk `B`. -/
def numsAt (Fi : S425984.Idx → BitVec 32) (B : Fin 832) : S512.Idx → BitVec 32 := fun y =>
  Fi (ValueIdx.ix1 (⟨512 * B.val + (y 0).val, by have : (y 0).val < 512 := (y 0).isLt; have := B.isLt; omega⟩ : Fin 425984))

theorem numsAt_lt {Fi : S425984.Idx → BitVec 32} (hFi : ∀ x, (Fi x).toNat < 1000) (B : Fin 832) (y : S512.Idx) :
    (numsAt Fi B y + offC B.val).toNat < 26000 := by
  rw [BitVec.toNat_add, offC_toNat B.isLt]
  have h1 : (numsAt Fi B y).toNat < 1000 := hFi _
  have h2 := B.isLt
  rw [Nat.mod_eq_of_lt (by omega)]
  omega

/-- The values of chunk `B`. -/
abbrev chunkVal {V : Type} (T : S26000.Idx → V) (Fi : S425984.Idx → BitVec 32) (B : Fin 832) : S512.Idx → V := looked T (numsAt Fi B) (offC B.val)

theorem chunk_inb (B : Fin 832) : ∀ x, (![B.val / 32, 512 * (B.val % 32)] : Fin 2 → ℕ) x + S1x512.size x ≤ S26x16384.size x := fun x => match x with
  | 0 => by show B.val / 32 + 1 ≤ 26; have := B.isLt; omega
  | 1 => by show 512 * (B.val % 32) + 512 ≤ 16384; omega

/-- Chunk `B` of the output. -/
abbrev chunk (o : Memref sig .scVector .hbm S26x16384 .f32) (B : Fin 832) : Memref sig .scVector .hbm S512 .f32 :=
  outBlk o ![B.val / 32, 512 * (B.val % 32)] (chunk_inb B)

/-- The number of the worker at coordinates `i`, -/
def widOf (i : grid0.Coords) : ℕ := 16 * (i 0).val + (i 1).val

theorem widOf_lt (i : grid0.Coords) : widOf i < 32 := by
  have h0 : (i 0).val < 2 := (i 0).isLt
  have h1 : (i 1).val < 16 := (i 1).isLt
  unfold widOf; omega

/-- and its `b`-th chunk. -/
def chunkOf (i : grid0.Coords) (b : Fin 26) : Fin 832 := ⟨26 * widOf i + b.val, by have := widOf_lt i; have := b.isLt; omega⟩

theorem trips_eq : k0_t1_loop.trips = 26 := by decide

/-- The words the kernel computes are the chunk's offset in the table and its place in the output. -/
theorem word_off : ∀ i : grid0.Coords, ∀ t : Fin 26, tabOff i (t.cast trips_eq.symm) = offC (26 * widOf i + t.val) := by decide +kernel
theorem word_place : ∀ i : grid0.Coords, ∀ t : Fin 26,
    k0_off2 i (t.cast trips_eq.symm) = ![(26 * widOf i + t.val) / 32, 512 * ((26 * widOf i + t.val) % 32)] := by decide +kernel

section Rules

variable {F : FTy → Type} [FloatOps F]
variable {Ix : Type} [DecidableEq Ix] {Name : Type} [DecidableEq Name] [Infinite Name] {U : Type} [URA U] {Lvl : Type} [Preorder Lvl]
variable {defs : Defs nD τ sig (Elt F) Λ₀} (EC : UEmb Counters (MT nD τ sig Ix (Elt F) Name U Lvl)) [EC.LandsIn (upEmb : UEmb _ (MT nD τ sig Ix (Elt F) Name U Lvl))]
variable (𝒱 : Variants) (bd : Option 𝒱.V) (d : Dev nD) (c : Fin τ.nSC) (j : Fin τ.nSub)
variable {Q : PUnit → sProp (MT nD τ sig Ix (Elt F) Name U Lvl)} (ι : Ix) {O : CellTallies nD τ sig Ix} {W : Waits sig Ix}

local notation "𝕄" => MT nD τ sig Ix (Elt F) Name U Lvl

theorem wp_window (tab : Memref sig .scVector .vmem S26000 .f32) (a : Memref sig .scVector .vmem S512 .i32) (o : Memref sig .scVector .vmem S512 .f32)
    (n : ℕ) (hn : n < 32) (w : BitVec 32) (T : S26000.Idx → Elt F .f32) (X : S512.Idx → Elt F .i32) (Y : S512.Idx → Elt F .f32)
    (hX : ∀ y, (X y + w).toNat < 26000) :
    iprop(Held (Ix := Ix) (Name := Name) (U := U) (Lvl := Lvl) (V d c j) tab fullShare T ∗ Held (V d c j) a fullShare X ∗ Held (V d c j) o fullShare (filled n (looked T X w) Y))
      ⊢ iprop((iprop(Held (V d c j) tab fullShare T ∗ Held (V d c j) a fullShare X ∗ Held (V d c j) o fullShare (filled (n + 1) (looked T X w) Y)) -∗ Q ⟨⟩)
          -∗ wp frame (wpE defs 𝒱 (V d c j) bd) Set.univ (window (F := F) c j tab a o ![16 * n] (windowAt_inb n hn) w) Q) := by
  iintro ⟨Ht, Ha, Ho⟩ Hk
  unfold window
  iapply (wp_load_held (defs := defs) 𝒱 (V d c j) bd (m := a)) $$ Ha
  iintro Ha
  have hw : k0_chk1 (addi (fun y => X ((Rect.unit (s := S512) ![16 * n] S16.size (windowAt_inb n hn)).emb y)) (broadcast S16 w)) := fun b y => by
    obtain rfl : b = 0 := Fin.eq_zero b
    exact hX _
  iapply (wp_assume 𝒱 (V d c j) bd Set.univ hw)
  iapply (wp_load_held (defs := defs) 𝒱 (V d c j) bd (m := tab)) $$ Ht
  iintro Ht
  iapply (wp_load_held (defs := defs) 𝒱 (V d c j) bd (m := o)) $$ Ho
  iintro Ho
  iapply (wp_store_held (defs := defs) 𝒱 (V d c j) bd (m := o) (X' := filled (n + 1) (looked T X w) Y) ?_ ?_) $$ Ho
  · intro y
    have h0 := emb_unit (s := S512) _ _ (windowAt_inb n hn) y 0
    have hy0 : (y 0).val < 16 := (y 0).isLt
    have h0' : ((Rect.unit (s := S512) ![16 * n] S16.size (windowAt_inb n hn)).emb y 0).val = 16 * n + (y 0).val := h0
    unfold filled
    rw [if_pos (by rw [h0']; omega)]
    unfold looked
    show _ = T ((Rect.whole S26000).emb (idxAt _ _ y))
    rw [Rect.emb_whole_apply]
    refine congrArg T (funext fun b => Fin.ext ?_)
    obtain rfl : b = 0 := Fin.eq_zero b
    exact Nat.mod_eq_of_lt (hX _)
  · intro x hx
    have hne : ¬ ((x 0).val / 16 = n) := fun hn' => hx (by
      obtain ⟨y, hy⟩ := mem_unit (s := S512) ![16 * n] S16.size (windowAt_inb n hn) x (fun b => match b with
        | 0 => by show 16 * n ≤ (x 0).val ∧ (x 0).val < 16 * n + 16; omega)
      exact Finset.mem_map.mpr ⟨y, Finset.mem_univ _, hy⟩)
    unfold filled
    by_cases hlt : (x 0).val / 16 < n
    · rw [if_pos hlt, if_pos (by omega)]
    · rw [if_neg hlt, if_neg (by omega)]
  iintro Ho
  rw [wp_ret]
  imodintro
  iapply Hk
  isplitl [Ht]; · iexact Ht
  isplitl [Ha] <;> iassumption

theorem wp_windows (tab : Memref sig .scVector .vmem S26000 .f32) (a : Memref sig .scVector .vmem S512 .i32) (o : Memref sig .scVector .vmem S512 .f32)
    (w : BitVec 32) (T : S26000.Idx → Elt F .f32) (X : S512.Idx → Elt F .i32) (Y : S512.Idx → Elt F .f32)
    (hX : ∀ y, (X y + w).toNat < 26000) (rest : Tile (F := F) c j PUnit) : ∀ (k n : ℕ) (h : n + k = 32),
    iprop(Held (Ix := Ix) (Name := Name) (U := U) (Lvl := Lvl) (V d c j) tab fullShare T ∗ Held (V d c j) a fullShare X ∗ Held (V d c j) o fullShare (filled n (looked T X w) Y))
      ⊢ iprop((iprop(Held (V d c j) tab fullShare T ∗ Held (V d c j) a fullShare X ∗ Held (V d c j) o fullShare (looked T X w))
            -∗ wp frame (wpE defs 𝒱 (V d c j) bd) Set.univ rest Q)
          -∗ wp frame (wpE defs 𝒱 (V d c j) bd) Set.univ (windows (F := F) c j tab a o w rest k n h) Q)
  | 0, n, h => by
    obtain rfl : n = 32 := h
    rw [filled_all]
    iintro H Hk
    unfold windows
    iapply Hk $$ H
  | k + 1, n, h => by
    iintro H Hk
    unfold windows
    rw [wp_bind]
    iapply (wp_window 𝒱 bd d c j tab a o n (by omega) w T X Y hX) $$ H
    iintro H
    iapply (wp_windows tab a o w T X Y hX rest k (n + 1) _) $$ H
    iexact Hk

/-! ## The kernel -/

section Prog

variable (i : grid0.Coords) (arg2 : Memref sig .scVector .hbm S425984 .i32) (arg3 : Memref sig .scVector .hbm S26000 .f32) (harg3 : arg3.IsWhole) (arg4 : Memref sig .scVector .hbm S26x16384 .f32) (arg5 : Memref sig .scVector .vmem S26000 .f32) (harg5 : arg5.IsWhole) (arg6 : Memref sig .scVector .vmem S512 .i32) (harg6 : arg6.IsWhole) (arg7 : Memref sig .scVector .vmem S512 .f32) (harg7 : arg7.IsWhole) (r0 r1 r2 : DmaSems sig S_)

local notation "thr" => V d (cOf i) (jOf i)

/-- Every transfer's size is positive. -/
structure Credits : Prop where
  tab : 0 < arg5.view.dmaCredit
  nums : 0 < arg6.view.dmaCredit
  out : 0 < (chunk arg4 0).view.dmaCredit

variable (qf qt : PosShare TreeShare) (T : S26000.Idx → Elt F .f32) (Fi : S425984.Idx → Elt F .i32) (Y : Fin 26 → S512.Idx → Elt F .f32)

/-- The output's chunks with the first `n` written. -/
abbrev written (n : ℕ) (b : Fin 26) : sProp 𝕄 :=
  Held thr (chunk arg4 (chunkOf i b)) fullShare (if b.val < n then chunkVal T Fi (chunkOf i b) else Y b)

/-- Before trip `t`: the table is in the tile's memory, and `t` chunks are written. -/
def LoopInv (t : ℕ) : sProp 𝕄 :=
  iprop(Held thr arg2 qf Fi ∗ Held thr arg5 fullShare T ∗ (∃ X, Held thr arg6 fullShare X) ∗ (∃ X, Held thr arg7 fullShare X)
    ∗ semVal (thr, SemLoc.dma r1.sem) 0 ∗ semVal (thr, SemLoc.dma r2.sem) 0
    ∗ bigSep Finset.univ (written d i arg4 T Fi Y t) ∗ Owing thr O W ι)

variable (hC : Credits arg4 arg5 arg6) (hFi : ∀ x, (Fi x).toNat < 1000)

/-- A member of a family taken out, and put back changed. -/
theorem take_one {Φ Ψ : Fin 26 → sProp 𝕄} {b : Fin 26} (h : ∀ x, x ≠ b → Φ x = Ψ x) :
    bigSep Finset.univ Φ ⊢ iprop(Φ b ∗ (Ψ b -∗ bigSep Finset.univ Ψ)) := by
  have hsp : ∀ Θ : Fin 26 → sProp 𝕄, bigSep Finset.univ Θ = iprop(Θ b ∗ bigSep (Finset.univ.erase b) Θ) := fun Θ => by
    rw [SparseCore.bigSep_erase' (Finset.mem_univ b)]
  have hrest : bigSep (Finset.univ.erase b) Φ = bigSep (Finset.univ.erase b) Ψ :=
    BI.bigSep_congr fun x hx => h x (Finset.ne_of_mem_erase hx)
  rw [hsp Φ, hsp Ψ, hrest]
  iintro ⟨H, Hr⟩
  isplitl [H]; · iexact H
  iintro H
  isplitl [H] <;> iassumption

include EC hC hFi in
theorem wp_round (t : Fin k0_t1_loop.trips) :
    iprop(LoopInv (O := O) (W := W) d ι i arg2 arg4 arg5 arg6 arg7 r1 r2 qf T Fi Y t.val ∗ Transfers.MayWaits thr ι O)
      ⊢ iprop((LoopInv (O := O) (W := W) d ι i arg2 arg4 arg5 arg6 arg7 r1 r2 qf T Fi Y (t.val + 1) -∗ Q ⟨⟩)
          -∗ wp frame (wpE defs 𝒱 thr bd) Set.univ (round (F := F) i arg2 arg4 arg5 arg6 harg6 arg7 harg7 r1 r2 t) Q) := by
  have ht : t.val < 26 := trips_eq ▸ t.isLt
  let b : Fin 26 := ⟨t.val, ht⟩
  have hw : tabOff i t = offC (chunkOf i b).val := word_off i ⟨t.val, ht⟩
  have h2 : k0_off2 i t = ![(chunkOf i b).val / 32, 512 * ((chunkOf i b).val % 32)] := word_place i ⟨t.val, ht⟩
  have h1 : k0_off1 i t = ![512 * (chunkOf i b).val] := (k0_off1_eq i t).trans (congrArg (fun n : ℕ => ![n]) (by
    show _ = 512 * (26 * (16 * (i 0).val + (i 1).val) + t.val); omega))
  have hchunk : outBlk arg4 (k0_off2 i t) (k0_off2_inb i t) = chunk arg4 (chunkOf i b) := by
    have : ∀ off h, off = ![(chunkOf i b).val / 32, 512 * ((chunkOf i b).val % 32)] → outBlk arg4 off h = chunk arg4 (chunkOf i b) := fun off h e => by subst e; rfl
    exact this _ _ h2
  have hX : (fun y => Fi ((Rect.unit (s := S425984) (k0_off1 i t) S512.size (k0_off1_inb i t)).emb y)) = numsAt Fi (chunkOf i b) := by
    funext y
    refine congrArg Fi (funext fun a => Fin.ext ?_)
    obtain rfl : a = 0 := Fin.eq_zero a
    exact (emb_unit _ _ _ y 0).trans (congrArg (fun n => n + (y 0).val) (congrFun h1 0))
  have hsame : ∀ x : Fin 26, x ≠ b → written (Ix := Ix) (Name := Name) (U := U) (Lvl := Lvl) d i arg4 T Fi Y t.val x = written d i arg4 T Fi Y (t.val + 1) x := fun x h => by
    have h1 : x.val ≠ t.val := fun e => h (Fin.ext e)
    unfold written
    by_cases hx : x.val < t.val
    · rw [if_pos hx, if_pos (by omega)]
    · rw [if_neg hx, if_neg (by omega)]
  have hval : written (Ix := Ix) (Name := Name) (U := U) (Lvl := Lvl) d i arg4 T Fi Y (t.val + 1) b
      = Held thr (chunk arg4 (chunkOf i b)) fullShare (chunkVal T Fi (chunkOf i b)) := by
    unfold written; rw [if_pos (Nat.lt_succ_self t.val)]
  have hcr : 0 < (outBlk arg4 (k0_off2 i t) (k0_off2_inb i t)).view.dmaCredit := hC.out
  have hm : ∀ X : S512.Idx → Elt F .f32, (Held thr (chunk arg4 (chunkOf i b)) fullShare X : sProp 𝕄)
      = Held thr (outBlk arg4 (k0_off2 i t) (k0_off2_inb i t)) fullShare X := fun X => congrArg (fun m => Held thr m fullShare X) hchunk.symm
  unfold LoopInv
  iintro ⟨⟨Hf, Ht, ⟨%X6, Ha⟩, ⟨%X7, Ho⟩, Hv1, Hv2, Hout, HO⟩, #Hmw⟩ Hk
  ihave Hout := (take_one (b := b) hsame) $$ Hout
  icases Hout with ⟨Hb, Hback⟩
  ihave Hb := (Entails.of_eq (hm _)) $$ Hb
  unfold round
  rw [hw]
  ihave Hf := (held_borrow thr arg2 (Rect.unit (s := S425984) (k0_off1 i t) S512.size (k0_off1_inb i t)) (fun _ => rfl) qf Fi) $$ Hf
  icases Hf with ⟨Hf, Hfb⟩
  iapply (wp_send (defs := defs) EC 𝒱 thr bd (src := inBlk arg2 (k0_off1 i t) (k0_off1_inb i t)) (dst := arg6) ι _ rfl hC.nums) $$ [Hf Ha Hv1]
  · isplitl [Hf]; · iexact Hf
    isplitl [Ha] <;> iassumption
  iintro Hs
  iapply (wp_sent (defs := defs) EC 𝒱 thr bd (src := inBlk arg2 (k0_off1 i t) (k0_off1_inb i t)) (dst := arg6) ι rfl) $$ [Hs HO]
  · isplitl [Hs]; · iexact Hs
    isplitl [HO]; · iexact HO
    iexact Hmw
  iintro ⟨Ha, Hf, Hv1, HO⟩
  ihave Hf := Hfb $$ Hf
  ihave Ha := (Entails.of_eq (congrArg (Held thr arg6 fullShare) hX)) $$ Ha
  ihave Ho := (Entails.of_eq (congrArg (Held thr arg7 fullShare) (filled_zero (chunkVal T Fi (chunkOf i b)) X7).symm)) $$ Ho
  iapply (wp_windows 𝒱 bd d (cOf i) (jOf i) arg5 arg6 arg7 (offC (chunkOf i b).val) T (numsAt Fi (chunkOf i b)) X7 (numsAt_lt hFi _) _ 32 0 rfl) $$ [Ht Ha Ho]
  · isplitl [Ht]; · iexact Ht
    isplitl [Ha] <;> iassumption
  iintro ⟨Ht, Ha, Ho⟩
  iapply (wp_send (defs := defs) EC 𝒱 thr bd (src := arg7) (dst := outBlk arg4 (k0_off2 i t) (k0_off2_inb i t)) ι _ rfl hcr) $$ [Ho Hb Hv2]
  · isplitl [Ho]; · iexact Ho
    isplitl [Hb] <;> iassumption
  iintro Hs
  iapply (wp_sent (defs := defs) EC 𝒱 thr bd (src := arg7) (dst := outBlk arg4 (k0_off2 i t) (k0_off2_inb i t)) ι rfl) $$ [Hs HO]
  · isplitl [Hs]; · iexact Hs
    isplitl [HO]; · iexact HO
    iexact Hmw
  iintro ⟨Hb, Ho, Hv2, HO⟩
  rw [show (Prog.ret PUnit.unit : Tile (F := F) (cOf i) (jOf i) PUnit).bind (fun _ => Pure.pure PUnit.unit) = Prog.ret ⟨⟩ from rfl, wp_ret]
  imodintro
  iapply Hk
  isplitl [Hf]; · iexact Hf
  isplitl [Ht]; · iexact Ht
  isplitl [Ha]; · iexists _; iexact Ha
  isplitl [Ho]; · iexists _; iexact Ho
  isplitl [Hv1]; · iexact Hv1
  isplitl [Hv2]; · iexact Hv2
  isplitr [HO]; swap; · iexact HO
  iapply Hback
  iapply (Entails.of_eq hval.symm)
  iapply (Entails.of_eq (hm _).symm) $$ Hb

/-- What the kernel holds on entry, and on exit: its inputs at their shares, its buffers, its cells at zero. -/
def Kit : sProp 𝕄 :=
  iprop(Held thr arg2 qf Fi ∗ Held thr arg3 qt T
    ∗ (∃ X, Held thr arg5 fullShare X) ∗ (∃ X, Held thr arg6 fullShare X) ∗ (∃ X, Held thr arg7 fullShare X)
    ∗ semVal (thr, SemLoc.dma r0.sem) 0 ∗ semVal (thr, SemLoc.dma r1.sem) 0 ∗ semVal (thr, SemLoc.dma r2.sem) 0)

include EC hC hFi in
theorem wp_linearProg :
    iprop(Kit d i arg2 arg3 arg5 arg6 arg7 r0 r1 r2 qf qt T Fi
        ∗ (bigSep Finset.univ fun b : Fin 26 => Held thr (chunk arg4 (chunkOf i b)) fullShare (Y b)) ∗ Owing thr O W ι ∗ Transfers.MayWaits thr ι O)
      ⊢ iprop((iprop(Kit d i arg2 arg3 arg5 arg6 arg7 r0 r1 r2 qf qt T Fi
            ∗ (bigSep Finset.univ fun b : Fin 26 => Held thr (chunk arg4 (chunkOf i b)) fullShare (chunkVal T Fi (chunkOf i b))) ∗ Owing thr O W ι) -∗ Q ⟨⟩)
          -∗ wp frame (wpE defs 𝒱 thr bd) Set.univ (linearProg (F := F) i arg2 arg3 harg3 arg4 arg5 harg5 arg6 harg6 arg7 harg7 r0 r1 r2) Q) := by
  have hstart : (bigSep Finset.univ fun b : Fin 26 => Held thr (chunk arg4 (chunkOf i b)) fullShare (Y b) : sProp 𝕄)
      = bigSep Finset.univ (written d i arg4 T Fi Y 0) :=
    BI.bigSep_congr fun b _ => by unfold written; rw [if_neg (Nat.not_lt_zero _)]
  have hend : bigSep Finset.univ (written d i arg4 T Fi Y 26)
      = (bigSep Finset.univ fun b : Fin 26 => Held thr (chunk arg4 (chunkOf i b)) fullShare (chunkVal T Fi (chunkOf i b)) : sProp 𝕄) :=
    BI.bigSep_congr fun b _ => by unfold written; rw [if_pos b.isLt]
  unfold Kit
  iintro ⟨⟨Hf, Ht, ⟨%X5, Ha⟩, HX6, HX7, Hv0, Hv1, Hv2⟩, Hout, HO, #Hmw⟩ Hk
  ihave Hout := (Entails.of_eq hstart) $$ Hout
  unfold linearProg
  rw [wp_bind]
  unfold fetch
  iapply (wp_send (defs := defs) EC 𝒱 thr bd (src := arg3) (dst := arg5) ι _ rfl hC.tab) $$ [Ht Ha Hv0]
  · isplitl [Ht]; · iexact Ht
    isplitl [Ha] <;> iassumption
  iintro Hs
  iapply (wp_sent (defs := defs) EC 𝒱 thr bd (src := arg3) (dst := arg5) ι rfl) $$ [Hs HO]
  · isplitl [Hs]; · iexact Hs
    isplitl [HO]; · iexact HO
    iexact Hmw
  iintro ⟨Ha, Ht, Hv0, HO⟩
  rw [wp_ret]
  imodintro
  iapply (Scf.wp_for_bind frame (wpE defs 𝒱 thr bd) Set.univ k0_t1_loop.lb k0_t1_loop.ub k0_t1_loop.st k0_t1_ok ⟨⟩ _
    (fun t _ => iprop(LoopInv (O := O) (W := W) d ι i arg2 arg4 arg5 arg6 arg7 r1 r2 qf T Fi Y t ∗ Transfers.MayWaits thr ι O))
    (fun t acc => by
      iintro ⟨HI, #Hmw⟩
      iapply (wp_round EC 𝒱 bd d ι i arg2 arg4 arg5 arg6 harg6 arg7 harg7 r1 r2 qf T Fi Y hC hFi t) $$ [HI]
      · isplitl [HI]; · iexact HI
        iexact Hmw
      iintro HI
      isplitl [HI]; · iexact HI
      iexact Hmw)) $$ [Hf Ha HX6 HX7 Hv1 Hv2 Hout HO]
  · unfold LoopInv
    isplitl; swap; · iexact Hmw
    isplitl [Hf]; · iexact Hf
    isplitl [Ha]; · iexact Ha
    isplitl [HX6]; · iexact HX6
    isplitl [HX7]; · iexact HX7
    isplitl [Hv1]; · iexact Hv1
    isplitl [Hv2]; · iexact Hv2
    isplitl [Hout] <;> iassumption
  iintro %acc ⟨HI, -⟩
  ihave HI := (Entails.of_eq (congrArg (LoopInv (O := O) (W := W) d ι i arg2 arg4 arg5 arg6 arg7 r1 r2 qf T Fi Y) trips_eq)) $$ HI
  unfold LoopInv
  icases HI with ⟨Hf, Ha, HX6, HX7, Hv1, Hv2, Hout, HO⟩
  ihave Hout := (Entails.of_eq hend) $$ Hout
  rw [show (Pure.pure PUnit.unit : Tile (F := F) (cOf i) (jOf i) PUnit) = Prog.ret ⟨⟩ from rfl, wp_ret]
  imodintro
  iapply Hk
  isplitr [Hout HO]; swap
  · isplitl [Hout] <;> iassumption
  isplitl [Hf]; · iexact Hf
  isplitl [Ht]; · iexact Ht
  isplitl [Ha]; · iexists _; iexact Ha
  isplitl [HX6]; · iexact HX6
  isplitl [HX7]; · iexact HX7
  isplitl [Hv0]; · iexact Hv0
  isplitl [Hv1] <;> iassumption

end Prog
end Rules

end Cert.Proof.Linear
-- ==== Proof.Launch.Setup.lean ====
/-
  The program as the launch theorem sees it: its SparseCore configuration, the ghost algebras of the handshakes, of the
  TensorCore pipelines and of the transfers, and what each of the three SparseCore calls hands its 32 tiles and gets back.
  Every tile gets a share of the list of row numbers and of the table, and all of its own 26 pieces of the output.
-/
module

public import proofs.«01_k».proof.Proof.Gather.Body
public import proofs.«01_k».proof.Proof.Linear.Body
public import proofs.«01_k».proof.Proof.Gen.KernelIdeal.Launch
public import Idealize.ShloMosaic.Lib.SparseCore.Quiescent
public import Idealize.ShloMosaic.Lib.ShareLeaves
public import Idealize.ShloMosaic.Lib.StableHlo.Run

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Gather (Held)

variable {F : FTy → Type} [FloatOps F]

abbrev ΛP : Labels := Pipeline.Sig Λ₀ (Fin 2) fun p => (pcfgs (F := F) p).Adm
abbrev K : SparseCore.Cfg τ sig (ΛP (F := F)) 3 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The ghost algebras -/

abbrev UH : Type := URounds (GSem nD τ sig) ℕ
abbrev UP : Type := URounds (GSem nD τ sig) Unit
abbrev UU : Type := UH × (UP × Counters)

local notation "𝕄" => MT nD τ sig (HIx 3) (Elt F) ℕ UU ℕ

abbrev EH : Emb UH (MT nD τ sig (HIx 3) (Elt F) ℕ UU ℕ) := embL
abbrev EP : Emb UP (MT nD τ sig (HIx 3) (Elt F) ℕ UU ℕ) := (Emb.inl : Emb UP (UP × Counters)).trans embR
abbrev EC : UEmb Counters (MT nD τ sig (HIx 3) (Elt F) ℕ UU ℕ) := countersEmb

instance EP_lands : (EP (F := F)).LandsIn (upEmb : UEmb _ 𝕄) := by unfold EP embR; infer_instance
instance EC_lands : (EC (F := F)).LandsIn (upEmb : UEmb _ 𝕄) := by unfold EC; infer_instance

/-! ## The tiles -/

/-- The coordinates of tile `j` of SparseCore `c`. -/
abbrev crd (c : Fin 2) (j : Fin 16) : grid0.Coords := fun | 0 => c | 1 => j | ⟨_ + 2, h⟩ => absurd h (Nat.not_lt.2 (Nat.le_add_left _ _))

/-- Its number among the 32. -/
def wid (i : grid0.Coords) : Fin (2 ^ 5) :=
  ⟨16 * (i 0).val + (i 1).val, by have h0 : (i 0).val < 2 := (i 0).isLt; have h1 : (i 1).val < 16 := (i 1).isLt; show _ < 32; omega⟩

/-- The tile's share of an array all tiles read. -/
def share (i : grid0.Coords) : PosShare TreeShare := ShareLeaves.leaf 5 fullShare (wid i)

abbrev aG1 : Memref sig .scVector .hbm S1664x128 .i32 := Memref.whole main_v3_scv
abbrev aG2 : Memref sig .scVector .hbm S1664x128 .i32 := Memref.whole main_v5_scv
abbrev tG : Memref sig .scVector .hbm S26000x128 .f32 := Memref.whole main_arg2_scv
abbrev oG1 : Memref sig .scVector .hbm S212992x128 .f32 := Memref.whole main_v8_scv
abbrev oG2 : Memref sig .scVector .hbm S212992x128 .f32 := Memref.whole main_v9_scv
abbrev aL : Memref sig .scVector .hbm S425984 .i32 := Memref.whole main_v6_scv
abbrev tL : Memref sig .scVector .hbm S26000 .f32 := Memref.whole main_v1_scv
abbrev oL : Memref sig .scVector .hbm S26x16384 .f32 := Memref.whole main_v7_scv

/-- What a tile of a row-gathering call holds of its operands, its pieces of the output reading `Y`. -/
def gatherGo (a : Memref sig .scVector .hbm S1664x128 .i32) (o : Memref sig .scVector .hbm S212992x128 .f32)
    (Fi : S1664x128.Idx → Elt F .i32) (T : S26000x128.Idx → Elt F .f32) (Y : Fin 832 → S256x128.Idx → Elt F .f32) (d : Dev nD) (i : grid0.Coords) : sProp 𝕄 :=
  iprop(Held (V d (Gather.cOf i) (Gather.jOf i)) a (share i) Fi ∗ Held (V d (Gather.cOf i) (Gather.jOf i)) tG (share i) T
    ∗ bigSep Finset.univ fun b : Fin 26 => Held (V d (Gather.cOf i) (Gather.jOf i)) (Gather.blk o (Gather.blkOf i b)) fullShare (Y (Gather.blkOf i b)))

/-- The same of the call that looks up the first-order numbers. -/
def linearGo (Fi : S425984.Idx → Elt F .i32) (T : S26000.Idx → Elt F .f32) (Y : Fin 832 → S512.Idx → Elt F .f32) (d : Dev nD) (i : grid0.Coords) : sProp 𝕄 :=
  iprop(Held (V d (Linear.cOf i) (Linear.jOf i)) aL (share i) Fi ∗ Held (V d (Linear.cOf i) (Linear.jOf i)) tL (share i) T
    ∗ bigSep Finset.univ fun b : Fin 26 => Held (V d (Linear.cOf i) (Linear.jOf i)) (Linear.chunk oL (Linear.chunkOf i b)) fullShare (Y (Linear.chunkOf i b)))

instance gatherGo_storable (a o Fi T Y d i) : BI.Storable (upEmb : UEmb _ 𝕄) (gatherGo (F := F) a o Fi T Y d i) := by unfold gatherGo; infer_instance
instance linearGo_storable (Fi T Y d i) : BI.Storable (upEmb : UEmb _ 𝕄) (linearGo (F := F) Fi T Y d i) := by unfold linearGo; infer_instance

/-! ## The whole outputs -/

/-- The gathered rows: block by block, the rows its numbers name. -/
def gathered {W : Type} (T : S26000x128.Idx → W) (Fi : S1664x128.Idx → BitVec 32) : S212992x128.Idx → W := fun x =>
  Gather.blockVal T Fi ⟨(x 0).val / 256, by have h : (x 0).val < 212992 := (x 0).isLt; omega⟩
    (ValueIdx.ix2 (⟨(x 0).val % 256, Nat.mod_lt _ (by decide)⟩ : Fin 256) (x 1))

/-- The looked-up numbers. -/
def lookedUp {W : Type} (T : S26000.Idx → W) (Fi : S425984.Idx → BitVec 32) : S26x16384.Idx → W := fun x =>
  Linear.chunkVal T Fi ⟨32 * (x 0).val + (x 1).val / 512, by
      have h0 : (x 0).val < 26 := (x 0).isLt; have h1 : (x 1).val < 16384 := (x 1).isLt; omega⟩
    (ValueIdx.ix1 (⟨(x 1).val % 512, Nat.mod_lt _ (by decide)⟩ : Fin 512))

/-- The rectangle of block `B`, -/
abbrev blkRect (B : Fin 832) : Rect S212992x128 := Rect.unit (s := S212992x128) ![256 * B.val, 0] S256x128.size (Gather.blk_inb B)
/-- and of chunk `B`. -/
abbrev chunkRect (B : Fin 832) : Rect S26x16384 := Rect.unit (s := S26x16384) ![B.val / 32, 512 * (B.val % 32)] S1x512.size (Linear.chunk_inb B)

/-- The pieces of an array of rows, -/
abbrev blks {W : Type} (X : S212992x128.Idx → W) (B : Fin 832) : S256x128.Idx → W := fun y => X ((blkRect B).emb y)
/-- and of the array of numbers. -/
abbrev chunks {W : Type} (X : S26x16384.Idx → W) (B : Fin 832) : S512.Idx → W := fun y =>
  X ((chunkRect B).emb (Shape.reshapeEquiv squeezes_S1x512_S512.numel_eq y))

/-! ## What the calls hand over -/

variable (VA : Dev nD → Valuation τ sig (Elt F))

/-- An array's contents. -/
abbrev at_ (d : Dev nD) (r : Ref sig .tc) : Buf (Elt F) ((T d : Thread nD τ).loc r) := VA d (Proc.devRef .tc r)

abbrev go0 (d : Dev nD) (i : grid0.Coords) : sProp 𝕄 := linearGo (at_ VA d main_v6) (at_ VA d main_v1) (chunks (at_ VA d main_v7)) d i
abbrev td0 (d : Dev nD) (i : grid0.Coords) : sProp 𝕄 := linearGo (at_ VA d main_v6) (at_ VA d main_v1) (Linear.chunkVal (at_ VA d main_v1) (at_ VA d main_v6)) d i
abbrev go1 (d : Dev nD) (i : grid0.Coords) : sProp 𝕄 := gatherGo aG1 oG1 (at_ VA d main_v3) (at_ VA d main_arg2) (blks (at_ VA d main_v8)) d i
abbrev td1 (d : Dev nD) (i : grid0.Coords) : sProp 𝕄 := gatherGo aG1 oG1 (at_ VA d main_v3) (at_ VA d main_arg2) (Gather.blockVal (at_ VA d main_arg2) (at_ VA d main_v3)) d i
abbrev go2 (d : Dev nD) (i : grid0.Coords) : sProp 𝕄 := gatherGo aG2 oG2 (at_ VA d main_v5) (at_ VA d main_arg2) (blks (at_ VA d main_v9)) d i
abbrev td2 (d : Dev nD) (i : grid0.Coords) : sProp 𝕄 := gatherGo aG2 oG2 (at_ VA d main_v5) (at_ VA d main_arg2) (Gather.blockVal (at_ VA d main_arg2) (at_ VA d main_v5)) d i

def goP (q : Fin 3) (d : Dev nD) (i : grid0.Coords) : sProp 𝕄 := match q with | 0 => go0 VA d i | 1 => go1 VA d i | 2 => go2 VA d i
def tdP (q : Fin 3) (d : Dev nD) (i : grid0.Coords) : sProp 𝕄 := match q with | 0 => td0 VA d i | 1 => td1 VA d i | 2 => td2 VA d i

instance goP_storable (q d i) : BI.Storable (upEmb : UEmb _ 𝕄) (goP VA q d i) := by unfold goP; split <;> infer_instance
instance tdP_storable (q d i) : BI.Storable (upEmb : UEmb _ 𝕄) (tdP VA q d i) := by unfold tdP; split <;> infer_instance

theorem nCore_eq : ∀ q : Fin 3, (K (F := F)).nCore q = 2 | 0 => rfl | 1 => rfl | 2 => rfl
theorem nSub_eq : ∀ q : Fin 3, (K (F := F)).nSub q = 16 | 0 => rfl | 1 => rfl | 2 => rfl

/-- The calls' payloads: a call hands its cores what their tiles get, and gets back what they leave. -/
def P : (K (F := F)).Pay (nD := nD) (Val := Elt F) (Name := ℕ) (U := UU) where
  st q d c := bigSep Finset.univ fun j : Fin ((K (F := F)).nSub q) => goP VA q d (crd (c.cast (nCore_eq q)) (j.cast (nSub_eq q)))
  dn q d c := bigSep Finset.univ fun j : Fin ((K (F := F)).nSub q) => tdP VA q d (crd (c.cast (nCore_eq q)) (j.cast (nSub_eq q)))
  go q d c j := goP VA q d (crd (c.cast (nCore_eq q)) (j.cast (nSub_eq q)))
  td q d c j := tdP VA q d (crd (c.cast (nCore_eq q)) (j.cast (nSub_eq q)))
  x := fun _ _ => iprop(emp)

instance P_storable : (P VA).IsStorable where
  st q d c := (inferInstance : BI.Storable (upEmb : UEmb _ 𝕄) (bigSep Finset.univ fun j : Fin ((K (F := F)).nSub q) => goP VA q d (crd (c.cast (nCore_eq q)) (j.cast (nSub_eq q)))))
  dn q d c := (inferInstance : BI.Storable (upEmb : UEmb _ 𝕄) (bigSep Finset.univ fun j : Fin ((K (F := F)).nSub q) => tdP VA q d (crd (c.cast (nCore_eq q)) (j.cast (nSub_eq q)))))
  go q d c j := (inferInstance : BI.Storable (upEmb : UEmb _ 𝕄) (goP VA q d (crd (c.cast (nCore_eq q)) (j.cast (nSub_eq q)))))
  td q d c j := (inferInstance : BI.Storable (upEmb : UEmb _ 𝕄) (tdP VA q d (crd (c.cast (nCore_eq q)) (j.cast (nSub_eq q)))))

theorem vecSplit (q : Fin 3) : (K (F := F)).VecSplit' (P VA) q := by
  intro d c
  show (bigSep Finset.univ fun j : Fin ((K (F := F)).nSub q) => goP VA q d (crd (c.cast (nCore_eq q)) (j.cast (nSub_eq q))))
    ⊢ |={Set.univ}=> iprop((bigSep Finset.univ fun j : Fin ((K (F := F)).nSub q) => goP VA q d (crd (c.cast (nCore_eq q)) (j.cast (nSub_eq q))))
      ∗ ((bigSep Finset.univ fun j : Fin ((K (F := F)).nSub q) => tdP VA q d (crd (c.cast (nCore_eq q)) (j.cast (nSub_eq q))))
        -∗ bigSep Finset.univ fun j : Fin ((K (F := F)).nSub q) => tdP VA q d (crd (c.cast (nCore_eq q)) (j.cast (nSub_eq q)))))
  iintro H
  imodintro
  isplitl [H]; · iexact H
  iintro H
  iexact H

end Cert.Proof.Launch

end
-- ==== Proof.Launch.Tiles.lean ====
/-
  The tiles' tasks. A tile's task is the proved kernel, run on what the call hands it, on the scratch buffers and
  semaphores its processor owns, which it returns.
-/
module

public import proofs.«01_k».proof.Proof.Launch.Setup

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Gather (Held Owing held_whole)

variable {F : FTy → Type} [FloatOps F]

local notation "𝕄" => MT nD τ sig (HIx 3) (Elt F) ℕ UU ℕ

/-! ## A processor's own buffers and semaphores -/

section Own

variable (d : Dev nD) (c : Fin τ.nSC) (j : Fin τ.nSub)

/-- Some of a tile's buffers out of all it owns. -/
theorem bufs_out {n : ℕ} (s : Fin n → Ref sig .scVector) (hs : Function.Injective s)
    (ho : ∀ k, ((Proc.scVector c j).devRef (s k)).owner = .proc (Proc.scVector c j : Proc τ)) :
    (ownBufs (V d c j) : sProp 𝕄) = iprop((bigSep Finset.univ fun k => iprop(∃ f, (V d c j).loc (s k) ↦{fullShare} f))
      ∗ bigSep (ownRefs (τ := τ) (.scVector c j) \ Finset.univ.map ⟨fun k => (Proc.scVector c j).devRef (s k), fun a b h => hs (Proc.devRef_injective _ h)⟩)
          fun b => iprop(∃ f, ((d, b) : Loc nD τ sig) ↦{fullShare} f)) := by
  unfold SparseCore.Cfg.ownBufs
  have hsub : Finset.univ.map ⟨fun k => (Proc.scVector c j).devRef (s k), fun a b h => hs (Proc.devRef_injective _ h)⟩ ⊆ ownRefs (τ := τ) (sig := sig) (.scVector c j) := by
    intro b hb
    obtain ⟨k, -, rfl⟩ := Finset.mem_map.mp hb
    exact SparseCore.Cfg.mem_ownRefs_of_owner (ho k)
  conv_lhs => rw [← Finset.union_sdiff_of_subset hsub]
  rw [bigSep_union Finset.disjoint_sdiff, bigSep_map]
  rfl

/-- Some of its semaphores out of all it owns. -/
theorem sems_out {n : ℕ} (s : Fin n → SemLoc sig) (hs : Function.Injective s) (ho : ∀ k, (s k).isScoped .scVector = true) :
    (ownSems0 (V d c j) : sProp 𝕄) = iprop((bigSep Finset.univ fun k => semVal (V d c j, s k) 0)
      ∗ bigSep (ownCells (V d c j) \ Finset.univ.map ⟨fun k => ((V d c j, s k) : GSem nD τ sig), fun a b h => hs (congrArg Prod.snd h)⟩) fun g => semVal g 0) := by
  unfold SparseCore.Cfg.ownSems0
  have hsub : Finset.univ.map ⟨fun k => ((V d c j, s k) : GSem nD τ sig), fun a b h => hs (congrArg Prod.snd h)⟩ ⊆ ownCells (V d c j) := by
    intro b hb
    obtain ⟨k, -, rfl⟩ := Finset.mem_map.mp hb
    exact mem_ownCells.mpr ⟨rfl, ho k⟩
  conv_lhs => rw [← Finset.union_sdiff_of_subset hsub]
  rw [bigSep_union Finset.disjoint_sdiff, bigSep_map]
  rfl

theorem sep_fin3 (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]
theorem sep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]
theorem sep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem held_some (b : Ref sig .scVector) :
    (iprop(∃ f, (V d c j).loc b ↦{fullShare} f) : sProp 𝕄) = iprop(∃ X, Held (V d c j) (Memref.whole b) fullShare X) :=
  congrArg BIBase.exists (funext fun X => (held_whole (V d c j) b fullShare X).symm)

end Own

/-! ## The three tasks -/

section Tasks

variable (d : Dev nD) (i : grid0.Coords)

local notation "𝔱" => V d (Gather.cOf i) (Gather.jOf i)

/-- A row-gathering kernel as a task, its scratch among what the processor owns. -/
theorem gather_task (a : Memref sig .scVector .hbm S1664x128 .i32) (o : Memref sig .scVector .hbm S212992x128 .f32)
    (arg5 : Memref sig .scVector .vmem S2x128 .i32) (harg5 : arg5.IsWhole) (arg6 : Memref sig .scVector .vmem S2x128 .i32) (harg6 : arg6.IsWhole)
    (arg7 : Memref sig .scVector .vmem S256x128 .f32) (harg7 : arg7.IsWhole) (arg8 : Memref sig .scVector .vmem S256x128 .f32) (harg8 : arg8.IsWhole)
    (arg9 arg10 arg11 arg12 r0 r1 r2 r3 : DmaSems sig S_) (RB RS : sProp 𝕄)
    (hB : (scopedBufs 𝔱 : sProp 𝕄) = iprop(((∃ X, Held 𝔱 arg5 fullShare X) ∗ (∃ X, Held 𝔱 arg6 fullShare X) ∗ (∃ X, Held 𝔱 arg7 fullShare X)
      ∗ (∃ X, Held 𝔱 arg8 fullShare X)) ∗ RB))
    (hS : (scopedSems0 𝔱 : sProp 𝕄) = iprop((semVal (𝔱, SemLoc.dma arg9.sem) 0 ∗ semVal (𝔱, SemLoc.dma arg10.sem) 0 ∗ semVal (𝔱, SemLoc.dma arg11.sem) 0
      ∗ semVal (𝔱, SemLoc.dma arg12.sem) 0 ∗ semVal (𝔱, SemLoc.dma r0.sem) 0 ∗ semVal (𝔱, SemLoc.dma r1.sem) 0 ∗ semVal (𝔱, SemLoc.dma r2.sem) 0
      ∗ semVal (𝔱, SemLoc.dma r3.sem) 0) ∗ RS))
    (hC : Gather.Credits o arg5 arg6 arg7 arg8) (Fi : S1664x128.Idx → Elt F .i32) (T : S26000x128.Idx → Elt F .f32) (Y : Fin 832 → S256x128.Idx → Elt F .f32)
    (hFi : ∀ x, (Fi x).toNat < 1000) (O : CellTallies nD τ sig (HIx 3)) (W : Waits sig (HIx 3)) (hO : ∀ g, O g none = 0) :
    iprop(levAts (K (F := F)).L (K (F := F)).lev ∗ emp ∗ gatherGo a o Fi T Y d i ∗ scopedBufs 𝔱 ∗ scopedSems0 𝔱 ∗ owes 𝔱 O W)
      ⊢ wp frame (wpE (defs₀ (F := F)) 𝒱₀ 𝔱 none) Set.univ
          (Gather.gatherProg (F := F) i a tG o arg5 harg5 arg6 harg6 arg7 harg7 arg8 harg8 arg9 arg10 arg11 arg12 r0 r1 r2 r3)
          fun _ => iprop(gatherGo a o Fi T (Gather.blockVal T Fi) d i ∗ scopedBufs 𝔱 ∗ scopedSems0 𝔱
            ∗ ∃ W', ⌜∀ p ∈ W', p ∈ W ∨ p.2 = none⌝ ∗ owes 𝔱 O W') := by
  rw [hB, hS]
  iintro ⟨#Hlv, -, Hgo, ⟨⟨H5, H6, H7, H8⟩, HRB⟩, ⟨⟨S0, S1, S2, S3, S4, S5, S6, S7⟩, HRS⟩, HO⟩
  ihave Hmw := (show levAts (K (F := F)).L (K (F := F)).lev ⊢ Transfers.MayWaits 𝔱 (none : HIx 3) O from
    (K (F := F)).mayWaits_none hO) $$ Hlv
  unfold gatherGo
  icases Hgo with ⟨Ha, Ht, Hb⟩
  iapply (Gather.wp_gatherProg (EC (F := F)) 𝒱₀ none d none i a tG o arg5 harg5 arg6 harg6 arg7 harg7 arg8 harg8 arg9 arg10 arg11 arg12 r0 r1 r2 r3
    (share i) (share i) T Fi (fun b => Y (Gather.blkOf i b)) hC hFi (O := O) (W := W)) $$ [Ha Ht Hb H5 H6 H7 H8 S0 S1 S2 S3 S4 S5 S6 S7 HO Hmw]
  · isplitl [Ha Ht H5 H6 H7 H8 S0 S1 S2 S3 S4 S5 S6 S7]
    · unfold Gather.Kit
      isplitl [Ha]; · iexact Ha
      isplitl [Ht]; · iexact Ht
      isplitl [H5]; · iexact H5
      isplitl [H6]; · iexact H6
      isplitl [H7]; · iexact H7
      isplitl [H8]; · iexact H8
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [Hb]; · iexact Hb
    isplitl [HO]
    · unfold Gather.Owing
      iexists W
      isplitr; · ipureintro; exact fun p hp => .inl hp
      iexact HO
    iexact Hmw
  unfold Gather.Kit Gather.Owing
  iintro ⟨⟨Ha, Ht, H5, H6, H7, H8, S0, S1, S2, S3, S4, S5, S6, S7⟩, Hb, HO⟩
  isplitl [Ha Ht Hb]
  · isplitl [Ha]; · iexact Ha
    isplitl [Ht]; · iexact Ht
    iexact Hb
  isplitl [H5 H6 H7 H8 HRB]
  · isplitl [H5 H6 H7 H8]
    · isplitl [H5]; · iexact H5
      isplitl [H6]; · iexact H6
      isplitl [H7]; · iexact H7
      iexact H8
    iexact HRB
  isplitl [S0 S1 S2 S3 S4 S5 S6 S7 HRS]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact HRS
  iexact HO

/-- The first-order call's kernel as a task. -/
theorem linear_task (arg5 : Memref sig .scVector .vmem S26000 .f32) (harg5 : arg5.IsWhole) (arg6 : Memref sig .scVector .vmem S512 .i32) (harg6 : arg6.IsWhole)
    (arg7 : Memref sig .scVector .vmem S512 .f32) (harg7 : arg7.IsWhole) (htL : tL.IsWhole) (r0 r1 r2 : DmaSems sig S_) (RB RS : sProp 𝕄)
    (hB : (scopedBufs 𝔱 : sProp 𝕄) = iprop(((∃ X, Held 𝔱 arg5 fullShare X) ∗ (∃ X, Held 𝔱 arg6 fullShare X) ∗ (∃ X, Held 𝔱 arg7 fullShare X)) ∗ RB))
    (hS : (scopedSems0 𝔱 : sProp 𝕄) = iprop((semVal (𝔱, SemLoc.dma r0.sem) 0 ∗ semVal (𝔱, SemLoc.dma r1.sem) 0 ∗ semVal (𝔱, SemLoc.dma r2.sem) 0) ∗ RS))
    (hC : Linear.Credits oL arg5 arg6) (Fi : S425984.Idx → Elt F .i32) (T : S26000.Idx → Elt F .f32) (Y : Fin 832 → S512.Idx → Elt F .f32)
    (hFi : ∀ x, (Fi x).toNat < 1000) (O : CellTallies nD τ sig (HIx 3)) (W : Waits sig (HIx 3)) (hO : ∀ g, O g none = 0) :
    iprop(levAts (K (F := F)).L (K (F := F)).lev ∗ emp ∗ linearGo Fi T Y d i ∗ scopedBufs 𝔱 ∗ scopedSems0 𝔱 ∗ owes 𝔱 O W)
      ⊢ wp frame (wpE (defs₀ (F := F)) 𝒱₀ 𝔱 none) Set.univ
          (Linear.linearProg (F := F) i aL tL htL oL arg5 harg5 arg6 harg6 arg7 harg7 r0 r1 r2)
          fun _ => iprop(linearGo Fi T (Linear.chunkVal T Fi) d i ∗ scopedBufs 𝔱 ∗ scopedSems0 𝔱
            ∗ ∃ W', ⌜∀ p ∈ W', p ∈ W ∨ p.2 = none⌝ ∗ owes 𝔱 O W') := by
  rw [hB, hS]
  iintro ⟨#Hlv, -, Hgo, ⟨⟨H5, H6, H7⟩, HRB⟩, ⟨⟨S0, S1, S2⟩, HRS⟩, HO⟩
  ihave Hmw := (show levAts (K (F := F)).L (K (F := F)).lev ⊢ Transfers.MayWaits 𝔱 (none : HIx 3) O from
    (K (F := F)).mayWaits_none hO) $$ Hlv
  unfold linearGo
  icases Hgo with ⟨Ha, Ht, Hb⟩
  iapply (Linear.wp_linearProg (EC (F := F)) 𝒱₀ none d none i aL tL htL oL arg5 harg5 arg6 harg6 arg7 harg7 r0 r1 r2
    (share i) (share i) T Fi (fun b => Y (Linear.chunkOf i b)) hC hFi (O := O) (W := W)) $$ [Ha Ht Hb H5 H6 H7 S0 S1 S2 HO Hmw]
  · isplitl [Ha Ht H5 H6 H7 S0 S1 S2]
    · unfold Linear.Kit
      isplitl [Ha]; · iexact Ha
      isplitl [Ht]; · iexact Ht
      isplitl [H5]; · iexact H5
      isplitl [H6]; · iexact H6
      isplitl [H7]; · iexact H7
      isplitl [S0]; · iexact S0
      isplitl [S1]; · iexact S1
      iexact S2
    isplitl [Hb]; · iexact Hb
    isplitl [HO]
    · unfold Gather.Owing
      iexists W
      isplitr; · ipureintro; exact fun p hp => .inl hp
      iexact HO
    iexact Hmw
  unfold Linear.Kit Gather.Owing
  iintro ⟨⟨Ha, Ht, H5, H6, H7, S0, S1, S2⟩, Hb, HO⟩
  isplitl [Ha Ht Hb]
  · isplitl [Ha]; · iexact Ha
    isplitl [Ht]; · iexact Ht
    iexact Hb
  isplitl [H5 H6 H7 HRB]
  · isplitl [H5 H6 H7]
    · isplitl [H5]; · iexact H5
      isplitl [H6]; · iexact H6
      iexact H7
    iexact HRB
  isplitl [S0 S1 S2 HRS]
  · isplitl [S0 S1 S2]
    · isplitl [S0]; · iexact S0
      isplitl [S1]; · iexact S1
      iexact S2
    iexact HRS
  iexact HO

end Tasks

/-! ## What each call's scratch is -/

section Scratch

variable (d : Dev nD) (c : Fin τ.nSC) (j : Fin τ.nSub)

abbrev bufs0 : Fin 3 → Ref sig .scVector := ![cc0_scratch0, cc0_scratch1, cc0_scratch2]
abbrev bufs1 : Fin 4 → Ref sig .scVector := ![cc1_scratch0, cc1_scratch1, cc1_scratch2, cc1_scratch3]
abbrev bufs2 : Fin 4 → Ref sig .scVector := ![cc2_scratch0, cc2_scratch1, cc2_scratch2, cc2_scratch3]
abbrev sems0 : Fin 3 → SemLoc sig := ![.dma cc0_scoped0.sem, .dma cc0_scoped1.sem, .dma cc0_scoped2.sem]
abbrev sems1 : Fin 8 → SemLoc sig := ![.dma cc1_scratch4.sem, .dma cc1_scratch5.sem, .dma cc1_scratch6.sem, .dma cc1_scratch7.sem,
  .dma cc1_scoped0.sem, .dma cc1_scoped1.sem, .dma cc1_scoped2.sem, .dma cc1_scoped3.sem]
abbrev sems2 : Fin 8 → SemLoc sig := ![.dma cc2_scratch4.sem, .dma cc2_scratch5.sem, .dma cc2_scratch6.sem, .dma cc2_scratch7.sem,
  .dma cc2_scoped0.sem, .dma cc2_scoped1.sem, .dma cc2_scoped2.sem, .dma cc2_scoped3.sem]

theorem scopedBufs_out4 (s : Fin 4 → Ref sig .scVector) (hs : Function.Injective s)
    (ho : ∀ k, ((Proc.scVector c j).devRef (s k)).owner = .proc (Proc.scVector c j : Proc τ)) :
    ∃ R : sProp 𝕄, (scopedBufs (V d c j) : sProp 𝕄) = iprop(((∃ X, Held (V d c j) (Memref.whole (s 0)) fullShare X) ∗ (∃ X, Held (V d c j) (Memref.whole (s 1)) fullShare X)
      ∗ (∃ X, Held (V d c j) (Memref.whole (s 2)) fullShare X) ∗ (∃ X, Held (V d c j) (Memref.whole (s 3)) fullShare X)) ∗ R) :=
  ⟨_, by rw [(K (F := F)).scopedBufs_V facts d c j, bufs_out d c j s hs ho, sep_fin4]; simp only [held_some]; rfl⟩

theorem scopedBufs_out3 (s : Fin 3 → Ref sig .scVector) (hs : Function.Injective s)
    (ho : ∀ k, ((Proc.scVector c j).devRef (s k)).owner = .proc (Proc.scVector c j : Proc τ)) :
    ∃ R : sProp 𝕄, (scopedBufs (V d c j) : sProp 𝕄) = iprop(((∃ X, Held (V d c j) (Memref.whole (s 0)) fullShare X) ∗ (∃ X, Held (V d c j) (Memref.whole (s 1)) fullShare X)
      ∗ (∃ X, Held (V d c j) (Memref.whole (s 2)) fullShare X)) ∗ R) :=
  ⟨_, by rw [(K (F := F)).scopedBufs_V facts d c j, bufs_out d c j s hs ho, sep_fin3]; simp only [held_some]; rfl⟩

theorem scopedSems_out8 (s : Fin 8 → SemLoc sig) (hs : Function.Injective s) (ho : ∀ k, (s k).isScoped .scVector = true) :
    ∃ R : sProp 𝕄, (scopedSems0 (V d c j) : sProp 𝕄) = iprop((semVal (V d c j, s 0) 0 ∗ semVal (V d c j, s 1) 0 ∗ semVal (V d c j, s 2) 0 ∗ semVal (V d c j, s 3) 0
      ∗ semVal (V d c j, s 4) 0 ∗ semVal (V d c j, s 5) 0 ∗ semVal (V d c j, s 6) 0 ∗ semVal (V d c j, s 7) 0) ∗ R) :=
  ⟨_, by rw [SparseCore.Cfg.scopedSems0_V (Val := Elt F) d c j, sems_out d c j s hs ho, sep_fin8]⟩

theorem scopedSems_out3 (s : Fin 3 → SemLoc sig) (hs : Function.Injective s) (ho : ∀ k, (s k).isScoped .scVector = true) :
    ∃ R : sProp 𝕄, (scopedSems0 (V d c j) : sProp 𝕄) = iprop((semVal (V d c j, s 0) 0 ∗ semVal (V d c j, s 1) 0 ∗ semVal (V d c j, s 2) 0) ∗ R) :=
  ⟨_, by rw [SparseCore.Cfg.scopedSems0_V (Val := Elt F) d c j, sems_out d c j s hs ho, sep_fin3]⟩

end Scratch

/-! ## The obligations -/

theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (VA : Dev nD → Valuation τ sig (Elt F))

theorem tile0 (hA : ∀ d x, (at_ VA d main_v6 x).toNat < 1000) (d : Dev nD) (i : grid0.Coords) (O : CellTallies nD τ sig (HIx 3)) (W : Waits sig (HIx 3)) (hO : ∀ g, O g none = 0) :
    iprop(levAts (K (F := F)).L (K (F := F)).lev ∗ emp ∗ go0 VA d i ∗ scopedBufs (V d (Gather.cOf i) (Gather.jOf i)) ∗ scopedSems0 (V d (Gather.cOf i) (Gather.jOf i))
        ∗ owes (V d (Gather.cOf i) (Gather.jOf i)) O W)
      ⊢ wp frame (wpE (defs₀ (F := F)) 𝒱₀ (V d (Gather.cOf i) (Gather.jOf i)) none) Set.univ
          (cc0_k (F := F) i aL (Memref.isWhole_whole _) tL (Memref.isWhole_whole _) oL (Memref.isWhole_whole _)
            (Memref.whole cc0_scratch0) (Memref.isWhole_whole _) (Memref.whole cc0_scratch1) (Memref.isWhole_whole _) (Memref.whole cc0_scratch2) (Memref.isWhole_whole _)
            cc0_scoped0 cc0_scoped1 cc0_scoped2)
          fun _ => iprop(td0 VA d i ∗ scopedBufs (V d (Gather.cOf i) (Gather.jOf i)) ∗ scopedSems0 (V d (Gather.cOf i) (Gather.jOf i))
            ∗ ∃ W', ⌜∀ p ∈ W', p ∈ W ∨ p.2 = none⌝ ∗ owes (V d (Gather.cOf i) (Gather.jOf i)) O W') := by
  obtain ⟨RB, hB⟩ := scopedBufs_out3 (F := F) d (Gather.cOf i) (Gather.jOf i) bufs0 (by decide) (fun | 0 => rfl | 1 => rfl | 2 => rfl)
  obtain ⟨RS, hS⟩ := scopedSems_out3 (F := F) d (Gather.cOf i) (Gather.jOf i) sems0 (by decide) (by decide)
  rw [Linear.cc0_k_eq]
  exact linear_task d i _ _ _ _ _ _ _ _ _ _ RB RS hB hS ⟨by decide, by decide, by decide⟩ _ _ _ (hA d) O W hO

theorem tile1 (hA : ∀ d x, (at_ VA d main_v3 x).toNat < 1000) (d : Dev nD) (i : grid0.Coords) (O : CellTallies nD τ sig (HIx 3)) (W : Waits sig (HIx 3)) (hO : ∀ g, O g none = 0) :
    iprop(levAts (K (F := F)).L (K (F := F)).lev ∗ emp ∗ go1 VA d i ∗ scopedBufs (V d (Gather.cOf i) (Gather.jOf i)) ∗ scopedSems0 (V d (Gather.cOf i) (Gather.jOf i))
        ∗ owes (V d (Gather.cOf i) (Gather.jOf i)) O W)
      ⊢ wp frame (wpE (defs₀ (F := F)) 𝒱₀ (V d (Gather.cOf i) (Gather.jOf i)) none) Set.univ
          (cc1_k (F := F) i aG1 (Memref.isWhole_whole _) tG (Memref.isWhole_whole _) oG1 (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scratch6 cc1_scratch7 cc1_scoped0 cc1_scoped1 cc1_scoped2 cc1_scoped3)
          fun _ => iprop(td1 VA d i ∗ scopedBufs (V d (Gather.cOf i) (Gather.jOf i)) ∗ scopedSems0 (V d (Gather.cOf i) (Gather.jOf i))
            ∗ ∃ W', ⌜∀ p ∈ W', p ∈ W ∨ p.2 = none⌝ ∗ owes (V d (Gather.cOf i) (Gather.jOf i)) O W') := by
  obtain ⟨RB, hB⟩ := scopedBufs_out4 (F := F) d (Gather.cOf i) (Gather.jOf i) bufs1 (by decide) (fun | 0 => rfl | 1 => rfl | 2 => rfl | 3 => rfl)
  obtain ⟨RS, hS⟩ := scopedSems_out8 (F := F) d (Gather.cOf i) (Gather.jOf i) sems1 (by decide) (by decide)
  rw [Gather.cc1_k_eq]
  exact gather_task d i _ _ _ _ _ _ _ _ _ _ _ _ _ _ _ _ _ _ RB RS hB hS ⟨by decide, by decide, by decide, by decide, by decide, by decide, by decide⟩ _ _ _ (hA d) O W hO

theorem tile2 (hA : ∀ d x, (at_ VA d main_v5 x).toNat < 1000) (d : Dev nD) (i : grid0.Coords) (O : CellTallies nD τ sig (HIx 3)) (W : Waits sig (HIx 3)) (hO : ∀ g, O g none = 0) :
    iprop(levAts (K (F := F)).L (K (F := F)).lev ∗ emp ∗ go2 VA d i ∗ scopedBufs (V d (Gather.cOf i) (Gather.jOf i)) ∗ scopedSems0 (V d (Gather.cOf i) (Gather.jOf i))
        ∗ owes (V d (Gather.cOf i) (Gather.jOf i)) O W)
      ⊢ wp frame (wpE (defs₀ (F := F)) 𝒱₀ (V d (Gather.cOf i) (Gather.jOf i)) none) Set.univ
          (cc2_k (F := F) i aG2 (Memref.isWhole_whole _) tG (Memref.isWhole_whole _) oG2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            cc2_scratch4 cc2_scratch5 cc2_scratch6 cc2_scratch7 cc2_scoped0 cc2_scoped1 cc2_scoped2 cc2_scoped3)
          fun _ => iprop(td2 VA d i ∗ scopedBufs (V d (Gather.cOf i) (Gather.jOf i)) ∗ scopedSems0 (V d (Gather.cOf i) (Gather.jOf i))
            ∗ ∃ W', ⌜∀ p ∈ W', p ∈ W ∨ p.2 = none⌝ ∗ owes (V d (Gather.cOf i) (Gather.jOf i)) O W') := by
  obtain ⟨RB, hB⟩ := scopedBufs_out4 (F := F) d (Gather.cOf i) (Gather.jOf i) bufs2 (by decide) (fun | 0 => rfl | 1 => rfl | 2 => rfl | 3 => rfl)
  obtain ⟨RS, hS⟩ := scopedSems_out8 (F := F) d (Gather.cOf i) (Gather.jOf i) sems2 (by decide) (by decide)
  rw [Gather.cc2_k_eq]
  exact gather_task d i _ _ _ _ _ _ _ _ _ _ _ _ _ _ _ _ _ _ RB RS hB hS ⟨by decide, by decide, by decide, by decide, by decide, by decide, by decide⟩ _ _ _ (hA d) O W hO

theorem defs₀_0 (c : Fin τ.nSC) (s : Fin τ.nSub) :
    defs₀ (F := F) (.scVector c s) 0 () = SparseCore.onTile hcore0 hsub0 (fun c s => cc0_k (crd c s) aL (Memref.isWhole_whole _) tL (Memref.isWhole_whole _) oL (Memref.isWhole_whole _)
            (Memref.whole cc0_scratch0) (Memref.isWhole_whole _) (Memref.whole cc0_scratch1) (Memref.isWhole_whole _) (Memref.whole cc0_scratch2) (Memref.isWhole_whole _)
            cc0_scoped0 cc0_scoped1 cc0_scoped2) ⟨⟩ c s := rfl

theorem defs₀_1 (c : Fin τ.nSC) (s : Fin τ.nSub) :
    defs₀ (F := F) (.scVector c s) 1 () = SparseCore.onTile hcore1 hsub1 (fun c s => cc1_k (crd c s) aG1 (Memref.isWhole_whole _) tG (Memref.isWhole_whole _) oG1 (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scratch6 cc1_scratch7 cc1_scoped0 cc1_scoped1 cc1_scoped2 cc1_scoped3) ⟨⟩ c s := rfl

theorem defs₀_2 (c : Fin τ.nSC) (s : Fin τ.nSub) :
    defs₀ (F := F) (.scVector c s) 2 () = SparseCore.onTile hcore2 hsub2 (fun c s => cc2_k (crd c s) aG2 (Memref.isWhole_whole _) tG (Memref.isWhole_whole _) oG2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            cc2_scratch4 cc2_scratch5 cc2_scratch6 cc2_scratch7 cc2_scoped0 cc2_scoped1 cc2_scoped2 cc2_scoped3) ⟨⟩ c s := rfl

/-- What the proof asks of the calls' row numbers. -/
structure InRange : Prop where
  all : ∀ d x, (at_ VA d main_v6 x).toNat < 1000
  lower : ∀ d x, (at_ VA d main_v3 x).toNat < 1000
  upper : ∀ d x, (at_ VA d main_v5 x).toNat < 1000

set_option maxRecDepth 16384 in
theorem tileObl0 (hA : InRange VA) : (K (F := F)).TileObl (D (F := F)) 𝒱 (P VA) v₀ 0 := by
  intro d c i O W hO _ _
  simp only [show (P VA).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_0]; simp only [SparseCore.onTile, hci, and_self, ↓reduceDIte]
  exact (tile0 VA hA.all d (crd ⟨_, hci.1⟩ ⟨_, hci.2⟩) O W hO).trans (wp_mono frame _ _ fun _ => obl_post)

set_option maxRecDepth 16384 in
theorem tileObl1 (hA : InRange VA) : (K (F := F)).TileObl (D (F := F)) 𝒱 (P VA) v₀ 1 := by
  intro d c i O W hO _ _
  simp only [show (P VA).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_1]; simp only [SparseCore.onTile, hci, and_self, ↓reduceDIte]
  exact (tile1 VA hA.lower d (crd ⟨_, hci.1⟩ ⟨_, hci.2⟩) O W hO).trans (wp_mono frame _ _ fun _ => obl_post)

set_option maxRecDepth 16384 in
theorem tileObl2 (hA : InRange VA) : (K (F := F)).TileObl (D (F := F)) 𝒱 (P VA) v₀ 2 := by
  intro d c i O W hO _ _
  simp only [show (P VA).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_2]; simp only [SparseCore.onTile, hci, and_self, ↓reduceDIte]
  exact (tile2 VA hA.upper d (crd ⟨_, hci.1⟩ ⟨_, hci.2⟩) O W hO).trans (wp_mono frame _ _ fun _ => obl_post)

end Cert.Proof.Launch

end
-- ==== Proof.Launch.Arrays.lean ====
/-
  Dealing whole arrays to the 32 tiles and collecting them again: an array every tile reads goes out in 32 shares, an
  output in 832 pieces of which each tile gets 26.
-/
module

public import proofs.«01_k».proof.Proof.Launch.Tiles

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Gather (Held held_whole held_parts held_join held_squeeze emb_unit)

variable {F : FTy → Type} [FloatOps F]

local notation "𝕄" => MT nD τ sig (HIx 3) (Elt F) ℕ UU ℕ

/-! ## The pieces of the outputs -/

theorem blk_row (B : Fin 832) (y : S256x128.Idx) : (((blkRect B).emb y) 0).val = 256 * B.val + (y 0).val := emb_unit (s := S212992x128) _ _ (Gather.blk_inb B) y 0
theorem blk_col (B : Fin 832) (y : S256x128.Idx) : (((blkRect B).emb y) 1).val = (y 1).val :=
  (emb_unit (s := S212992x128) _ _ (Gather.blk_inb B) y 1).trans (Nat.zero_add _)
theorem chunk_row (B : Fin 832) (y : S1x512.Idx) : (((chunkRect B).emb y) 0).val = B.val / 32 := by
  have h0 : (y 0).val < 1 := (y 0).isLt
  have h : (((chunkRect B).emb y) 0).val = B.val / 32 + (y 0).val := emb_unit (s := S26x16384) _ _ (Linear.chunk_inb B) y 0
  omega
theorem chunk_col (B : Fin 832) (y : S1x512.Idx) : (((chunkRect B).emb y) 1).val = 512 * (B.val % 32) + (y 1).val :=
  emb_unit (s := S26x16384) _ _ (Linear.chunk_inb B) y 1

theorem blk_apart (B B' : Fin 832) (h : B ≠ B') (x y) : (blkRect B).emb x ≠ (blkRect B').emb y := fun e => h (Fin.ext (by
  have e0 := congrArg (fun z : S212992x128.Idx => (z 0).val) e
  have hx : (x 0).val < 256 := (x 0).isLt
  have hy : (y 0).val < 256 := (y 0).isLt
  have e1 := (blk_row B x).symm.trans (e0.trans (blk_row B' y))
  omega))

theorem blk_cover (x : S212992x128.Idx) : ∃ B y, (blkRect B).emb y = x := by
  have h : (x 0).val < 212992 := (x 0).isLt
  refine ⟨⟨(x 0).val / 256, by omega⟩, ValueIdx.ix2 (⟨(x 0).val % 256, Nat.mod_lt _ (by decide)⟩ : Fin 256) (x 1), funext fun a => Fin.ext ?_⟩
  match a with
  | 0 => exact (blk_row _ _).trans (Nat.div_add_mod (x 0).val 256)
  | 1 => exact blk_col _ _

theorem chunk_apart (B B' : Fin 832) (h : B ≠ B') (x y) : (chunkRect B).emb x ≠ (chunkRect B').emb y := fun e => h (Fin.ext (by
  have e0 := (chunk_row B x).symm.trans ((congrArg (fun z : S26x16384.Idx => (z 0).val) e).trans (chunk_row B' y))
  have e1 := (chunk_col B x).symm.trans ((congrArg (fun z : S26x16384.Idx => (z 1).val) e).trans (chunk_col B' y))
  have hx : (x 1).val < 512 := (x 1).isLt
  have hy : (y 1).val < 512 := (y 1).isLt
  omega))

theorem chunk_cover (x : S26x16384.Idx) : ∃ B y, (chunkRect B).emb y = x := by
  have h0 : (x 0).val < 26 := (x 0).isLt
  have h1 : (x 1).val < 16384 := (x 1).isLt
  refine ⟨⟨32 * (x 0).val + (x 1).val / 512, by omega⟩, ValueIdx.ix2 (0 : Fin 1) (⟨(x 1).val % 512, Nat.mod_lt _ (by decide)⟩ : Fin 512), funext fun a => Fin.ext ?_⟩
  match a with
  | 0 => exact (chunk_row _ _).trans (by show (32 * (x 0).val + (x 1).val / 512) / 32 = (x 0).val; omega)
  | 1 => exact (chunk_col _ _).trans (by show 512 * ((32 * (x 0).val + (x 1).val / 512) % 32) + (x 1).val % 512 = (x 1).val; omega)

/-- The gathered rows' blocks are the blocks the tiles leave, -/
theorem blks_gathered {W : Type} (T : S26000x128.Idx → W) (Fi : S1664x128.Idx → BitVec 32) : blks (gathered T Fi) = Gather.blockVal T Fi := by
  funext B y
  have h0 := blk_row B y
  have h1 := blk_col B y
  have hy : (y 0).val < 256 := (y 0).isLt
  unfold blks gathered
  have eB : ∀ h, (⟨(((blkRect B).emb y) 0).val / 256, h⟩ : Fin 832) = B := fun h => Fin.ext (by show _ / 256 = _; omega)
  rw [eB]
  refine congrArg (Gather.blockVal T Fi B) (funext fun a => Fin.ext ?_)
  match a with
  | 0 => show (((blkRect B).emb y) 0).val % 256 = (y 0).val; omega
  | 1 => exact h1

/-- and so the looked-up numbers' chunks. -/
theorem chunks_lookedUp {W : Type} (T : S26000.Idx → W) (Fi : S425984.Idx → BitVec 32) : chunks (lookedUp T Fi) = Linear.chunkVal T Fi := by
  funext B y
  have hz : (Shape.reshapeEquiv squeezes_S1x512_S512.numel_eq y : S1x512.Idx) 1 = y 0 := by
    refine Fin.ext ?_
    have h := Shape.rowMajor_val_two (Shape.reshapeEquiv squeezes_S1x512_S512.numel_eq y : S1x512.Idx)
    have h' : (S1x512.rowMajor (Shape.reshapeEquiv squeezes_S1x512_S512.numel_eq y : S1x512.Idx)).val = (S512.rowMajor y).val := by
      simp [Shape.reshapeEquiv]
    have h'' := Shape.rowMajor_val_one y
    have hz0 : ((Shape.reshapeEquiv squeezes_S1x512_S512.numel_eq y : S1x512.Idx) 0).val < 1 := Fin.isLt _
    rw [h', h''] at h
    have hs : (y 0).val = ((Shape.reshapeEquiv squeezes_S1x512_S512.numel_eq y : S1x512.Idx) 0).val * 512
      + ((Shape.reshapeEquiv squeezes_S1x512_S512.numel_eq y : S1x512.Idx) 1).val := h
    omega
  unfold chunks
  generalize (Shape.reshapeEquiv squeezes_S1x512_S512.numel_eq y : S1x512.Idx) = z at hz
  have h0 := chunk_row B z
  have h1 := chunk_col B z
  have hz1 : (z 1).val < 512 := (z 1).isLt
  unfold lookedUp
  have eB : ∀ h, (⟨32 * (((chunkRect B).emb z) 0).val + (((chunkRect B).emb z) 1).val / 512, h⟩ : Fin 832) = B := fun h => Fin.ext (by
    show 32 * _ + _ / 512 = _; rw [h0, h1]; omega)
  rw [eB]
  refine congrArg (Linear.chunkVal T Fi B) (funext fun a => Fin.ext ?_)
  obtain rfl : a = 0 := Fin.eq_zero a
  have : (z 1).val = (y 0).val := congrArg Fin.val hz
  show (((chunkRect B).emb z) 1).val % 512 = (y 0).val
  omega

/-! ## Regrouping by tile -/

/-- Over all tiles. -/
abbrev tiles (Φ : grid0.Coords → sProp 𝕄) : sProp 𝕄 := bigSep Finset.univ fun c : Fin 2 => bigSep Finset.univ fun j : Fin 16 => Φ (crd c j)

theorem tiles_sep (Φ Ψ : grid0.Coords → sProp 𝕄) : tiles (fun i => iprop(Φ i ∗ Ψ i)) = iprop(tiles Φ ∗ tiles Ψ) := by
  unfold tiles
  rw [← bigSep_sep']
  exact bigSep_congr fun c _ => bigSep_sep' _ _ _

theorem tiles_congr {Φ Ψ : grid0.Coords → sProp 𝕄} (h : ∀ i, Φ i = Ψ i) : tiles Φ = tiles Ψ := congrArg tiles (funext h)

theorem over_tiles (Φ : Fin (2 ^ 5) → sProp 𝕄) : bigSep Finset.univ Φ = tiles fun i => Φ (wid i) := by
  rw [bigSep_univ_equiv ((finProdFinEquiv : Fin 2 × Fin 16 ≃ Fin (2 * 16)).trans (finCongr (by decide))) Φ, bigSep_univ_prod]
  refine bigSep_congr fun c _ => bigSep_congr fun j _ => congrArg Φ (Fin.ext ?_)
  show j.val + 16 * c.val = 16 * c.val + j.val
  omega

theorem over_pieces (Φ : Fin 832 → sProp 𝕄) : bigSep Finset.univ Φ = tiles fun i => bigSep Finset.univ fun b : Fin 26 => Φ (Gather.blkOf i b) := by
  rw [bigSep_univ_equiv (finProdFinEquiv : Fin 32 × Fin 26 ≃ Fin (32 * 26)) Φ, bigSep_univ_prod]
  refine (over_tiles (fun w : Fin 32 => bigSep Finset.univ fun b : Fin 26 => Φ (finProdFinEquiv (w, b)))).trans
    (tiles_congr fun i => bigSep_congr fun b _ => congrArg Φ (Fin.ext ?_))
  show b.val + 26 * (16 * (i 0).val + (i 1).val) = 26 * (16 * (i 0).val + (i 1).val) + b.val
  omega

/-- An array every tile reads, in the tiles' shares. -/
theorem read_shares {ℓ : Loc nD τ sig} (f : Buf (Elt F) ℓ) (Φ : grid0.Coords → sProp 𝕄) (h : ∀ i, Φ i = (ℓ ↦{share i} f : sProp 𝕄)) :
    (ℓ ↦{fullShare} f : sProp 𝕄) = tiles Φ := by
  rw [ShareLeaves.pointsTo_leaves Finset.univ f 5 fullShare, over_tiles]
  exact tiles_congr fun i => (h i).symm

variable [∀ e, Nonempty (Elt F e)]

/-- An array of rows in the tiles' blocks. -/
theorem rows_pieces (o : Memref sig .scVector .hbm S212992x128 .f32) (d : Dev nD) (X : S212992x128.Idx → Elt F .f32) :
    (Held (V d 0 0) o fullShare X : sProp 𝕄) = tiles fun i => bigSep Finset.univ fun b : Fin 26 =>
      Held (V d (Gather.cOf i) (Gather.jOf i)) (Gather.blk o (Gather.blkOf i b)) fullShare (blks X (Gather.blkOf i b)) := by
  refine (BI.Entails.antisymm (held_parts (V d 0 0) o blkRect (fun _ _ => rfl) blk_apart blk_cover fullShare X)
    (held_join (V d 0 0) o blkRect (fun _ _ => rfl) blk_apart blk_cover fullShare X)).trans ?_
  exact over_pieces (fun B => Held (V d 0 0) (Gather.blk o B) fullShare (blks X B))

/-- The array of numbers in the tiles' chunks. -/
theorem nums_pieces (o : Memref sig .scVector .hbm S26x16384 .f32) (d : Dev nD) (X : S26x16384.Idx → Elt F .f32) :
    (Held (V d 0 0) o fullShare X : sProp 𝕄) = tiles fun i => bigSep Finset.univ fun b : Fin 26 =>
      Held (V d (Linear.cOf i) (Linear.jOf i)) (Linear.chunk o (Linear.chunkOf i b)) fullShare (chunks X (Linear.chunkOf i b)) := by
  refine (BI.Entails.antisymm (held_parts (V d 0 0) o chunkRect (fun _ _ => rfl) chunk_apart chunk_cover fullShare X)
    (held_join (V d 0 0) o chunkRect (fun _ _ => rfl) chunk_apart chunk_cover fullShare X)).trans ?_
  refine (bigSep_congr fun B _ => (held_squeeze (V d 0 0) (o.slice (chunkRect B) (fun _ => rfl)) squeezes_S1x512_S512 fullShare
    (fun y => X ((chunkRect B).emb y))).symm).trans ?_
  exact over_pieces (fun B => Held (V d 0 0) (Linear.chunk o B) fullShare (chunks X B))

/-- The row-gathering calls' operands, dealt and collected. -/
theorem gather_tiles (a : Memref sig .scVector .hbm S1664x128 .i32) (o : Memref sig .scVector .hbm S212992x128 .f32)
    (Fi : S1664x128.Idx → Elt F .i32) (T : S26000x128.Idx → Elt F .f32) (X : S212992x128.Idx → Elt F .f32) (d : Dev nD)
    {ℓa ℓt ℓo : Loc nD τ sig} (fa : Buf (Elt F) ℓa) (ft : Buf (Elt F) ℓt) (fo : Buf (Elt F) ℓo)
    (ha : ∀ i, (Held (V d (Gather.cOf i) (Gather.jOf i)) a (share i) Fi : sProp 𝕄) = (ℓa ↦{share i} fa))
    (ht : ∀ i, (Held (V d (Gather.cOf i) (Gather.jOf i)) tG (share i) T : sProp 𝕄) = (ℓt ↦{share i} ft))
    (ho : (Held (V d 0 0) o fullShare X : sProp 𝕄) = (ℓo ↦{fullShare} fo)) :
    (iprop((ℓa ↦{fullShare} fa) ∗ (ℓt ↦{fullShare} ft) ∗ (ℓo ↦{fullShare} fo)) : sProp 𝕄) = tiles fun i => gatherGo a o Fi T (blks X) d i := by
  unfold gatherGo
  rw [tiles_sep, tiles_sep, read_shares fa _ ha, read_shares ft _ ht, ← ho, rows_pieces]

/-- The first-order call's operands, dealt and collected. -/
theorem linear_tiles (Fi : S425984.Idx → Elt F .i32) (T : S26000.Idx → Elt F .f32) (X : S26x16384.Idx → Elt F .f32) (d : Dev nD)
    {ℓa ℓt ℓo : Loc nD τ sig} (fa : Buf (Elt F) ℓa) (ft : Buf (Elt F) ℓt) (fo : Buf (Elt F) ℓo)
    (ha : ∀ i, (Held (V d (Linear.cOf i) (Linear.jOf i)) aL (share i) Fi : sProp 𝕄) = (ℓa ↦{share i} fa))
    (ht : ∀ i, (Held (V d (Linear.cOf i) (Linear.jOf i)) tL (share i) T : sProp 𝕄) = (ℓt ↦{share i} ft))
    (ho : (Held (V d 0 0) oL fullShare X : sProp 𝕄) = (ℓo ↦{fullShare} fo)) :
    (iprop((ℓa ↦{fullShare} fa) ∗ (ℓt ↦{fullShare} ft) ∗ (ℓo ↦{fullShare} fo)) : sProp 𝕄) = tiles fun i => linearGo Fi T (chunks X) d i := by
  unfold linearGo
  rw [tiles_sep, tiles_sep, read_shares fa _ ha, read_shares ft _ ht, ← ho, nums_pieces]

/-! ## The three calls -/

variable (VA : Dev nD → Valuation τ sig (Elt F))

/-- An array of the TensorCore's at contents `X`. -/
abbrev arr (d : Dev nD) (r : Ref sig .tc) (X : Buf (Elt F) ((T d : Thread nD τ).loc r)) : sProp 𝕄 := (T d : Thread nD τ).loc r ↦{fullShare} X

theorem over_call (q : Fin 3) (Φ : grid0.Coords → sProp 𝕄) :
    (bigSep Finset.univ fun c : Fin ((K (F := F)).nCore q) => bigSep Finset.univ fun j : Fin ((K (F := F)).nSub q) =>
      Φ (crd (c.cast (nCore_eq q)) (j.cast (nSub_eq q)))) = tiles Φ := by
  unfold tiles
  rw [bigSep_univ_equiv (finCongr (nCore_eq (F := F) q)) (fun c : Fin 2 => bigSep Finset.univ fun j : Fin 16 => Φ (crd c j))]
  refine bigSep_congr fun c _ => ?_
  rw [bigSep_univ_equiv (finCongr (nSub_eq (F := F) q)) (fun j : Fin 16 => Φ (crd (finCongr (nCore_eq (F := F) q) c) j))]
  rfl

theorem st_eq (q : Fin 3) (d : Dev nD) : (bigSep Finset.univ fun c : Fin ((K (F := F)).nCore q) => (P VA).st q d c) = tiles fun i => goP VA q d i :=
  over_call q fun i => goP VA q d i
theorem dn_eq (q : Fin 3) (d : Dev nD) : (bigSep Finset.univ fun c : Fin ((K (F := F)).nCore q) => (P VA).dn q d c) = tiles fun i => tdP VA q d i :=
  over_call q fun i => tdP VA q d i

abbrev out0 (d : Dev nD) : Buf (Elt F) ((T d : Thread nD τ).loc main_v7) := lookedUp (at_ VA d main_v1) (at_ VA d main_v6)
abbrev out1 (d : Dev nD) : Buf (Elt F) ((T d : Thread nD τ).loc main_v8) := gathered (at_ VA d main_arg2) (at_ VA d main_v3)
abbrev out2 (d : Dev nD) : Buf (Elt F) ((T d : Thread nD τ).loc main_v9) := gathered (at_ VA d main_arg2) (at_ VA d main_v5)

theorem linear_at (d : Dev nD) (X : Buf (Elt F) ((T d : Thread nD τ).loc main_v7)) :
    (iprop(arr d main_v6 (at_ VA d main_v6) ∗ arr d main_v1 (at_ VA d main_v1) ∗ arr d main_v7 X) : sProp 𝕄)
      = tiles fun i => linearGo (at_ VA d main_v6) (at_ VA d main_v1) (chunks X) d i :=
  linear_tiles _ _ X d (at_ VA d main_v6) (at_ VA d main_v1) X (fun i => held_whole (V d (Linear.cOf i) (Linear.jOf i)) main_v6_scv _ _)
    (fun i => held_whole (V d (Linear.cOf i) (Linear.jOf i)) main_v1_scv _ _) (held_whole (V d 0 0) main_v7_scv _ _)

theorem gather_at1 (d : Dev nD) (X : Buf (Elt F) ((T d : Thread nD τ).loc main_v8)) :
    (iprop(arr d main_v3 (at_ VA d main_v3) ∗ arr d main_arg2 (at_ VA d main_arg2) ∗ arr d main_v8 X) : sProp 𝕄)
      = tiles fun i => gatherGo aG1 oG1 (at_ VA d main_v3) (at_ VA d main_arg2) (blks X) d i :=
  gather_tiles aG1 oG1 _ _ X d (at_ VA d main_v3) (at_ VA d main_arg2) X (fun i => held_whole (V d (Gather.cOf i) (Gather.jOf i)) main_v3_scv _ _)
    (fun i => held_whole (V d (Gather.cOf i) (Gather.jOf i)) main_arg2_scv _ _) (held_whole (V d 0 0) main_v8_scv _ _)

theorem gather_at2 (d : Dev nD) (X : Buf (Elt F) ((T d : Thread nD τ).loc main_v9)) :
    (iprop(arr d main_v5 (at_ VA d main_v5) ∗ arr d main_arg2 (at_ VA d main_arg2) ∗ arr d main_v9 X) : sProp 𝕄)
      = tiles fun i => gatherGo aG2 oG2 (at_ VA d main_v5) (at_ VA d main_arg2) (blks X) d i :=
  gather_tiles aG2 oG2 _ _ X d (at_ VA d main_v5) (at_ VA d main_arg2) X (fun i => held_whole (V d (Gather.cOf i) (Gather.jOf i)) main_v5_scv _ _)
    (fun i => held_whole (V d (Gather.cOf i) (Gather.jOf i)) main_arg2_scv _ _) (held_whole (V d 0 0) main_v9_scv _ _)

/-- The list of row numbers, the table and the output of call `q`. -/
def lst : Fin 3 → Ref sig .tc := ![main_v6, main_v3, main_v5]
def tbl : Fin 3 → Ref sig .tc := ![main_v1, main_arg2, main_arg2]
def dst : Fin 3 → Ref sig .tc := ![main_v7, main_v8, main_v9]
/-- What call `q` leaves in its output. -/
def left (d : Dev nD) : (q : Fin 3) → Buf (Elt F) ((T d : Thread nD τ).loc (dst q))
  | 0 => out0 VA d | 1 => out1 VA d | 2 => out2 VA d

/-- A call takes its operands as the host holds them, -/
theorem call_in (q : Fin 3) (d : Dev nD) : (iprop(arr d (lst q) (at_ VA d (lst q)) ∗ arr d (tbl q) (at_ VA d (tbl q)) ∗ arr d (dst q) (at_ VA d (dst q))) : sProp 𝕄)
    = bigSep Finset.univ fun c : Fin ((K (F := F)).nCore q) => (P VA).st q d c := by
  rw [st_eq]
  match q with
  | 0 => exact linear_at VA d _
  | 1 => exact gather_at1 VA d _
  | 2 => exact gather_at2 VA d _

/-- and returns them with the output written. -/
theorem call_out (q : Fin 3) (d : Dev nD) : (bigSep Finset.univ fun c : Fin ((K (F := F)).nCore q) => (P VA).dn q d c : sProp 𝕄)
    = iprop(arr d (lst q) (at_ VA d (lst q)) ∗ arr d (tbl q) (at_ VA d (tbl q)) ∗ arr d (dst q) (left VA d q)) := by
  rw [dn_eq]
  match q with
  | 0 =>
    refine Eq.trans (tiles_congr fun i => ?_) (linear_at VA d (out0 VA d)).symm
    unfold out0
    rw [chunks_lookedUp]
    rfl
  | 1 =>
    refine Eq.trans (tiles_congr fun i => ?_) (gather_at1 VA d (out1 VA d)).symm
    unfold out1
    rw [blks_gathered]
    rfl
  | 2 =>
    refine Eq.trans (tiles_congr fun i => ?_) (gather_at2 VA d (out2 VA d)).symm
    unfold out2
    rw [blks_gathered]
    rfl

end Cert.Proof.Launch

end
-- ==== Proof.Dense.Body.lean ====
/-
  The two dense calls: what one point of the grid leaves in its two results' blocks, read off the blocks of its inputs,
  and the run of the body at one point. The second call's body is the first's (it is also handed the first call's result
  array, which it does not touch).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- the cover of a block by one rectangle is looked at once per coordinate of its long axes
set_option maxRecDepth 16384

noncomputable section

namespace Cert.Proof.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] [Infinite Name] {U : Type} [URA U] {Lvl : Type} [Preorder Lvl]

local notation "𝕄" => MT nD τ sig Ix (Elt F) Name U Lvl

/-! ## Values -/

/-- The blocks of the inputs at one point: the 26 gathered rows of each of the 512 samples, the numeric features, the
    first-order terms, the weights of the first layer (rows of the gathered part, rows of the numeric part) with its bias,
    scale and shift, then the second and third layers', and the output layer's weights and bias. -/
structure Ins (F : FTy → Type) [FloatOps F] where
  x0 : Vec F S26x512x128 .f32
  x1 : Vec F S512x4 .f32
  x2 : Vec F S26x512 .f32
  x3 : Vec F S3328x1024 .bf16
  x4 : Vec F S4x1024 .f32
  x5 : Vec F S1024 .f32
  x6 : Vec F S1024 .f32
  x7 : Vec F S1024 .f32
  x8 : Vec F S1024x512 .bf16
  x9 : Vec F S512 .f32
  x10 : Vec F S512 .f32
  x11 : Vec F S512 .f32
  x12 : Vec F S512x256 .bf16
  x13 : Vec F S256 .f32
  x14 : Vec F S256 .f32
  x15 : Vec F S256 .f32
  x16 : Vec F S256x1 .f32
  x17 : Vec F S1 .f32

abbrev r3_0 : Rect S26x512x128 := Rect.unit (s := S26x512x128) ![0, 0, 0] S26x512x128.size inb_S26x512x128_S26x512x128_0_0_0
abbrev r3_1 : Rect S3328x1024 := Rect.unit (s := S3328x1024) ![0, 0] S3328x1024.size inb_S3328x1024_S3328x1024_0_0
abbrev r3_2 : Rect S26x512 := Rect.unit (s := S26x512) ![0, 0] S26x512.size inb_S26x512_S26x512_0_0
abbrev r3_3 : Rect S512x4 := Rect.unit (s := S512x4) ![0, 0] S512x4.size inb_S512x4_S512x4_0_0
abbrev r3_4 : Rect S4x1024 := Rect.unit (s := S4x1024) ![0, 0] S4x1024.size inb_S4x1024_S4x1024_0_0
abbrev r3_5 : Rect S1024 := Rect.unit (s := S1024) ![0] S1024.size inb_S1024_S1024_0
abbrev r3_6 : Rect S1024x512 := Rect.unit (s := S1024x512) ![0, 0] S1024x512.size inb_S1024x512_S1024x512_0_0
abbrev r3_7 : Rect S512 := Rect.unit (s := S512) ![0] S512.size inb_S512_S512_0
abbrev r3_8 : Rect S512x256 := Rect.unit (s := S512x256) ![0, 0] S512x256.size inb_S512x256_S512x256_0_0
abbrev r3_9 : Rect S256 := Rect.unit (s := S256) ![0] S256.size inb_S256_S256_0
abbrev r3_10 : Rect S256x1 := Rect.unit (s := S256x1) ![0, 0] S256x1.size inb_S256x1_S256x1_0_0
abbrev r3_11 : Rect S1 := Rect.unit (s := S1) ![0] S1.size inb_S1_S1_0
abbrev r3_12 : Rect S512x1 := Rect.unit (s := S512x1) ![0, 0] S512x1.size inb_S512x1_S512x1_0_0

/-- The second-order sums of the 512 samples, from their gathered rows: half of the square of the sum less the sum of the
    squares, summed over the 128 places. -/
def secondOrder (e : Vec F S26x512x128 .f32) : FVec F S512x1 .f32 :=
  k3_pay58 (k3_pay35 (k3_pay2 e) (k3_pay28 (k3_pay2 e) (k3_pay13 e) (k3_pay15 e)) (k3_pay30 (k3_pay2 e)))
    (k3_pay36 (k3_pay2 e) (k3_pay29 (k3_pay2 e) (k3_pay14 e) (k3_pay15 e)) (k3_pay30 (k3_pay2 e)))

/-- The first layer's linear part, -/
def linear1 (e : Vec F S26x512x128 .f32) (w : Vec F S3328x1024 .bf16) (n : Vec F S512x4 .f32) (v : Vec F S4x1024 .f32) (b : Vec F S1024 .f32) : FVec F S512x1024 .f32 :=
  k3_pay60 (k3_pay2 e) (k3_pay37 (k3_pay2 e)) (k3_pay38 (k3_pay2 e)) (k3_pay39 (k3_pay2 e)) (k3_pay40 (k3_pay2 e)) (k3_pay41 (k3_pay2 e)) (k3_pay42 (k3_pay2 e)) (k3_pay43 (k3_pay2 e)) (k3_pay44 (k3_pay2 e)) (k3_pay45 (k3_pay2 e)) (k3_pay46 (k3_pay2 e)) (k3_pay47 (k3_pay2 e)) (k3_pay48 (k3_pay2 e)) (k3_pay49 (k3_pay2 e)) (k3_pay50 (k3_pay2 e)) (k3_pay51 (k3_pay2 e)) (k3_pay52 (k3_pay2 e)) (k3_pay53 (k3_pay2 e)) (k3_pay54 (k3_pay2 e)) (k3_pay55 (k3_pay2 e)) (k3_pay56 (k3_pay2 e)) (k3_pay57 (k3_pay2 e)) w n v b

/-- the sum of each of its rows, -/
def rowSum1 (e : Vec F S26x512x128 .f32) (w : Vec F S3328x1024 .bf16) (n : Vec F S512x4 .f32) (v : Vec F S4x1024 .f32) (b : Vec F S1024 .f32) : FVec F S512x1 .f32 :=
  k3_pay61 (k3_pay2 e) (k3_pay37 (k3_pay2 e)) (k3_pay38 (k3_pay2 e)) (k3_pay39 (k3_pay2 e)) (k3_pay40 (k3_pay2 e)) (k3_pay41 (k3_pay2 e)) (k3_pay42 (k3_pay2 e)) (k3_pay43 (k3_pay2 e)) (k3_pay44 (k3_pay2 e)) (k3_pay45 (k3_pay2 e)) (k3_pay46 (k3_pay2 e)) (k3_pay47 (k3_pay2 e)) (k3_pay48 (k3_pay2 e)) (k3_pay49 (k3_pay2 e)) (k3_pay50 (k3_pay2 e)) (k3_pay51 (k3_pay2 e)) (k3_pay52 (k3_pay2 e)) (k3_pay53 (k3_pay2 e)) (k3_pay54 (k3_pay2 e)) (k3_pay55 (k3_pay2 e)) (k3_pay56 (k3_pay2 e)) (k3_pay57 (k3_pay2 e)) w n v b

/-- and the number of entries of a row. -/
def width1 : F .f32 := Scalar.ofBits .f32 0x44800000#32

/-- The second layer's linear part less the means of its rows, -/
def centred2 (X : Ins F) : FVec F S512x512 .f32 :=
  k3_pay62 (linear1 X.x0 X.x3 X.x1 X.x4 X.x5) X.x6 X.x7 (rowSum1 X.x0 X.x3 X.x1 X.x4 X.x5) width1 X.x8 X.x9

/-- and the variances of its rows. -/
def variance2 (X : Ins F) : FVec F S512x1 .f32 :=
  k3_pay63 (linear1 X.x0 X.x3 X.x1 X.x4 X.x5) X.x6 X.x7 (rowSum1 X.x0 X.x3 X.x1 X.x4 X.x5) width1 X.x8 X.x9

/-- The dense layers' output. -/
def deep (X : Ins F) : FVec F S512x1 .f32 :=
  k3_pay64 X.x10 X.x11 (centred2 X) (variance2 X) X.x12 X.x13 X.x14 X.x15 X.x16

/-- The 512 samples' logits. -/
def logitsOf (X : Ins F) : FVec F S512x1 .f32 := k3_pay1 (secondOrder X.x0) (k3_pay59 X.x2) (deep X) X.x17

/-- The first result's block. -/
def logits (X : Ins F) : Vec F S512x1 .f32 :=
  View.canon [⟨r3_12, logitsOf { x0 := View.ld X.x0 r3_0, x1 := View.ld X.x1 r3_3, x2 := View.ld X.x2 r3_2, x3 := View.ld X.x3 r3_1, x4 := View.ld X.x4 r3_4, x5 := View.ld X.x5 r3_5, x6 := View.ld X.x6 r3_5, x7 := View.ld X.x7 r3_5, x8 := View.ld X.x8 r3_6, x9 := View.ld X.x9 r3_7, x10 := View.ld X.x10 r3_7, x11 := View.ld X.x11 r3_7, x12 := View.ld X.x12 r3_8, x13 := View.ld X.x13 r3_9, x14 := View.ld X.x14 r3_9, x15 := View.ld X.x15 r3_9, x16 := View.ld X.x16 r3_10, x17 := View.ld X.x17 r3_11 }⟩]

/-- The second result's block: the gathered rows. -/
def rows (X : Ins F) : Vec F S26x512x128 .f32 := View.canon [⟨r3_0, k3_pay2 (View.ld X.x0 r3_0)⟩]

theorem logits_cover (p0 : Vec F S512x1 .f32) (y : S512x1.Idx) :
    ∃ pc ∈ ([⟨r3_12, p0⟩] : List (View.Piece (Elt F) S512x1 .f32)), y ∈ pc.1.set :=
  View.cover_of_tiled [⟨r3_12, p0⟩] S512x1.size (by rfl) y

theorem rows_cover (p0 : Vec F S26x512x128 .f32) (y : S26x512x128.Idx) :
    ∃ pc ∈ ([⟨r3_0, p0⟩] : List (View.Piece (Elt F) S26x512x128 .f32)), y ∈ pc.1.set :=
  View.cover_of_tiled [⟨r3_0, p0⟩] S26x512x128.size (by rfl) y

/-! ## The body's run -/

section Run

variable (c : Dev nD) (arg1 : Memref sig .tc .vmem S26x512x128 .f32) (arg2 : Memref sig .tc .vmem S512x4 .f32) (arg3 : Memref sig .tc .vmem S26x512 .f32) (arg4 : Memref sig .tc .vmem S3328x1024 .bf16) (arg5 : Memref sig .tc .vmem S4x1024 .f32) (arg6 : Memref sig .tc .vmem S1024 .f32) (arg7 : Memref sig .tc .vmem S1024 .f32) (arg8 : Memref sig .tc .vmem S1024 .f32) (arg9 : Memref sig .tc .vmem S1024x512 .bf16) (arg10 : Memref sig .tc .vmem S512 .f32) (arg11 : Memref sig .tc .vmem S512 .f32) (arg12 : Memref sig .tc .vmem S512 .f32) (arg13 : Memref sig .tc .vmem S512x256 .bf16) (arg14 : Memref sig .tc .vmem S256 .f32) (arg15 : Memref sig .tc .vmem S256 .f32) (arg16 : Memref sig .tc .vmem S256 .f32) (arg17 : Memref sig .tc .vmem S256x1 .f32) (arg18 : Memref sig .tc .vmem S1 .f32)

/-- The inputs' blocks, held. -/
def Blocks (X : Ins F) : sProp 𝕄 :=
  iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17)

set_option maxHeartbeats 1000000 in
/-- The body leaves its inputs' blocks as they are and fills its two results' blocks. -/
theorem wp_body (E : Set Name) (i : grid3.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (arg19 : Memref sig .tc .vmem S512x1 .f32) (harg19 : arg19.IsWhole) (arg20 : Memref sig .tc .vmem S26x512x128 .f32) (harg20 : arg20.IsWhole) (X : Ins F) (K : PUnit → sProp 𝕄) :
    iprop(Blocks c arg1 arg2 arg3 arg4 arg5 arg6 arg7 arg8 arg9 arg10 arg11 arg12 arg13 arg14 arg15 arg16 arg17 arg18 X ∗ (∃ d, owns (c : Thread nD τ) arg19 fullShare d) ∗ (∃ d, owns (c : Thread nD τ) arg20 fullShare d)
        ∗ (iprop(Blocks c arg1 arg2 arg3 arg4 arg5 arg6 arg7 arg8 arg9 arg10 arg11 arg12 arg13 arg14 arg15 arg16 arg17 arg18 X ∗ owns (c : Thread nD τ) arg19 fullShare (logits X) ∗ owns (c : Thread nD τ) arg20 fullShare (rows X)) -∗ K ⟨⟩))
      ⊢ wp frame (wpE (defs₀ (F := F)) Variants.none c none) E (cc3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc3_body_eq_skeleton]; unfold cc3_body_skel
  simp only [k3_part1_eq_skeleton, k3_part2_eq_skeleton, k3_part3_eq_skeleton, k3_part4_eq_skeleton, k3_part5_eq_skeleton, k3_part6_eq_skeleton]
  obtain ⟨x0, x1, x2, x3, x4, x5, x6, x7, x8, x9, x10, x11, x12, x13, x14, x15, x16, x17⟩ := X
  unfold Blocks owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%d18, %f18, -, H18⟩, ⟨%d19, %f19, -, H19⟩, Hk⟩
  dsimp only at hf0 hf1 hf2 hf3 hf4 hf5 hf6 hf7 hf8 hf9 hf10 hf11 hf12 hf13 hf14 hf15 hf16 hf17
  subst hf0 hf1 hf2 hf3 hf4 hf5 hf6 hf7 hf8 hf9 hf10 hf11 hf12 hf13 hf14 hf15 hf16 hf17
  sl_exec
  sl_step
  iapply Hk
  isplitl [H0 H1 H2 H3 H4 H5 H6 H7 H8 H9 H10 H11 H12 H13 H14 H15 H16 H17]
  · isplitl [H0]; · (iexists f0; isplitr; · (ipureintro; rfl)); iexact H0
    isplitl [H1]; · (iexists f1; isplitr; · (ipureintro; rfl)); iexact H1
    isplitl [H2]; · (iexists f2; isplitr; · (ipureintro; rfl)); iexact H2
    isplitl [H3]; · (iexists f3; isplitr; · (ipureintro; rfl)); iexact H3
    isplitl [H4]; · (iexists f4; isplitr; · (ipureintro; rfl)); iexact H4
    isplitl [H5]; · (iexists f5; isplitr; · (ipureintro; rfl)); iexact H5
    isplitl [H6]; · (iexists f6; isplitr; · (ipureintro; rfl)); iexact H6
    isplitl [H7]; · (iexists f7; isplitr; · (ipureintro; rfl)); iexact H7
    isplitl [H8]; · (iexists f8; isplitr; · (ipureintro; rfl)); iexact H8
    isplitl [H9]; · (iexists f9; isplitr; · (ipureintro; rfl)); iexact H9
    isplitl [H10]; · (iexists f10; isplitr; · (ipureintro; rfl)); iexact H10
    isplitl [H11]; · (iexists f11; isplitr; · (ipureintro; rfl)); iexact H11
    isplitl [H12]; · (iexists f12; isplitr; · (ipureintro; rfl)); iexact H12
    isplitl [H13]; · (iexists f13; isplitr; · (ipureintro; rfl)); iexact H13
    isplitl [H14]; · (iexists f14; isplitr; · (ipureintro; rfl)); iexact H14
    isplitl [H15]; · (iexists f15; isplitr; · (ipureintro; rfl)); iexact H15
    isplitl [H16]; · (iexists f16; isplitr; · (ipureintro; rfl)); iexact H16
    iexists f17; isplitr; · ipureintro; rfl
    iexact H17
  isplitl [H18]
  · iexists _; isplitr
    swap; · iexact H18
    ipureintro
    exact (View.read_writes_eq_canon _ _ _ (logits_cover _)).trans rfl
  iexists _; isplitr
  swap; · iexact H19
  ipureintro
  exact (View.read_writes_eq_canon _ _ _ (rows_cover _)).trans rfl

end Run

/-- The second call's body is the first's. -/
theorem body_eq (i : grid4.Coords) (arg1 : Memref sig .tc .vmem S26x512x128 .f32) (harg1 : arg1.IsWhole) (arg2 : Memref sig .tc .vmem S512x4 .f32) (harg2 : arg2.IsWhole) (arg3 : Memref sig .tc .vmem S26x512 .f32) (harg3 : arg3.IsWhole) (arg4 : Memref sig .tc .vmem S3328x1024 .bf16) (harg4 : arg4.IsWhole) (arg5 : Memref sig .tc .vmem S4x1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S512 .f32) (harg12 : arg12.IsWhole) (arg13 : Memref sig .tc .vmem S512x256 .bf16) (harg13 : arg13.IsWhole) (arg14 : Memref sig .tc .vmem S256 .f32) (harg14 : arg14.IsWhole) (arg15 : Memref sig .tc .vmem S256 .f32) (harg15 : arg15.IsWhole) (arg16 : Memref sig .tc .vmem S256 .f32) (harg16 : arg16.IsWhole) (arg17 : Memref sig .tc .vmem S256x1 .f32) (harg17 : arg17.IsWhole) (arg18 : Memref sig .tc .vmem S1 .f32) (harg18 : arg18.IsWhole) (a : Memref sig .tc .hbm S26x16384x128 .f32) (ha : a.IsWhole) (arg19 : Memref sig .tc .vmem S512x1 .f32) (harg19 : arg19.IsWhole) (arg20 : Memref sig .tc .vmem S26x512x128 .f32) (harg20 : arg20.IsWhole) :
    cc4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a ha arg19 harg19 arg20 harg20 = cc3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 := rfl

end Cert.Proof.Dense

end
-- ==== Proof.Dense.Data.lean ====
/-
  The two dense calls as pipelines, over any contents of the buffers they are entered with: the blocks of their inputs,
  what each point leaves, and the body's obligation at every point.
-/
module

public import proofs.«01_k».proof.Proof.Dense.Body

@[expose] public section

-- the cover of a block by one rectangle is looked at once per coordinate of its long axes
set_option maxRecDepth 16384

noncomputable section

namespace Cert.Proof.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] [Infinite Name] {U : Type} [URA U] {Lvl : Type} [Preorder Lvl]

local notation "𝕄" => MT nD τ sig Ix (Elt F) Name U Lvl

variable (W : Dev nD → Valuation τ sig (Elt F)) (ι : Ix)

theorem inputs3 : ∀ w : Fin 20, w.val < 18 → (cfg3.win w).isOut = false := by decide

theorem inputs4 : ∀ w : Fin 20, w.val < 18 → (cfg4.win w).isOut = false := by decide

/-! ## The first call -/

/-- Window `w`'s block at point `t`, read off its array. -/
def iblk3 (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-- The inputs' blocks at point `t`. -/
def ins3 (c : Dev nD) (t : Fin cfg3.N) : Ins F :=
  { x0 := iblk3 W c 0 t, x1 := iblk3 W c 1 t, x2 := iblk3 W c 2 t, x3 := iblk3 W c 3 t, x4 := iblk3 W c 4 t, x5 := iblk3 W c 5 t, x6 := iblk3 W c 6 t, x7 := iblk3 W c 7 t, x8 := iblk3 W c 8 t, x9 := iblk3 W c 9 t, x10 := iblk3 W c 10 t, x11 := iblk3 W c 11 t, x12 := iblk3 W c 12 t, x13 := iblk3 W c 13 t, x14 := iblk3 W c 14 t, x15 := iblk3 W c 15 t, x16 := iblk3 W c 16 t, x17 := iblk3 W c 17 t }

/-- The call's data: the arrays as it finds them; after the body at a point every input's block as it was and the two
    results' blocks at their values; nothing owed. -/
def dat3 (c : Dev nD) : Dat τ (Elt F) Ix Name U Lvl cfg3 c where
  A w := W c (Proc.devRef .tc (Pipeline.arrRef spec3 w))
  after w t := match w with
    | ⟨0, _⟩ => iblk3 W c 0 t
    | ⟨1, _⟩ => iblk3 W c 1 t
    | ⟨2, _⟩ => iblk3 W c 2 t
    | ⟨3, _⟩ => iblk3 W c 3 t
    | ⟨4, _⟩ => iblk3 W c 4 t
    | ⟨5, _⟩ => iblk3 W c 5 t
    | ⟨6, _⟩ => iblk3 W c 6 t
    | ⟨7, _⟩ => iblk3 W c 7 t
    | ⟨8, _⟩ => iblk3 W c 8 t
    | ⟨9, _⟩ => iblk3 W c 9 t
    | ⟨10, _⟩ => iblk3 W c 10 t
    | ⟨11, _⟩ => iblk3 W c 11 t
    | ⟨12, _⟩ => iblk3 W c 12 t
    | ⟨13, _⟩ => iblk3 W c 13 t
    | ⟨14, _⟩ => iblk3 W c 14 t
    | ⟨15, _⟩ => iblk3 W c 15 t
    | ⟨16, _⟩ => iblk3 W c 16 t
    | ⟨17, _⟩ => iblk3 W c 17 t
    | ⟨18, _⟩ => logits (ins3 W c t)
    | ⟨19, _⟩ => rows (ins3 W c t)
    | ⟨_ + 20, h⟩ => absurd h (Nat.not_lt.2 (Nat.le_add_left _ _))
  Φ _ := Pipeline.scopedRest spec3 c
  q _ := fullShare
  owed _ := 0

theorem kept3 (c : Dev nD) (w : Fin 20) (hw : w.val < 18) (t : Fin cfg3.N) :
    (cfg3.win w).cut (cfg3.grid.coords t) ((dat3 (Ix := Ix) (Name := Name) (U := U) (Lvl := Lvl) W c).after w t)
      = (dat3 (Ix := Ix) (Name := Name) (U := U) (Lvl := Lvl) W c).blockOf w t := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨n + 18, h⟩ => exact absurd hw (Nat.not_lt.2 (Nat.le_add_left _ _))

theorem uncut3 (w : Fin 20) (hw : w.val < 18) : ∀ i, cfg3.idle w i = false := by
  match w with
  | ⟨0, _⟩ => exact fun _ => rfl
  | ⟨1, _⟩ => exact fun _ => rfl
  | ⟨2, _⟩ => exact fun _ => rfl
  | ⟨3, _⟩ => exact fun _ => rfl
  | ⟨4, _⟩ => exact fun _ => rfl
  | ⟨5, _⟩ => exact fun _ => rfl
  | ⟨6, _⟩ => exact fun _ => rfl
  | ⟨7, _⟩ => exact fun _ => rfl
  | ⟨8, _⟩ => exact fun _ => rfl
  | ⟨9, _⟩ => exact fun _ => rfl
  | ⟨10, _⟩ => exact fun _ => rfl
  | ⟨11, _⟩ => exact fun _ => rfl
  | ⟨12, _⟩ => exact fun _ => rfl
  | ⟨13, _⟩ => exact fun _ => rfl
  | ⟨14, _⟩ => exact fun _ => rfl
  | ⟨15, _⟩ => exact fun _ => rfl
  | ⟨16, _⟩ => exact fun _ => rfl
  | ⟨17, _⟩ => exact fun _ => rfl
  | ⟨n + 18, h⟩ => exact absurd hw (Nat.not_lt.2 (Nat.le_add_left _ _))

theorem clip3 (w : Fin 20) (hw : w.val < 18) : ∀ t t' : Fin cfg3.N, (cfg3.win w).index t = (cfg3.win w).index t' →
    (cfg3.win w).clip (cfg3.grid.coords t) = (cfg3.win w).clip (cfg3.grid.coords t') := by
  match w with
  | ⟨0, _⟩ => exact fun _ _ _ => rfl
  | ⟨1, _⟩ => exact fun _ _ _ => rfl
  | ⟨2, _⟩ => exact fun _ _ _ => rfl
  | ⟨3, _⟩ => exact fun _ _ _ => rfl
  | ⟨4, _⟩ => exact fun _ _ _ => rfl
  | ⟨5, _⟩ => exact fun _ _ _ => rfl
  | ⟨6, _⟩ => exact fun _ _ _ => rfl
  | ⟨7, _⟩ => exact fun _ _ _ => rfl
  | ⟨8, _⟩ => exact fun _ _ _ => rfl
  | ⟨9, _⟩ => exact fun _ _ _ => rfl
  | ⟨10, _⟩ => exact fun _ _ _ => rfl
  | ⟨11, _⟩ => exact fun _ _ _ => rfl
  | ⟨12, _⟩ => exact fun _ _ _ => rfl
  | ⟨13, _⟩ => exact fun _ _ _ => rfl
  | ⟨14, _⟩ => exact fun _ _ _ => rfl
  | ⟨15, _⟩ => exact fun _ _ _ => rfl
  | ⟨16, _⟩ => exact fun _ _ _ => rfl
  | ⟨17, _⟩ => exact fun _ _ _ => rfl
  | ⟨n + 18, h⟩ => exact absurd hw (Nat.not_lt.2 (Nat.le_add_left _ _))

/-- An input's staging buffer holds its block at every point. -/
theorem before3 (c : Dev nD) (w : Fin 20) (hw : w.val < 18) (t : Fin cfg3.N) (d) :
    (dat3 (Ix := Ix) (Name := Name) (U := U) (Lvl := Lvl) W c).before w t d = (dat3 (Ix := Ix) (Name := Name) (U := U) (Lvl := Lvl) W c).fetched w t d :=
  (dat3 W c).before_in_eq_fetched w (inputs3 w hw) (uncut3 w hw) (clip3 w hw) (kept3 W c w hw) t d

/-- What the body is called with at point `t`, -/
def bodyPre3 (c : Dev nD) (t : Fin cfg3.N) : sProp 𝕄 :=
  iprop((dat3 W c).Φ t.castSucc ∗ (dat3 W c).owesAt ι t.castSucc
    ∗ (∃ d, owns (c : Thread nD τ) (st3_0 t) fullShare ((dat3 (Ix := Ix) (Name := Name) (U := U) (Lvl := Lvl) W c).before 0 t d))
    ∗ (∃ d, owns (c : Thread nD τ) (st3_1 t) fullShare ((dat3 (Ix := Ix) (Name := Name) (U := U) (Lvl := Lvl) W c).before 1 t d))
    ∗ (∃ d, owns (c : Thread nD τ) (st3_2 t) fullShare ((dat3 (Ix := Ix) (Name := Name) (U := U) (Lvl := Lvl) W c).before 2 t d))
    ∗ (∃ d, owns (c : Thread nD τ) (st3_3 t) fullShare ((dat3 (Ix := Ix) (Name := Name) (U := U) (Lvl := Lvl) W c).before 3 t d))
    ∗ (∃ d, owns (c : Thread nD τ) (st3_4 t) fullShare ((dat3 (Ix := Ix) (Name := Name) (U := U) (Lvl := Lvl) W c).before 4 t d))
    ∗ (∃ d, owns (c : Thread nD τ) (st3_5 t) fullShare ((dat3 (Ix := Ix) (Name := Name) (U := U) (Lvl := Lvl) W c).before 5 t d))
    ∗ (∃ d, owns (c : Thread nD τ) (st3_6 t) fullShare ((dat3 (Ix := Ix) (Name := Name) (U := U) (Lvl := Lvl) W c).before 6 t d))
    ∗ (∃ d, owns (c : Thread nD τ) (st3_7 t) fullShare ((dat3 (Ix := Ix) (Name := Name) (U := U) (Lvl := Lvl) W c).before 7 t d))
    ∗ (∃ d, owns (c : Thread nD τ) (st3_8 t) fullShare ((dat3 (Ix := Ix) (Name := Name) (U := U) (Lvl := Lvl) W c).before 8 t d))
    ∗ (∃ d, owns (c : Thread nD τ) (st3_9 t) fullShare ((dat3 (Ix := Ix) (Name := Name) (U := U) (Lvl := Lvl) W c).before 9 t d))
    ∗ (∃ d, owns (c : Thread nD τ) (st3_10 t) fullShare ((dat3 (Ix := Ix) (Name := Name) (U := U) (Lvl := Lvl) W c).before 10 t d))
    ∗ (∃ d, owns (c : Thread nD τ) (st3_11 t) fullShare ((dat3 (Ix := Ix) (Name := Name) (U := U) (Lvl := Lvl) W c).before 11 t d))
    ∗ (∃ d, owns (c : Thread nD τ) (st3_12 t) fullShare ((dat3 (Ix := Ix) (Name := Name) (U := U) (Lvl := Lvl) W c).before 12 t d))
    ∗ (∃ d, owns (c : Thread nD τ) (st3_13 t) fullShare ((dat3 (Ix := Ix) (Name := Name) (U := U) (Lvl := Lvl) W c).before 13 t d))
    ∗ (∃ d, owns (c : Thread nD τ) (st3_14 t) fullShare ((dat3 (Ix := Ix) (Name := Name) (U := U) (Lvl := Lvl) W c).before 14 t d))
    ∗ (∃ d, owns (c : Thread nD τ) (st3_15 t) fullShare ((dat3 (Ix := Ix) (Name := Name) (U := U) (Lvl := Lvl) W c).before 15 t d))
    ∗ (∃ d, owns (c : Thread nD τ) (st3_16 t) fullShare ((dat3 (Ix := Ix) (Name := Name) (U := U) (Lvl := Lvl) W c).before 16 t d))
    ∗ (∃ d, owns (c : Thread nD τ) (st3_17 t) fullShare ((dat3 (Ix := Ix) (Name := Name) (U := U) (Lvl := Lvl) W c).before 17 t d))
    ∗ (∃ d, owns (c : Thread nD τ) (st3_18 t) fullShare ((dat3 (Ix := Ix) (Name := Name) (U := U) (Lvl := Lvl) W c).before 18 t d))
    ∗ (∃ d, owns (c : Thread nD τ) (st3_19 t) fullShare ((dat3 (Ix := Ix) (Name := Name) (U := U) (Lvl := Lvl) W c).before 19 t d)))

/-- and what it returns. -/
def bodyPost3 (c : Dev nD) (t : Fin cfg3.N) : sProp 𝕄 :=
  iprop((dat3 W c).Φ t.succ ∗ (dat3 W c).owesAt ι t.succ
    ∗ owns (c : Thread nD τ) (st3_0 t) fullShare ((dat3 (Ix := Ix) (Name := Name) (U := U) (Lvl := Lvl) W c).after 0 t)
    ∗ owns (c : Thread nD τ) (st3_1 t) fullShare ((dat3 (Ix := Ix) (Name := Name) (U := U) (Lvl := Lvl) W c).after 1 t)
    ∗ owns (c : Thread nD τ) (st3_2 t) fullShare ((dat3 (Ix := Ix) (Name := Name) (U := U) (Lvl := Lvl) W c).after 2 t)
    ∗ owns (c : Thread nD τ) (st3_3 t) fullShare ((dat3 (Ix := Ix) (Name := Name) (U := U) (Lvl := Lvl) W c).after 3 t)
    ∗ owns (c : Thread nD τ) (st3_4 t) fullShare ((dat3 (Ix := Ix) (Name := Name) (U := U) (Lvl := Lvl) W c).after 4 t)
    ∗ owns (c : Thread nD τ) (st3_5 t) fullShare ((dat3 (Ix := Ix) (Name := Name) (U := U) (Lvl := Lvl) W c).after 5 t)
    ∗ owns (c : Thread nD τ) (st3_6 t) fullShare ((dat3 (Ix := Ix) (Name := Name) (U := U) (Lvl := Lvl) W c).after 6 t)
    ∗ owns (c : Thread nD τ) (st3_7 t) fullShare ((dat3 (Ix := Ix) (Name := Name) (U := U) (Lvl := Lvl) W c).after 7 t)
    ∗ owns (c : Thread nD τ) (st3_8 t) fullShare ((dat3 (Ix := Ix) (Name := Name) (U := U) (Lvl := Lvl) W c).after 8 t)
    ∗ owns (c : Thread nD τ) (st3_9 t) fullShare ((dat3 (Ix := Ix) (Name := Name) (U := U) (Lvl := Lvl) W c).after 9 t)
    ∗ owns (c : Thread nD τ) (st3_10 t) fullShare ((dat3 (Ix := Ix) (Name := Name) (U := U) (Lvl := Lvl) W c).after 10 t)
    ∗ owns (c : Thread nD τ) (st3_11 t) fullShare ((dat3 (Ix := Ix) (Name := Name) (U := U) (Lvl := Lvl) W c).after 11 t)
    ∗ owns (c : Thread nD τ) (st3_12 t) fullShare ((dat3 (Ix := Ix) (Name := Name) (U := U) (Lvl := Lvl) W c).after 12 t)
    ∗ owns (c : Thread nD τ) (st3_13 t) fullShare ((dat3 (Ix := Ix) (Name := Name) (U := U) (Lvl := Lvl) W c).after 13 t)
    ∗ owns (c : Thread nD τ) (st3_14 t) fullShare ((dat3 (Ix := Ix) (Name := Name) (U := U) (Lvl := Lvl) W c).after 14 t)
    ∗ owns (c : Thread nD τ) (st3_15 t) fullShare ((dat3 (Ix := Ix) (Name := Name) (U := U) (Lvl := Lvl) W c).after 15 t)
    ∗ owns (c : Thread nD τ) (st3_16 t) fullShare ((dat3 (Ix := Ix) (Name := Name) (U := U) (Lvl := Lvl) W c).after 16 t)
    ∗ owns (c : Thread nD τ) (st3_17 t) fullShare ((dat3 (Ix := Ix) (Name := Name) (U := U) (Lvl := Lvl) W c).after 17 t)
    ∗ owns (c : Thread nD τ) (st3_18 t) fullShare ((dat3 (Ix := Ix) (Name := Name) (U := U) (Lvl := Lvl) W c).after 18 t)
    ∗ owns (c : Thread nD τ) (st3_19 t) fullShare ((dat3 (Ix := Ix) (Name := Name) (U := U) (Lvl := Lvl) W c).after 19 t))

set_option maxHeartbeats 1000000 in
theorem sound_body3 (c : Dev nD) (t : Fin cfg3.N) :
    bodyPre3 (Name := Name) (U := U) (Lvl := Lvl) W ι c t ⊢ wp frame (wpE (defs₀ (F := F)) Variants.none c none) Set.univ (bodyAt3 t) (fun _ => bodyPost3 (Name := Name) (U := U) (Lvl := Lvl) W ι c t) := by
  unfold bodyPre3 bodyPost3 bodyAt3
  simp only [before3 W c 0 (by decide), before3 W c 1 (by decide), before3 W c 2 (by decide), before3 W c 3 (by decide), before3 W c 4 (by decide), before3 W c 5 (by decide), before3 W c 6 (by decide), before3 W c 7 (by decide), before3 W c 8 (by decide), before3 W c 9 (by decide), before3 W c 10 (by decide), before3 W c 11 (by decide), before3 W c 12 (by decide), before3 W c 13 (by decide), before3 W c 14 (by decide), before3 W c 15 (by decide), before3 W c 16 (by decide), before3 W c 17 (by decide)]
  rw [show (dat3 (Ix := Ix) (Name := Name) (U := U) (Lvl := Lvl) W c).Φ t.succ = (dat3 W c).Φ t.castSucc from rfl,
    show (dat3 (Ix := Ix) (Name := Name) (U := U) (Lvl := Lvl) W c).owesAt ι t.succ = (dat3 W c).owesAt ι t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (wp_body c _ _ _ _ _ _ _ _ _ _ _ _ _ _ _ _ _ _  Set.univ (grid3.coords t) _ _ _ _ _ _ _ _ _ _ _ _ _ _ _ _ _ _  _ _ _ _ (ins3 W c t) _)
  isplitl [H0 H1 H2 H3 H4 H5 H6 H7 H8 H9 H10 H11 H12 H13 H14 H15 H16 H17]
  · unfold Blocks
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexists _; iexact H18
  isplitl [H19]; · iexists _; iexact H19
  unfold Blocks
  iintro ⟨⟨H0, H1, H2, H3, H4, H5, H6, H7, H8, H9, H10, H11, H12, H13, H14, H15, H16, H17⟩, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row3 (t : Fin cfg3.N) : defs₀ (F := F) .tc cfg3.body (cfg3.bodyArgs t (cfg3.slots t)) = bodyAt3 t := rfl

/-- The body's obligation at every point of the grid. -/
theorem obligation3 (c : Dev nD) : BodyObligation (dat3 (Ix := Ix) (Name := Name) (U := U) (Lvl := Lvl) W c) (defs₀ (F := F)) Variants.none ι Set.univ := fun t => by
  rw [bigSep_W3, bigSep_W3, defs₀_row3]
  exact triple_restated (sound_body3 W ι c t) rfl .rfl fun _ => .rfl

/-! ## The second call -/

/-- Window `w`'s block at point `t`, read off its array. -/
def iblk4 (c : Dev nD) (w : Fin cfg4.W) (t : Fin cfg4.N) : ((cfg4.win w).xblock (cfg4.grid.coords t)).Idx → Elt F (cfg4.win w).elt :=
  ((cfg4.win w).blk t).view.read (Elt F) (W c (Proc.devRef .tc (Pipeline.arrRef spec4 w)))

/-- The inputs' blocks at point `t`. -/
def ins4 (c : Dev nD) (t : Fin cfg4.N) : Ins F :=
  { x0 := iblk4 W c 0 t, x1 := iblk4 W c 1 t, x2 := iblk4 W c 2 t, x3 := iblk4 W c 3 t, x4 := iblk4 W c 4 t, x5 := iblk4 W c 5 t, x6 := iblk4 W c 6 t, x7 := iblk4 W c 7 t, x8 := iblk4 W c 8 t, x9 := iblk4 W c 9 t, x10 := iblk4 W c 10 t, x11 := iblk4 W c 11 t, x12 := iblk4 W c 12 t, x13 := iblk4 W c 13 t, x14 := iblk4 W c 14 t, x15 := iblk4 W c 15 t, x16 := iblk4 W c 16 t, x17 := iblk4 W c 17 t }

/-- The call's data: the arrays as it finds them; after the body at a point every input's block as it was and the two
    results' blocks at their values; nothing owed. -/
def dat4 (c : Dev nD) : Dat τ (Elt F) Ix Name U Lvl cfg4 c where
  A w := W c (Proc.devRef .tc (Pipeline.arrRef spec4 w))
  after w t := match w with
    | ⟨0, _⟩ => iblk4 W c 0 t
    | ⟨1, _⟩ => iblk4 W c 1 t
    | ⟨2, _⟩ => iblk4 W c 2 t
    | ⟨3, _⟩ => iblk4 W c 3 t
    | ⟨4, _⟩ => iblk4 W c 4 t
    | ⟨5, _⟩ => iblk4 W c 5 t
    | ⟨6, _⟩ => iblk4 W c 6 t
    | ⟨7, _⟩ => iblk4 W c 7 t
    | ⟨8, _⟩ => iblk4 W c 8 t
    | ⟨9, _⟩ => iblk4 W c 9 t
    | ⟨10, _⟩ => iblk4 W c 10 t
    | ⟨11, _⟩ => iblk4 W c 11 t
    | ⟨12, _⟩ => iblk4 W c 12 t
    | ⟨13, _⟩ => iblk4 W c 13 t
    | ⟨14, _⟩ => iblk4 W c 14 t
    | ⟨15, _⟩ => iblk4 W c 15 t
    | ⟨16, _⟩ => iblk4 W c 16 t
    | ⟨17, _⟩ => iblk4 W c 17 t
    | ⟨18, _⟩ => logits (ins4 W c t)
    | ⟨19, _⟩ => rows (ins4 W c t)
    | ⟨_ + 20, h⟩ => absurd h (Nat.not_lt.2 (Nat.le_add_left _ _))
  Φ _ := Pipeline.scopedRest spec4 c
  q _ := fullShare
  owed _ := 0

theorem kept4 (c : Dev nD) (w : Fin 20) (hw : w.val < 18) (t : Fin cfg4.N) :
    (cfg4.win w).cut (cfg4.grid.coords t) ((dat4 (Ix := Ix) (Name := Name) (U := U) (Lvl := Lvl) W c).after w t)
      = (dat4 (Ix := Ix) (Name := Name) (U := U) (Lvl := Lvl) W c).blockOf w t := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨n + 18, h⟩ => exact absurd hw (Nat.not_lt.2 (Nat.le_add_left _ _))

theorem uncut4 (w : Fin 20) (hw : w.val < 18) : ∀ i, cfg4.idle w i = false := by
  match w with
  | ⟨0, _⟩ => exact fun _ => rfl
  | ⟨1, _⟩ => exact fun _ => rfl
  | ⟨2, _⟩ => exact fun _ => rfl
  | ⟨3, _⟩ => exact fun _ => rfl
  | ⟨4, _⟩ => exact fun _ => rfl
  | ⟨5, _⟩ => exact fun _ => rfl
  | ⟨6, _⟩ => exact fun _ => rfl
  | ⟨7, _⟩ => exact fun _ => rfl
  | ⟨8, _⟩ => exact fun _ => rfl
  | ⟨9, _⟩ => exact fun _ => rfl
  | ⟨10, _⟩ => exact fun _ => rfl
  | ⟨11, _⟩ => exact fun _ => rfl
  | ⟨12, _⟩ => exact fun _ => rfl
  | ⟨13, _⟩ => exact fun _ => rfl
  | ⟨14, _⟩ => exact fun _ => rfl
  | ⟨15, _⟩ => exact fun _ => rfl
  | ⟨16, _⟩ => exact fun _ => rfl
  | ⟨17, _⟩ => exact fun _ => rfl
  | ⟨n + 18, h⟩ => exact absurd hw (Nat.not_lt.2 (Nat.le_add_left _ _))

theorem clip4 (w : Fin 20) (hw : w.val < 18) : ∀ t t' : Fin cfg4.N, (cfg4.win w).index t = (cfg4.win w).index t' →
    (cfg4.win w).clip (cfg4.grid.coords t) = (cfg4.win w).clip (cfg4.grid.coords t') := by
  match w with
  | ⟨0, _⟩ => exact fun _ _ _ => rfl
  | ⟨1, _⟩ => exact fun _ _ _ => rfl
  | ⟨2, _⟩ => exact fun _ _ _ => rfl
  | ⟨3, _⟩ => exact fun _ _ _ => rfl
  | ⟨4, _⟩ => exact fun _ _ _ => rfl
  | ⟨5, _⟩ => exact fun _ _ _ => rfl
  | ⟨6, _⟩ => exact fun _ _ _ => rfl
  | ⟨7, _⟩ => exact fun _ _ _ => rfl
  | ⟨8, _⟩ => exact fun _ _ _ => rfl
  | ⟨9, _⟩ => exact fun _ _ _ => rfl
  | ⟨10, _⟩ => exact fun _ _ _ => rfl
  | ⟨11, _⟩ => exact fun _ _ _ => rfl
  | ⟨12, _⟩ => exact fun _ _ _ => rfl
  | ⟨13, _⟩ => exact fun _ _ _ => rfl
  | ⟨14, _⟩ => exact fun _ _ _ => rfl
  | ⟨15, _⟩ => exact fun _ _ _ => rfl
  | ⟨16, _⟩ => exact fun _ _ _ => rfl
  | ⟨17, _⟩ => exact fun _ _ _ => rfl
  | ⟨n + 18, h⟩ => exact absurd hw (Nat.not_lt.2 (Nat.le_add_left _ _))

/-- An input's staging buffer holds its block at every point. -/
theorem before4 (c : Dev nD) (w : Fin 20) (hw : w.val < 18) (t : Fin cfg4.N) (d) :
    (dat4 (Ix := Ix) (Name := Name) (U := U) (Lvl := Lvl) W c).before w t d = (dat4 (Ix := Ix) (Name := Name) (U := U) (Lvl := Lvl) W c).fetched w t d :=
  (dat4 W c).before_in_eq_fetched w (inputs4 w hw) (uncut4 w hw) (clip4 w hw) (kept4 W c w hw) t d

/-- What the body is called with at point `t`, -/
def bodyPre4 (c : Dev nD) (t : Fin cfg4.N) : sProp 𝕄 :=
  iprop((dat4 W c).Φ t.castSucc ∗ (dat4 W c).owesAt ι t.castSucc
    ∗ (∃ d, owns (c : Thread nD τ) (st4_0 t) fullShare ((dat4 (Ix := Ix) (Name := Name) (U := U) (Lvl := Lvl) W c).before 0 t d))
    ∗ (∃ d, owns (c : Thread nD τ) (st4_1 t) fullShare ((dat4 (Ix := Ix) (Name := Name) (U := U) (Lvl := Lvl) W c).before 1 t d))
    ∗ (∃ d, owns (c : Thread nD τ) (st4_2 t) fullShare ((dat4 (Ix := Ix) (Name := Name) (U := U) (Lvl := Lvl) W c).before 2 t d))
    ∗ (∃ d, owns (c : Thread nD τ) (st4_3 t) fullShare ((dat4 (Ix := Ix) (Name := Name) (U := U) (Lvl := Lvl) W c).before 3 t d))
    ∗ (∃ d, owns (c : Thread nD τ) (st4_4 t) fullShare ((dat4 (Ix := Ix) (Name := Name) (U := U) (Lvl := Lvl) W c).before 4 t d))
    ∗ (∃ d, owns (c : Thread nD τ) (st4_5 t) fullShare ((dat4 (Ix := Ix) (Name := Name) (U := U) (Lvl := Lvl) W c).before 5 t d))
    ∗ (∃ d, owns (c : Thread nD τ) (st4_6 t) fullShare ((dat4 (Ix := Ix) (Name := Name) (U := U) (Lvl := Lvl) W c).before 6 t d))
    ∗ (∃ d, owns (c : Thread nD τ) (st4_7 t) fullShare ((dat4 (Ix := Ix) (Name := Name) (U := U) (Lvl := Lvl) W c).before 7 t d))
    ∗ (∃ d, owns (c : Thread nD τ) (st4_8 t) fullShare ((dat4 (Ix := Ix) (Name := Name) (U := U) (Lvl := Lvl) W c).before 8 t d))
    ∗ (∃ d, owns (c : Thread nD τ) (st4_9 t) fullShare ((dat4 (Ix := Ix) (Name := Name) (U := U) (Lvl := Lvl) W c).before 9 t d))
    ∗ (∃ d, owns (c : Thread nD τ) (st4_10 t) fullShare ((dat4 (Ix := Ix) (Name := Name) (U := U) (Lvl := Lvl) W c).before 10 t d))
    ∗ (∃ d, owns (c : Thread nD τ) (st4_11 t) fullShare ((dat4 (Ix := Ix) (Name := Name) (U := U) (Lvl := Lvl) W c).before 11 t d))
    ∗ (∃ d, owns (c : Thread nD τ) (st4_12 t) fullShare ((dat4 (Ix := Ix) (Name := Name) (U := U) (Lvl := Lvl) W c).before 12 t d))
    ∗ (∃ d, owns (c : Thread nD τ) (st4_13 t) fullShare ((dat4 (Ix := Ix) (Name := Name) (U := U) (Lvl := Lvl) W c).before 13 t d))
    ∗ (∃ d, owns (c : Thread nD τ) (st4_14 t) fullShare ((dat4 (Ix := Ix) (Name := Name) (U := U) (Lvl := Lvl) W c).before 14 t d))
    ∗ (∃ d, owns (c : Thread nD τ) (st4_15 t) fullShare ((dat4 (Ix := Ix) (Name := Name) (U := U) (Lvl := Lvl) W c).before 15 t d))
    ∗ (∃ d, owns (c : Thread nD τ) (st4_16 t) fullShare ((dat4 (Ix := Ix) (Name := Name) (U := U) (Lvl := Lvl) W c).before 16 t d))
    ∗ (∃ d, owns (c : Thread nD τ) (st4_17 t) fullShare ((dat4 (Ix := Ix) (Name := Name) (U := U) (Lvl := Lvl) W c).before 17 t d))
    ∗ (∃ d, owns (c : Thread nD τ) (st4_18 t) fullShare ((dat4 (Ix := Ix) (Name := Name) (U := U) (Lvl := Lvl) W c).before 18 t d))
    ∗ (∃ d, owns (c : Thread nD τ) (st4_19 t) fullShare ((dat4 (Ix := Ix) (Name := Name) (U := U) (Lvl := Lvl) W c).before 19 t d)))

/-- and what it returns. -/
def bodyPost4 (c : Dev nD) (t : Fin cfg4.N) : sProp 𝕄 :=
  iprop((dat4 W c).Φ t.succ ∗ (dat4 W c).owesAt ι t.succ
    ∗ owns (c : Thread nD τ) (st4_0 t) fullShare ((dat4 (Ix := Ix) (Name := Name) (U := U) (Lvl := Lvl) W c).after 0 t)
    ∗ owns (c : Thread nD τ) (st4_1 t) fullShare ((dat4 (Ix := Ix) (Name := Name) (U := U) (Lvl := Lvl) W c).after 1 t)
    ∗ owns (c : Thread nD τ) (st4_2 t) fullShare ((dat4 (Ix := Ix) (Name := Name) (U := U) (Lvl := Lvl) W c).after 2 t)
    ∗ owns (c : Thread nD τ) (st4_3 t) fullShare ((dat4 (Ix := Ix) (Name := Name) (U := U) (Lvl := Lvl) W c).after 3 t)
    ∗ owns (c : Thread nD τ) (st4_4 t) fullShare ((dat4 (Ix := Ix) (Name := Name) (U := U) (Lvl := Lvl) W c).after 4 t)
    ∗ owns (c : Thread nD τ) (st4_5 t) fullShare ((dat4 (Ix := Ix) (Name := Name) (U := U) (Lvl := Lvl) W c).after 5 t)
    ∗ owns (c : Thread nD τ) (st4_6 t) fullShare ((dat4 (Ix := Ix) (Name := Name) (U := U) (Lvl := Lvl) W c).after 6 t)
    ∗ owns (c : Thread nD τ) (st4_7 t) fullShare ((dat4 (Ix := Ix) (Name := Name) (U := U) (Lvl := Lvl) W c).after 7 t)
    ∗ owns (c : Thread nD τ) (st4_8 t) fullShare ((dat4 (Ix := Ix) (Name := Name) (U := U) (Lvl := Lvl) W c).after 8 t)
    ∗ owns (c : Thread nD τ) (st4_9 t) fullShare ((dat4 (Ix := Ix) (Name := Name) (U := U) (Lvl := Lvl) W c).after 9 t)
    ∗ owns (c : Thread nD τ) (st4_10 t) fullShare ((dat4 (Ix := Ix) (Name := Name) (U := U) (Lvl := Lvl) W c).after 10 t)
    ∗ owns (c : Thread nD τ) (st4_11 t) fullShare ((dat4 (Ix := Ix) (Name := Name) (U := U) (Lvl := Lvl) W c).after 11 t)
    ∗ owns (c : Thread nD τ) (st4_12 t) fullShare ((dat4 (Ix := Ix) (Name := Name) (U := U) (Lvl := Lvl) W c).after 12 t)
    ∗ owns (c : Thread nD τ) (st4_13 t) fullShare ((dat4 (Ix := Ix) (Name := Name) (U := U) (Lvl := Lvl) W c).after 13 t)
    ∗ owns (c : Thread nD τ) (st4_14 t) fullShare ((dat4 (Ix := Ix) (Name := Name) (U := U) (Lvl := Lvl) W c).after 14 t)
    ∗ owns (c : Thread nD τ) (st4_15 t) fullShare ((dat4 (Ix := Ix) (Name := Name) (U := U) (Lvl := Lvl) W c).after 15 t)
    ∗ owns (c : Thread nD τ) (st4_16 t) fullShare ((dat4 (Ix := Ix) (Name := Name) (U := U) (Lvl := Lvl) W c).after 16 t)
    ∗ owns (c : Thread nD τ) (st4_17 t) fullShare ((dat4 (Ix := Ix) (Name := Name) (U := U) (Lvl := Lvl) W c).after 17 t)
    ∗ owns (c : Thread nD τ) (st4_18 t) fullShare ((dat4 (Ix := Ix) (Name := Name) (U := U) (Lvl := Lvl) W c).after 18 t)
    ∗ owns (c : Thread nD τ) (st4_19 t) fullShare ((dat4 (Ix := Ix) (Name := Name) (U := U) (Lvl := Lvl) W c).after 19 t))

set_option maxHeartbeats 1000000 in
theorem sound_body4 (c : Dev nD) (t : Fin cfg4.N) :
    bodyPre4 (Name := Name) (U := U) (Lvl := Lvl) W ι c t ⊢ wp frame (wpE (defs₀ (F := F)) Variants.none c none) Set.univ (bodyAt4 t) (fun _ => bodyPost4 (Name := Name) (U := U) (Lvl := Lvl) W ι c t) := by
  unfold bodyPre4 bodyPost4 bodyAt4
  simp only [before4 W c 0 (by decide), before4 W c 1 (by decide), before4 W c 2 (by decide), before4 W c 3 (by decide), before4 W c 4 (by decide), before4 W c 5 (by decide), before4 W c 6 (by decide), before4 W c 7 (by decide), before4 W c 8 (by decide), before4 W c 9 (by decide), before4 W c 10 (by decide), before4 W c 11 (by decide), before4 W c 12 (by decide), before4 W c 13 (by decide), before4 W c 14 (by decide), before4 W c 15 (by decide), before4 W c 16 (by decide), before4 W c 17 (by decide)]
  rw [show (dat4 (Ix := Ix) (Name := Name) (U := U) (Lvl := Lvl) W c).Φ t.succ = (dat4 W c).Φ t.castSucc from rfl,
    show (dat4 (Ix := Ix) (Name := Name) (U := U) (Lvl := Lvl) W c).owesAt ι t.succ = (dat4 W c).owesAt ι t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  rw [body_eq]
  iapply (wp_body c _ _ _ _ _ _ _ _ _ _ _ _ _ _ _ _ _ _  Set.univ (grid4.coords t) _ _ _ _ _ _ _ _ _ _ _ _ _ _ _ _ _ _  _ _ _ _ (ins4 W c t) _)
  isplitl [H0 H1 H2 H3 H4 H5 H6 H7 H8 H9 H10 H11 H12 H13 H14 H15 H16 H17]
  · unfold Blocks
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexists _; iexact H18
  isplitl [H19]; · iexists _; iexact H19
  unfold Blocks
  iintro ⟨⟨H0, H1, H2, H3, H4, H5, H6, H7, H8, H9, H10, H11, H12, H13, H14, H15, H16, H17⟩, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row4 (t : Fin cfg4.N) : defs₀ (F := F) .tc cfg4.body (cfg4.bodyArgs t (cfg4.slots t)) = bodyAt4 t := rfl

/-- The body's obligation at every point of the grid. -/
theorem obligation4 (c : Dev nD) : BodyObligation (dat4 (Ix := Ix) (Name := Name) (U := U) (Lvl := Lvl) W c) (defs₀ (F := F)) Variants.none ι Set.univ := fun t => by
  rw [bigSep_W4, bigSep_W4, defs₀_row4]
  exact triple_restated (sound_body4 W ι c t) rfl .rfl fun _ => .rfl

end Cert.Proof.Dense

end
-- ==== Proof.Launch.Host.lean ====
/-
  @main on the host: its lines of plain operations, the contents they leave, and the three SparseCore calls' operands
  taken out of the host's buffers and put back.
-/
module

public import proofs.«01_k».proof.Proof.Launch.Arrays
public import proofs.«01_k».proof.Proof.Dense.Data
public import Idealize.ShloMosaic.Lib.Pipeline.RegionArraysS
public import Idealize.ShloMosaic.Lib.StableHlo.RunRead

@[expose] public section

noncomputable section

namespace Cert.Proof.Launch

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

/-! ## The lines of plain operations -/

/-- Before the SparseCore calls: the index words field by field, in halves, and the numbers as a line. -/
def ops0 : List (HloOp τ sig (Elt F)) :=
  [ StableHlo.unary main_arg0 main_v0 ((transpose S26x16384 [1, 0] · transposes_S16384x26_S26x16384_1_0) : (⟨S16384x26, .i32⟩ : BufTy).Contents (Elt F) → (⟨S26x16384, .i32⟩ : BufTy).Contents (Elt F))
  , StableHlo.reshape main_arg3 main_v1 (rfl : (.f32 : EltTy) = .f32) shapeCasts_S26000x1_S26000
  , StableHlo.unary main_v0 main_v2 ((extractStridedSlice S26x8192 ![0, 0] · slices_S26x16384_S26x8192_0_0) : (⟨S26x16384, .i32⟩ : BufTy).Contents (Elt F) → (⟨S26x8192, .i32⟩ : BufTy).Contents (Elt F))
  , StableHlo.reshape main_v2 main_v3 (rfl : (.i32 : EltTy) = .i32) shapeCasts_S26x8192_S1664x128
  , StableHlo.unary main_v0 main_v4 ((extractStridedSlice S26x8192 ![0, 8192] · slices_S26x16384_S26x8192_0_8192) : (⟨S26x16384, .i32⟩ : BufTy).Contents (Elt F) → (⟨S26x8192, .i32⟩ : BufTy).Contents (Elt F))
  , StableHlo.reshape main_v4 main_v5 (rfl : (.i32 : EltTy) = .i32) shapeCasts_S26x8192_S1664x128
  , StableHlo.reshape main_v0 main_v6 (rfl : (.i32 : EltTy) = .i32) shapeCasts_S26x16384_S425984 ]
/-- Between the SparseCore calls and the first dense kernel: the weights cut and rounded, the first rows shaped. -/
def ops1 : List (HloOp τ sig (Elt F)) :=
  [ StableHlo.unary main_arg4 main_v10 ((extractStridedSlice S3328x1024 ![0, 0] · slices_S3332x1024_S3328x1024_0_0) : (⟨S3332x1024, .f32⟩ : BufTy).Contents (Elt F) → (⟨S3328x1024, .f32⟩ : BufTy).Contents (Elt F))
  , StableHlo.unary main_v10 main_v11 ((truncf .bf16 · bitsLt_bf16_f32) : (⟨S3328x1024, .f32⟩ : BufTy).Contents (Elt F) → (⟨S3328x1024, .bf16⟩ : BufTy).Contents (Elt F))
  , StableHlo.unary main_arg4 main_v12 ((extractStridedSlice S4x1024 ![3328, 0] · slices_S3332x1024_S4x1024_3328_0) : (⟨S3332x1024, .f32⟩ : BufTy).Contents (Elt F) → (⟨S4x1024, .f32⟩ : BufTy).Contents (Elt F))
  , StableHlo.unary main_arg8 main_v13 ((truncf .bf16 · bitsLt_bf16_f32) : (⟨S1024x512, .f32⟩ : BufTy).Contents (Elt F) → (⟨S1024x512, .bf16⟩ : BufTy).Contents (Elt F))
  , StableHlo.unary main_arg12 main_v14 ((truncf .bf16 · bitsLt_bf16_f32) : (⟨S512x256, .f32⟩ : BufTy).Contents (Elt F) → (⟨S512x256, .bf16⟩ : BufTy).Contents (Elt F))
  , StableHlo.reshape main_v8 main_v15 (rfl : (.f32 : EltTy) = .f32) shapeCasts_S212992x128_S26x8192x128 ]
/-- Between the dense kernels: the second rows shaped, the first outputs handed on. -/
def ops2 : List (HloOp τ sig (Elt F)) :=
  [ StableHlo.reshape main_v9 main_v17 (rfl : (.f32 : EltTy) = .f32) shapeCasts_S212992x128_S26x8192x128
  , StableHlo.unary main_v16_1 main_v18_1 id ]
/-- After the dense kernels: the two halves joined, the rows turned. -/
def ops3 : List (HloOp τ sig (Elt F)) :=
  [ StableHlo.binary main_v16_0 main_v18_0 main_v19 ((fun a b => concatenate S16384x1 0 [⟨S8192x1, a⟩, ⟨S8192x1, b⟩] concatenates_S8192x1_S8192x1_S16384x1_d0) : (⟨S8192x1, .f32⟩ : BufTy).Contents (Elt F) → (⟨S8192x1, .f32⟩ : BufTy).Contents (Elt F) → (⟨S16384x1, .f32⟩ : BufTy).Contents (Elt F))
  , StableHlo.unary main_v18_1 main_v20 ((transpose S16384x26x128 [1, 0, 2] · transposes_S26x16384x128_S16384x26x128_1_0_2) : (⟨S26x16384x128, .f32⟩ : BufTy).Contents (Elt F) → (⟨S16384x26x128, .f32⟩ : BufTy).Contents (Elt F)) ]
def wr0 : List (Ref sig .tc) := [main_v0, main_v1, main_v2, main_v3, main_v4, main_v5, main_v6]
def wr1 : List (Ref sig .tc) := [main_v10, main_v11, main_v12, main_v13, main_v14, main_v15]
def wr2 : List (Ref sig .tc) := [main_v17, main_v18_1]
def wr3 : List (Ref sig .tc) := [main_v19, main_v20]
theorem ops0_writes : (ops0 (F := F)).map HloOp.writes = wr0.map fun w => {Proc.devRef (τ := τ) .tc w} := rfl
theorem ops1_writes : (ops1 (F := F)).map HloOp.writes = wr1.map fun w => {Proc.devRef (τ := τ) .tc w} := rfl
theorem ops2_writes : (ops2 (F := F)).map HloOp.writes = wr2.map fun w => {Proc.devRef (τ := τ) .tc w} := rfl
theorem ops3_writes : (ops3 (F := F)).map HloOp.writes = wr3.map fun w => {Proc.devRef (τ := τ) .tc w} := rfl

theorem unscoped_of {ops : List (HloOp τ sig (Elt F))} (h : ops.Forall fun op => op.bufs ⊆ StableHlo.tcRefs τ sig) :
    ∀ op ∈ ops, op.bufs ⊆ Pipeline.ucRefs τ sig := fun op ho => Pipeline.sub_ucRefs op (List.forall_iff_forall_mem.mp h op ho)
theorem ops0_sub : ∀ op ∈ ops0 (F := F), op.bufs ⊆ Pipeline.ucRefs τ sig := unscoped_of (by simp [ops0])
theorem ops0_fresh : ∀ op ∈ ops0 (F := F), op.fresh = ∅ := by intro op h; fin_cases h <;> rfl
theorem ops1_sub : ∀ op ∈ ops1 (F := F), op.bufs ⊆ Pipeline.ucRefs τ sig := unscoped_of (by simp [ops1])
theorem ops1_fresh : ∀ op ∈ ops1 (F := F), op.fresh = ∅ := by intro op h; fin_cases h <;> rfl
theorem ops2_sub : ∀ op ∈ ops2 (F := F), op.bufs ⊆ Pipeline.ucRefs τ sig := unscoped_of (by simp [ops2])
theorem ops2_fresh : ∀ op ∈ ops2 (F := F), op.fresh = ∅ := by intro op h; fin_cases h <;> rfl
theorem ops3_sub : ∀ op ∈ ops3 (F := F), op.bufs ⊆ Pipeline.ucRefs τ sig := unscoped_of (by simp [ops3])
theorem ops3_fresh : ∀ op ∈ ops3 (F := F), op.fresh = ∅ := by intro op h; fin_cases h <;> rfl

/-- @main is its lines, its calls and its dense kernels in order. -/
theorem main_eq (d : Dev nD) : main (F := F) d =
    (StableHlo.seq ops0 >>= fun _ => sc.run d 0 >>= fun _ => sc.run d 1 >>= fun _ => sc.run d 2 >>= fun _ =>
      StableHlo.seq ops1 >>= fun _ => Prog.lift (.customCall (SparseCore.inner (Pipeline.entry 0)) ()) >>= fun _ =>
      StableHlo.seq ops2 >>= fun _ => Prog.lift (.customCall (SparseCore.inner (Pipeline.entry 1)) ()) >>= fun _ =>
      StableHlo.seq ops3 >>= fun _ => pure ⟨⟩) := rfl

end Cert.Proof.Launch

end
-- ==== Proof.Launch.Calls.lean ====
/-
  A SparseCore call as a step of the host: its operands out of the host's buffers, its output back in.
-/
module

public import proofs.«01_k».proof.Proof.Launch.Host

@[expose] public section

noncomputable section

namespace Cert.Proof.Launch

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-! ## Three of the host's buffers taken out and put back -/

/-- Three different unscoped buffers out of all of them, -/
theorem take_three (d : Dev nD) (a t o : Ref sig .tc) (hat : a ≠ t) (hao : a ≠ o) (hto : t ≠ o)
    (ha : a.isScoped = false) (ht : t.isScoped = false) (ho : o.isScoped = false) (V : Valuation τ sig (Elt F)) :
    (StableHlo.held (T d) (Pipeline.ucRefs τ sig) V : sProp 𝕄)
      = iprop((arr d a (V (Proc.devRef .tc a)) ∗ arr d t (V (Proc.devRef .tc t)) ∗ arr d o (V (Proc.devRef .tc o)))
          ∗ StableHlo.held (T d) (Pipeline.ucRefs τ sig \ {Proc.devRef .tc a, Proc.devRef .tc t, Proc.devRef .tc o}) V) := by
  have mem : ∀ r : Ref sig .tc, r.isScoped = false → Proc.devRef .tc r ∈ Pipeline.ucRefs τ sig := fun r h =>
    Finset.mem_filter.mpr ⟨StableHlo.devRef_mem_tcRefs _, fun h' => Bool.false_ne_true (h.symm.trans h')⟩
  have ne : ∀ {r r' : Ref sig .tc}, r ≠ r' → (Proc.devRef (τ := τ) .tc r) ≠ Proc.devRef .tc r' := fun h e => h (Proc.devRef_injective _ e)
  rw [StableHlo.held_sub_split (T d) (T := {Proc.devRef .tc a, Proc.devRef .tc t, Proc.devRef .tc o}) (fun b hb => by
    rcases Finset.mem_insert.mp hb with rfl | hb
    · exact mem a ha
    rcases Finset.mem_insert.mp hb with rfl | hb
    · exact mem t ht
    · cases Finset.mem_singleton.mp hb; exact mem o ho) V]
  congr 1
  unfold StableHlo.held
  rw [SparseCore.bigSep_insert' (by simp [ne hat, ne hao]), SparseCore.bigSep_insert' (by simp [ne hto]), bigSep_singleton]

/-- and back, the third with new contents. -/
theorem put_three (d : Dev nD) (a t o : Ref sig .tc) (hat : a ≠ t) (hao : a ≠ o) (hto : t ≠ o)
    (ha : a.isScoped = false) (ht : t.isScoped = false) (ho : o.isScoped = false) (V : Valuation τ sig (Elt F))
    (X : Buf (Elt F) ((T d : Thread nD τ).loc o)) :
    (iprop((arr d a (V (Proc.devRef .tc a)) ∗ arr d t (V (Proc.devRef .tc t)) ∗ arr d o X)
        ∗ StableHlo.held (T d) (Pipeline.ucRefs τ sig \ {Proc.devRef .tc a, Proc.devRef .tc t, Proc.devRef .tc o}) V) : sProp 𝕄)
      = StableHlo.held (T d) (Pipeline.ucRefs τ sig) (Function.update V (Proc.devRef .tc o) X) := by
  have ne : ∀ {r r' : Ref sig .tc}, r ≠ r' → (Proc.devRef (τ := τ) .tc r) ≠ Proc.devRef .tc r' := fun h e => h (Proc.devRef_injective _ e)
  rw [take_three d a t o hat hao hto ha ht ho (Function.update V (Proc.devRef .tc o) X),
    Function.update_of_ne (ne hao), Function.update_of_ne (ne hto), Function.update_self]
  congr 1
  refine StableHlo.held_congr (T d) fun b hb => (Function.update_of_ne ?_ _ _).symm
  rintro rfl
  exact (Finset.mem_sdiff.mp hb).2 (by simp)

/-! ## One SparseCore call -/

variable (VA : Dev nD → Valuation τ sig (Elt F))

/-- The host's contents after call `q`. -/
def stepped (q : Fin 3) (d : Dev nD) (V : Valuation τ sig (Elt F)) : Valuation τ sig (Elt F) :=
  Function.update V (Proc.devRef .tc (dst q)) (left VA d q)

theorem lst_tbl (q : Fin 3) : lst q ≠ tbl q := by revert q; decide
theorem lst_dst (q : Fin 3) : lst q ≠ dst q := by revert q; decide
theorem tbl_dst (q : Fin 3) : tbl q ≠ dst q := by revert q; decide
theorem lst_un (q : Fin 3) : (lst q).isScoped = false := by revert q; decide
theorem tbl_un (q : Fin 3) : (tbl q).isScoped = false := by revert q; decide
theorem dst_un (q : Fin 3) : (dst q).isScoped = false := by revert q; decide

/-- Call `q` run from the host's buffers at contents that agree with `VA` on the call's operands: they come back with the
    call's output in place. -/
theorem call_step [∀ e, Nonempty (Elt F e)] (κ : GSem nD τ sig → ℕ) (d : Dev nD) (q : Fin 3) (W : Valuation τ sig (Elt F))
    (h1 : W (Proc.devRef .tc (lst q)) = VA d (Proc.devRef .tc (lst q))) (h2 : W (Proc.devRef .tc (tbl q)) = VA d (Proc.devRef .tc (tbl q)))
    (h3 : W (Proc.devRef .tc (dst q)) = VA d (Proc.devRef .tc (dst q)))
    {Φ : PUnit → sProp 𝕄} :
    iprop((K (F := F)).ctx EH (P VA) κ ∗ (K (F := F)).tcSt EH d q.val ∗ StableHlo.held (T d) (Pipeline.ucRefs τ sig) W
        ∗ ((K (F := F)).tcSt EH d (q.val + 1) ∗ StableHlo.held (T d) (Pipeline.ucRefs τ sig) (stepped VA q d W) -∗ Φ ⟨⟩))
      ⊢ wp frame (wpE ((K (F := F)).defs (D (F := F))) 𝒱 (T d) none) Set.univ ((K (F := F)).run d q) Φ := by
  have e3 := put_three d (lst q) (tbl q) (dst q) (lst_tbl q) (lst_dst q) (tbl_dst q) (lst_un q) (tbl_un q) (dst_un q) W (left VA d q)
  rw [take_three d (lst q) (tbl q) (dst q) (lst_tbl q) (lst_dst q) (tbl_dst q) (lst_un q) (tbl_un q) (dst_un q) W]
  unfold stepped
  rw [← e3, h1, h2, h3]
  iintro ⟨Hctx, Hst, ⟨Hops, Hrest⟩, Hk⟩
  iapply ((K (F := F)).wp_run (D (F := F)) 𝒱 (EH := EH) (P := P VA) κ d q) $$ [Hctx Hst Hops Hrest Hk]
  isplitl [Hctx]; · iexact Hctx
  isplitl [Hst]; · iexact Hst
  isplitl [Hops]
  · iapply (Entails.of_eq (call_in VA q d)) $$ Hops
  iintro ⟨Hst, Hdn⟩
  ihave Hdn' := (Entails.of_eq (call_out VA q d)) $$ Hdn
  iapply Hk
  isplitl [Hst]; · iexact Hst
  isplitl [Hdn']; · iexact Hdn'
  iexact Hrest

end Cert.Proof.Launch

end
-- ==== Proof.Launch.Regions.lean ====
/-
  The two dense kernels as steps of the host: all its buffers in, the kernel's two outputs changed.
-/
module

public import proofs.«01_k».proof.Proof.Launch.Host

@[expose] public section

noncomputable section

namespace Cert.Proof.Launch

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

variable (WA WB : Dev nD → Valuation τ sig (Elt F))

/-- The pipelines' tables: there are none. -/
abbrev adm : (p : Fin 2) → (pcfgs (F := F) p).Adm := fun p => (cfgs p).toPCfg_adm

/-- Both dense kernels' proof data, the first entered at `WA`, the second at `WB`. -/
def pdats : (p : Fin 2) → (c : Dev nD) → Pipeline.Dat τ (Elt F) (HIx 3) ℕ UU ℕ (Pipeline.pin (pcfgs (F := F)) adm p) c
  | ⟨0, _⟩ => fun c => Dense.dat3 WA c
  | ⟨1, _⟩ => fun c => Dense.dat4 WB c

theorem loose3 (c : Dev nD) : Pipeline.BodyObligationLoose (pdats WA WB 0 c) (defs₀ (F := F)) 𝒱₀ (none : HIx 3) Set.univ := by
  have h : Pipeline.BodyObligationLoose (Dense.dat3 (Name := ℕ) (U := UU) (Lvl := ℕ) WA c) (defs₀ (F := F)) 𝒱₀ (none : HIx 3) Set.univ := (Dense.obligation3 WA none c).loose
  exact h
theorem loose4 (c : Dev nD) : Pipeline.BodyObligationLoose (pdats WA WB 1 c) (defs₀ (F := F)) 𝒱₀ (none : HIx 3) Set.univ := by
  have h : Pipeline.BodyObligationLoose (Dense.dat4 (Name := ℕ) (U := UU) (Lvl := ℕ) WB c) (defs₀ (F := F)) 𝒱₀ (none : HIx 3) Set.univ := (Dense.obligation4 WB none c).loose
  exact h
theorem full3 (c : Dev nD) : ∀ w, (pdats WA WB 0 c).share w = fullShare := (Dense.dat3 (Ix := HIx 3) (Name := ℕ) (U := UU) (Lvl := ℕ) WA c).share_full fun _ => rfl
theorem full4 (c : Dev nD) : ∀ w, (pdats WA WB 1 c).share w = fullShare := (Dense.dat4 (Ix := HIx 3) (Name := ℕ) (U := UU) (Lvl := ℕ) WB c).share_full fun _ => rfl
theorem owed_none (p : Fin 2) (c : Dev nD) (t) : (pdats WA WB p c).owed t = 0 := match p with | 0 => rfl | 1 => rfl
theorem rec_all (p : Fin 2) (c : Dev nD) : (pdats WA WB p c).recorded 0 = Set.univ := match p with | 0 => rfl | 1 => rfl
theorem spec_3 (c : Dev nD) : (Pipeline.scopedRest spec3 c : sProp 𝕄) = Pipeline.scopedRest (Pipeline.pin (pcfgs (F := F)) adm 0).spec c := rfl
theorem phi3 (c : Dev nD) (t) : (pdats WA WB 0 c).Φ t = Pipeline.scopedRest spec3 c := rfl
theorem rest_in3 (c : Dev nD) : iprop(Pipeline.scopedRest (Pipeline.pin (pcfgs (F := F)) adm 0).spec c ∗ emp) ⊢ (pdats WA WB 0 c).Φ 0 := by
  rw [phi3, ← spec_3]; exact sep_elim_left
theorem rest_out3 (c : Dev nD) : (pdats WA WB 0 c).Φ (Fin.last _) ⊢ iprop(Pipeline.scopedRest (Pipeline.pin (pcfgs (F := F)) adm 0).spec c ∗ emp) := by
  rw [phi3, ← spec_3]
  generalize (Pipeline.scopedRest spec3 c : sProp 𝕄) = R
  iintro H
  isplitl [H]; · iexact H
  iempintro
theorem spec_4 (c : Dev nD) : (Pipeline.scopedRest spec4 c : sProp 𝕄) = Pipeline.scopedRest (Pipeline.pin (pcfgs (F := F)) adm 1).spec c := rfl
theorem phi4 (c : Dev nD) (t) : (pdats WA WB 1 c).Φ t = Pipeline.scopedRest spec4 c := rfl
theorem rest_in4 (c : Dev nD) : iprop(Pipeline.scopedRest (Pipeline.pin (pcfgs (F := F)) adm 1).spec c ∗ emp) ⊢ (pdats WA WB 1 c).Φ 0 := by
  rw [phi4, ← spec_4]; exact sep_elim_left
theorem rest_out4 (c : Dev nD) : (pdats WA WB 1 c).Φ (Fin.last _) ⊢ iprop(Pipeline.scopedRest (Pipeline.pin (pcfgs (F := F)) adm 1).spec c ∗ emp) := by
  rw [phi4, ← spec_4]
  generalize (Pipeline.scopedRest spec4 c : sProp 𝕄) = R
  iintro H
  isplitl [H]; · iexact H
  iempintro

/-- Nothing is owed, so the levels ask nothing. -/
theorem cut (p : Fin 2) : Pipeline.LevelCut (pcfgs (F := F)) adm (none : HIx 3) (K (F := F)).L (K (F := F)).lev p (fun _ : Dev nD => 0) (fun _ => 0) where
  hι _ _ _ := Finset.mem_univ _
  hιb _ _ _ := by simp
  hD _ _ _ h := absurd h (Nat.lt_irrefl 0)

/-- The first dense kernel, entered from all the host's buffers, -/
def seg3 : Pipeline.RegionSeg (pcfgs (F := F)) adm (pdats WA WB) (none : HIx 3) defs₀ 𝒱₀ (K (F := F)).L (K (F := F)).lev 0 :=
  Pipeline.RegionSeg.ofHeldIn (pcfgs (F := F)) adm (pdats WA WB) none defs₀ 𝒱₀ (K (F := F)).L (K (F := F)).lev 0 (fun _ => 0)
    (Pipeline.ucRefs τ sig) (fun _ => iprop(emp)) (fun _ => iprop(emp)) launch3.toP rfl
    (loose3 WA WB) (owed_none WA WB 0) (rec_all WA WB 0) (full3 WA WB) (rest_in3 WA WB) (rest_out3 WA WB)
    (fun _ => 0) (cut 0) (fun _ => iprop(emp)) WA (fun _ _ => rfl)

/-- and the second. -/
def seg4 : Pipeline.RegionSeg (pcfgs (F := F)) adm (pdats WA WB) (none : HIx 3) defs₀ 𝒱₀ (K (F := F)).L (K (F := F)).lev 1 :=
  Pipeline.RegionSeg.ofHeldIn (pcfgs (F := F)) adm (pdats WA WB) none defs₀ 𝒱₀ (K (F := F)).L (K (F := F)).lev 1 (fun _ => 0)
    (Pipeline.ucRefs τ sig) (fun _ => iprop(emp)) (fun _ => iprop(emp)) launch4.toP rfl
    (loose4 WA WB) (owed_none WA WB 1) (rec_all WA WB 1) (full4 WA WB) (rest_in4 WA WB) (rest_out4 WA WB)
    (fun _ => 0) (cut 1) (fun _ => iprop(emp)) WB (fun _ _ => rfl)

/-- What the pipeline needs of the launch: its cells' ghost state and its transfers' tokens. -/
abbrev tickets (p : Fin 2) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

/-- Entry and exit of a dense kernel put in the host's words, around any run of it. -/
theorem region_wrap {B H H' O L G1 G2 pre post E X Y : sProp 𝕄} (hX : X ⊢ E)
    (hpre : iprop(H ∗ (O ∗ emp ∗ emp)) ⊢ pre) (hpost : post ⊢ iprop(H' ∗ (O ∗ emp ∗ emp)))
    (h : iprop((iprop(B ∗ post) -∗ E) ∗ B ∗ pre ∗ L ∗ G1 ∗ G2) ⊢ Y) :
    iprop(B ∗ H ∗ O ∗ L ∗ (G1 ∗ G2) ∗ ((B ∗ H' ∗ O) -∗ X)) ⊢ Y := by
  refine BIBase.Entails.trans ?_ h
  iintro ⟨Hb, Hh, HO, Hl, ⟨Hg, Ht⟩, Hk⟩
  isplitl [Hk]
  · iintro ⟨Hb, Hp⟩
    ihave Hp' := hpost $$ Hp
    icases Hp' with ⟨Hh, HO, -, -⟩
    iapply hX
    iapply Hk
    isplitl [Hb]; · iexact Hb
    isplitl [Hh]; · iexact Hh
    iexact HO
  isplitl [Hb]; · iexact Hb
  isplitl [Hh HO]
  · iapply hpre
    isplitl [Hh]; · iexact Hh
    isplitl [HO]; · iexact HO
    isplitr <;> iempintro
  isplitl [Hl]; · iexact Hl
  isplitl [Hg]; · iexact Hg
  iexact Ht

/-- A program that is over has its postcondition. -/
theorem wp_ret_of {d : Dev nD} {Φ : PUnit → sProp 𝕄} :
    Φ ⟨⟩ ⊢ wp frame (wpE (D (F := F)) 𝒱 (T d) none) Set.univ (.ret ⟨⟩) Φ := by
  rw [wp_ret]
  iintro H
  imodintro
  iexact H

theorem seg3_pre (d : Dev nD) : iprop(StableHlo.held (T d) (Pipeline.ucRefs τ sig) (WA d) ∗ ((∃ Wd, owes (T d) 0 Wd) ∗ emp ∗ emp)) ⊢ (seg3 WA WB).pre d := by
  unfold seg3
  exact Pipeline.RegionSeg.ofHeldIn_pre (pcs := pcfgs (F := F)) (a := adm) (pdats := pdats WA WB) (ι := none) (defs₀ := defs₀) (𝒱₀ := 𝒱₀)
    (L := (K (F := F)).L) (lv := (K (F := F)).lev) (p := 0) (D := fun _ => 0) (S := Pipeline.ucRefs τ sig) (Pipeline.arrRefs_sub_ucRefs _ winFacts3.arr_unscoped)
    (X := fun _ => iprop(emp)) (Y := fun _ => iprop(emp)) (kit := launch3.toP) (hK := rfl) (hbody := loose3 WA WB) (howed := owed_none WA WB 0)
    (hrec := rec_all WA WB 0) (hshare := full3 WA WB) (hin := rest_in3 WA WB) (hout := rest_out3 WA WB) (b := fun _ => 0) (hcut := cut 0)
    (R := fun _ => iprop(emp)) (W := WA) (hW := fun _ _ => rfl) d

theorem seg3_post (d : Dev nD) : (seg3 WA WB).post d ⊢ iprop(StableHlo.held (T d) (Pipeline.ucRefs τ sig) (Pipeline.afterRegion (pdats WA WB 0 d) (WA d))
    ∗ ((∃ Wd, owes (T d) 0 Wd) ∗ emp ∗ emp)) := by
  unfold seg3
  exact Pipeline.RegionSeg.ofHeldIn_post (pcs := pcfgs (F := F)) (a := adm) (pdats := pdats WA WB) (ι := none) (defs₀ := defs₀) (𝒱₀ := 𝒱₀)
    (L := (K (F := F)).L) (lv := (K (F := F)).lev) (p := 0) (D := fun _ => 0) (S := Pipeline.ucRefs τ sig) (Pipeline.arrRefs_sub_ucRefs _ winFacts3.arr_unscoped)
    (X := fun _ => iprop(emp)) (Y := fun _ => iprop(emp)) (kit := launch3.toP) (hK := rfl) (hbody := loose3 WA WB) (howed := owed_none WA WB 0)
    (hrec := rec_all WA WB 0) (hshare := full3 WA WB) (hin := rest_in3 WA WB) (hout := rest_out3 WA WB) (b := fun _ => 0) (hcut := cut 0)
    (R := fun _ => iprop(emp)) (W := WA) (hW := fun _ _ => rfl) d

/-- The first dense kernel as a step of the host. -/
theorem dense_step3 [∀ e, Nonempty (Elt F e)] (d : Dev nD) {Φ : PUnit → sProp 𝕄} :
    iprop(boundary (T d) ∗ StableHlo.held (T d) (Pipeline.ucRefs τ sig) (WA d) ∗ (∃ Wd, owes (T d) 0 Wd)
        ∗ levAts (K (F := F)).L (K (F := F)).lev ∗ tickets 0 d
        ∗ ((boundary (T d) ∗ StableHlo.held (T d) (Pipeline.ucRefs τ sig) (Pipeline.afterRegion (pdats WA WA 0 d) (WA d)) ∗ (∃ Wd, owes (T d) 0 Wd)) -∗ Φ ⟨⟩))
      ⊢ wp frame (wpE ((K (F := F)).defs (D (F := F))) 𝒱 (T d) none) Set.univ (Prog.lift (.customCall (SparseCore.inner (Pipeline.entry 0)) ())) Φ :=
  (region_wrap wp_ret_of (seg3_pre WA WA d) (seg3_post WA WA d) (Pipeline.RegionSeg.wp (pcfgs (F := F)) adm (pdats WA WA) none cellOf_inj (EP (F := F)) defs₀ 𝒱₀ (K (F := F)).L (K (F := F)).lev
    (seg3 WA WA) d none (fun _ h => nomatch h) .ret Φ)).trans
  ((K (F := F)).wp_liftProg (D (F := F)) 𝒱 (T d) Set.univ none (.op (.customCall (Pipeline.entry 0) ()) .ret) Φ)

theorem seg4_pre (d : Dev nD) : iprop(StableHlo.held (T d) (Pipeline.ucRefs τ sig) (WB d) ∗ ((∃ Wd, owes (T d) 0 Wd) ∗ emp ∗ emp)) ⊢ (seg4 WA WB).pre d := by
  unfold seg4
  exact Pipeline.RegionSeg.ofHeldIn_pre (pcs := pcfgs (F := F)) (a := adm) (pdats := pdats WA WB) (ι := none) (defs₀ := defs₀) (𝒱₀ := 𝒱₀)
    (L := (K (F := F)).L) (lv := (K (F := F)).lev) (p := 1) (D := fun _ => 0) (S := Pipeline.ucRefs τ sig) (Pipeline.arrRefs_sub_ucRefs _ winFacts4.arr_unscoped)
    (X := fun _ => iprop(emp)) (Y := fun _ => iprop(emp)) (kit := launch4.toP) (hK := rfl) (hbody := loose4 WA WB) (howed := owed_none WA WB 1)
    (hrec := rec_all WA WB 1) (hshare := full4 WA WB) (hin := rest_in4 WA WB) (hout := rest_out4 WA WB) (b := fun _ => 0) (hcut := cut 1)
    (R := fun _ => iprop(emp)) (W := WB) (hW := fun _ _ => rfl) d

theorem seg4_post (d : Dev nD) : (seg4 WA WB).post d ⊢ iprop(StableHlo.held (T d) (Pipeline.ucRefs τ sig) (Pipeline.afterRegion (pdats WA WB 1 d) (WB d))
    ∗ ((∃ Wd, owes (T d) 0 Wd) ∗ emp ∗ emp)) := by
  unfold seg4
  exact Pipeline.RegionSeg.ofHeldIn_post (pcs := pcfgs (F := F)) (a := adm) (pdats := pdats WA WB) (ι := none) (defs₀ := defs₀) (𝒱₀ := 𝒱₀)
    (L := (K (F := F)).L) (lv := (K (F := F)).lev) (p := 1) (D := fun _ => 0) (S := Pipeline.ucRefs τ sig) (Pipeline.arrRefs_sub_ucRefs _ winFacts4.arr_unscoped)
    (X := fun _ => iprop(emp)) (Y := fun _ => iprop(emp)) (kit := launch4.toP) (hK := rfl) (hbody := loose4 WA WB) (howed := owed_none WA WB 1)
    (hrec := rec_all WA WB 1) (hshare := full4 WA WB) (hin := rest_in4 WA WB) (hout := rest_out4 WA WB) (b := fun _ => 0) (hcut := cut 1)
    (R := fun _ => iprop(emp)) (W := WB) (hW := fun _ _ => rfl) d

/-- The second dense kernel as a step of the host. -/
theorem dense_step4 [∀ e, Nonempty (Elt F e)] (d : Dev nD) {Φ : PUnit → sProp 𝕄} :
    iprop(boundary (T d) ∗ StableHlo.held (T d) (Pipeline.ucRefs τ sig) (WA d) ∗ (∃ Wd, owes (T d) 0 Wd)
        ∗ levAts (K (F := F)).L (K (F := F)).lev ∗ tickets 1 d
        ∗ ((boundary (T d) ∗ StableHlo.held (T d) (Pipeline.ucRefs τ sig) (Pipeline.afterRegion (pdats WA WA 1 d) (WA d)) ∗ (∃ Wd, owes (T d) 0 Wd)) -∗ Φ ⟨⟩))
      ⊢ wp frame (wpE ((K (F := F)).defs (D (F := F))) 𝒱 (T d) none) Set.univ (Prog.lift (.customCall (SparseCore.inner (Pipeline.entry 1)) ())) Φ :=
  (region_wrap wp_ret_of (seg4_pre WA WA d) (seg4_post WA WA d) (Pipeline.RegionSeg.wp (pcfgs (F := F)) adm (pdats WA WA) none cellOf_inj (EP (F := F)) defs₀ 𝒱₀ (K (F := F)).L (K (F := F)).lev
    (seg4 WA WA) d none (fun _ h => nomatch h) .ret Φ)).trans
  ((K (F := F)).wp_liftProg (D (F := F)) 𝒱 (T d) Set.univ none (.op (.customCall (Pipeline.entry 1) ()) .ret) Φ)

end Cert.Proof.Launch

end
-- ==== Proof.Launch.Main.lean ====
/-
  @main from the launch to its end, and the run of the whole program.
-/
module

public import proofs.«01_k».proof.Proof.Launch.Calls
public import proofs.«01_k».proof.Proof.Launch.Regions

@[expose] public section

noncomputable section

namespace Cert.Proof.Launch

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

variable (m : (ℓ : Loc nD τ sig) → Buf (Elt F) ℓ) (ρ : Dev nD → PrngReg)

/-! ## The host's contents from line to line -/

/-- At the launch, -/
abbrev V₀ (d : Dev nD) : Valuation τ sig (Elt F) := fun b => m (d, b)
/-- when the SparseCore calls start, -/
def VA (d : Dev nD) : Valuation τ sig (Elt F) := StableHlo.after ops0 (V₀ m d)
/-- after them, -/
def VB (d : Dev nD) : Valuation τ sig (Elt F) := stepped (VA m) 2 d (stepped (VA m) 1 d (stepped (VA m) 0 d (VA m d)))
/-- at the first dense kernel, -/
def VC (d : Dev nD) : Valuation τ sig (Elt F) := StableHlo.after ops1 (VB m d)
/-- after it, -/
def VD (d : Dev nD) : Valuation τ sig (Elt F) := Pipeline.afterRegion (pdats (VC m) (VC m) 0 d) (VC m d)
/-- at the second, -/
def VE (d : Dev nD) : Valuation τ sig (Elt F) := StableHlo.after ops2 (VD m d)
/-- after it, -/
def VF (d : Dev nD) : Valuation τ sig (Elt F) := Pipeline.afterRegion (pdats (VE m) (VE m) 1 d) (VE m d)
/-- and at the end. -/
def VZ (d : Dev nD) : Valuation τ sig (Elt F) := StableHlo.after ops3 (VF m d)

/-! ## What the launch deals -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

abbrev Gd (d : Dev nD) : sProp 𝕄 := iprop(tickets 0 d ∗ tickets 1 d)

theorem sep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem deal_tickets : iprop((bigSep Finset.univ fun c : Dev nD => bigSep Finset.univ fun p => Pipeline.cellsGhost (Pipeline.pin (pcfgs (F := F)) adm) (EP (F := F)) p c)
      ∗ (bigSep Finset.univ fun c : Dev nD => bigSep Finset.univ fun p => Pipeline.toksInit (Pipeline.pin (pcfgs (F := F)) adm) (EP (F := F)) p c))
    ⊢ (bigSep Finset.univ (Gd (F := F)) : sProp 𝕄) := by
  rw [← bigSep_sep']
  refine bigSep_mono fun c _ => ?_
  rw [sep_fin2, sep_fin2]
  show BIBase.Entails (PROP := sProp 𝕄) _ (Gd c)
  iintro ⟨⟨Ha, Hb⟩, Hc, Hd⟩
  isplitl [Ha Hc]
  · isplitl [Ha] <;> iassumption
  · isplitl [Hb] <;> iassumption

theorem hu₀ : (ownU (u₀ (F := F)) : sProp 𝕄)
    ⊢ |={Set.univ}=> iprop(BI.own (EH (initOf (K (F := F)).hsCells (K (F := F)).hsToks)) ∗ (bigSep Finset.univ (Gd (F := F)))
        ∗ bigSep Finset.univ fun thr : Thread nD τ => bigSep Finset.univ fun q : Fin 3 => (P (VA m)).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) (EP (F := F)) cellOf_inj) $$ HP with HG
  imodintro
  isplitl [HH]; · iexact HH
  isplitl [HG]
  · iapply deal_tickets $$ HG
  rw [show (bigSep Finset.univ fun thr : Thread nD τ => bigSep Finset.univ fun q : Fin 3 => (P (VA m)).x q thr) = (iprop(emp) : sProp 𝕄) from
    (bigSep_congr fun _ _ => bigSep_emp_const _).trans (bigSep_emp_const _)]
  iempintro

/-! ## @main -/

theorem below_all (d : Dev nD) (W : Waits sig (HIx 3)) : (K (F := F)).WBelow (T d) W (8 * 3) := fun p _ => by
  rcases hp : p.2 with _ | q
  · simp
  · have := (K (F := F)).lev_some_le (T d, p.1) q
    have := q.isLt
    omega

/-- After the last call the host owes nothing more, and may go on to the dense kernels and come back. -/
theorem done_open (d : Dev nD) : ((K (F := F)).tcSt EH d 3 : sProp 𝕄)
    ⊢ iprop((∃ W, owes (T d) 0 W) ∗ ((∃ W, owes (T d) 0 W) -∗ (K (F := F)).tcSt EH d 3)) := by
  unfold SparseCore.Cfg.tcSt
  rw [(K (F := F)).Otc_end d (n := 3) le_rfl]
  iintro ⟨⟨%W, -, HO⟩, Hr⟩
  isplitl [HO]
  · iexists W; iexact HO
  iintro ⟨%W', HO⟩
  isplitl [HO]
  · iexists W'
    isplitr
    · ipureintro; exact below_all d W'
    iexact HO
  iexact Hr

abbrev FIN (d : Dev nD) : sProp 𝕄 := StableHlo.held (T d) (Pipeline.ucRefs τ sig) (VZ m d)

theorem step_ne (VV : Dev nD → Valuation τ sig (Elt F)) (q : Fin 3) (d : Dev nD) (W : Valuation τ sig (Elt F)) (r : Ref sig .tc) (h : r ≠ dst q) :
    stepped VV q d W (Proc.devRef .tc r) = W (Proc.devRef .tc r) := Function.update_of_ne (fun e => h (Proc.devRef_injective _ e)) _ _

theorem hmain [∀ e, Nonempty (Elt F e)] (κ : GSem nD τ sig → ℕ) (d : Dev nD) :
    iprop((K (F := F)).ctx EH (P (VA m)) κ ∗ (K (F := F)).tcSt EH d 0 ∗ (K (F := F)).tcRes m ρ d ∗ Gd d)
      ⊢ wp frame (wpE ((K (F := F)).defs (D (F := F))) 𝒱 (T d) none) Set.univ (main d)
          fun _ => iprop((K (F := F)).tcSt EH d 3 ∗ FIN m d ∗ (K (F := F)).tcEnd d) := by
  unfold SparseCore.Cfg.tcRes SparseCore.Cfg.tcEnd
  rw [show (unscopedBufs d (fun b => m ((T d : Thread nD τ).loc b)) : sProp 𝕄) = StableHlo.held (T d) (Pipeline.ucRefs τ sig) (V₀ m d) from
    Pipeline.unscopedBufs_held d (V₀ m d), main_eq]
  iintro ⟨#Hctx, Hst, ⟨Hb, Hh, Hts, -⟩, HG3, HG4⟩
  ihave #Hl := ((K (F := F)).ctx_levAts κ) $$ Hctx
  iapply (StableHlo.wp_seq 𝒱 (defs := (K (F := F)).defs (D (F := F))) (bd := none) (E := Set.univ) d (Pipeline.ucRefs τ sig) _ ops0 ops0_sub ops0_fresh (V₀ m d)) $$ [Hb Hh]
  · isplitl [Hb]; · iexact Hb
    iexact Hh
  iintro ⟨Hb, Hh⟩
  rw [wp_bind]
  iapply (call_step (VA m) κ d 0 (VA m d) rfl rfl rfl) $$ [Hst Hh Hb Hts HG3 HG4]
  isplitr; · iexact Hctx
  isplitl [Hst]; · iexact Hst
  isplitl [Hh]; · iexact Hh
  iintro ⟨Hst, Hh⟩
  rw [wp_bind]
  iapply (call_step (VA m) κ d 1 (stepped (VA m) 0 d (VA m d)) (step_ne _ _ _ _ _ (by decide)) (step_ne _ _ _ _ _ (by decide)) (step_ne _ _ _ _ _ (by decide))) $$ [Hst Hh Hb Hts HG3 HG4]
  isplitr; · iexact Hctx
  isplitl [Hst]; · iexact Hst
  isplitl [Hh]; · iexact Hh
  iintro ⟨Hst, Hh⟩
  rw [wp_bind]
  iapply (call_step (VA m) κ d 2 (stepped (VA m) 1 d (stepped (VA m) 0 d (VA m d)))
    ((step_ne _ _ _ _ _ (by decide)).trans (step_ne _ _ _ _ _ (by decide))) ((step_ne _ _ _ _ _ (by decide)).trans (step_ne _ _ _ _ _ (by decide)))
    ((step_ne _ _ _ _ _ (by decide)).trans (step_ne _ _ _ _ _ (by decide)))) $$ [Hst Hh Hb Hts HG3 HG4]
  isplitr; · iexact Hctx
  isplitl [Hst]; · iexact Hst
  isplitl [Hh]; · iexact Hh
  iintro ⟨Hst, Hh⟩
  ihave Hst' := (show (K (F := F)).tcSt EH d ((2 : Fin 3).val + 1) ⊢ _ from done_open d) $$ Hst
  icases Hst' with ⟨HO, Hback⟩
  iapply (StableHlo.wp_seq 𝒱 (defs := (K (F := F)).defs (D (F := F))) (bd := none) (E := Set.univ) d (Pipeline.ucRefs τ sig) _ ops1 ops1_sub ops1_fresh (VB m d)) $$ [Hb Hh]
  · isplitl [Hb]; · iexact Hb
    iexact Hh
  iintro ⟨Hb, Hh⟩
  rw [wp_bind]
  iapply (dense_step3 (VC m) d) $$ [Hb Hh HO HG3 HG4 Hts Hback]
  isplitl [Hb]; · iexact Hb
  isplitl [Hh]; · iexact Hh
  isplitl [HO]; · iexact HO
  isplitr; · iexact Hl
  isplitl [HG3]; · iexact HG3
  iintro ⟨Hb, Hh, HO⟩
  iapply (StableHlo.wp_seq 𝒱 (defs := (K (F := F)).defs (D (F := F))) (bd := none) (E := Set.univ) d (Pipeline.ucRefs τ sig) _ ops2 ops2_sub ops2_fresh (VD m d)) $$ [Hb Hh]
  · isplitl [Hb]; · iexact Hb
    iexact Hh
  iintro ⟨Hb, Hh⟩
  rw [wp_bind]
  iapply (dense_step4 (VE m) d) $$ [Hb Hh HO HG4 Hts Hback]
  isplitl [Hb]; · iexact Hb
  isplitl [Hh]; · iexact Hh
  isplitl [HO]; · iexact HO
  isplitr; · iexact Hl
  isplitl [HG4]; · iexact HG4
  iintro ⟨Hb, Hh, HO⟩
  iapply (StableHlo.wp_seq 𝒱 (defs := (K (F := F)).defs (D (F := F))) (bd := none) (E := Set.univ) d (Pipeline.ucRefs τ sig) _ ops3 ops3_sub ops3_fresh (VF m d)) $$ [Hb Hh]
  · isplitl [Hb]; · iexact Hb
    iexact Hh
  iintro ⟨Hb, Hh⟩
  rw [show (pure ⟨⟩ : Prog (TpuEff nD τ sig (Elt F) (SparseCore.Sig (ΛP (F := F)) 3) .tc) PUnit) = .ret ⟨⟩ from rfl, wp_ret]
  imodintro
  isplitl [HO Hback]
  · iapply Hback $$ HO
  isplitl [Hh]; · iexact Hh
  isplitl [Hb] <;> iassumption

/-! ## The run -/

/-- At the end the device's unscoped buffers hold `VZ`. -/
def fq (d : Dev nD) (s' : Phys nD τ sig (Elt F)) : Prop :=
  ∀ r : Ref sig .tc, r.isScoped = false → s'.mem.mem ((T d : Thread nD τ).loc r) = VZ m d (Proc.devRef .tc r)

theorem hfin (d : Dev nD) (s' : Phys nD τ sig (Elt F)) : iprop(FIN m d ∗ SI s') ⊢ (⌜fq m d s'⌝ : sProp 𝕄) := by
  have h1 : ∀ r : Ref sig .tc, iprop(FIN m d ∗ SI s') ⊢ (⌜r.isScoped = false → s'.mem.mem ((T d : Thread nD τ).loc r) = VZ m d (Proc.devRef .tc r)⌝ : sProp 𝕄) := by
    intro r
    by_cases hr : r.isScoped = false
    · have hm : Proc.devRef .tc r ∈ Pipeline.ucRefs τ sig :=
        Finset.mem_filter.mpr ⟨StableHlo.devRef_mem_tcRefs _, fun h' => Bool.false_ne_true (hr.symm.trans h')⟩
      have he : FIN m d ⊢ ((d, Proc.devRef .tc r) ↦{fullShare} VZ m d (Proc.devRef .tc r) : sProp 𝕄) :=
        bigSep_elim (Φ := fun b => ((d, b) ↦{fullShare} VZ m d b : sProp 𝕄)) hm
      iintro ⟨HF, HSI⟩
      ihave HF' := he $$ HF
      ihave H := (SI_pointsTo_agree (st := s') (ℓ := (d, Proc.devRef .tc r)) (I := Finset.univ) (q := fullShare) (f := VZ m d (Proc.devRef .tc r))) $$ [HSI HF']
      · isplitl [HSI] <;> iassumption
      icases H with %h
      ipureintro
      exact fun _ => funext fun i => h i (Finset.mem_univ i)
    · iintro -
      ipureintro
      exact fun h => absurd h hr
  exact (Laws.forall_intro h1).trans Laws.pure_forall.2

/-- What a run leaves: every unscoped buffer at `VZ`, every semaphore at zero. -/
def Q' : PUnit × MemSt nD τ sig (Elt F) → Prop := fun r =>
  (∀ c : Dev nD, ∀ b : Ref sig .tc, b.isScoped = false → r.2.mem ((T c : Thread nD τ).loc b) = VZ m c (Proc.devRef .tc b)) ∧ r.2.sem = fun _ => 0

theorem run_main [∀ e, Nonempty (Elt F e)] (hA : InRange (VA m)) :
    θ_run (Cert.KernelIdeal.defs (F := F)) (Cert.KernelIdeal.threads (F := F)) ⟨m, fun _ => 0, ρ⟩ (Q' m) :=
  SparseCore.Cfg.θ_run_sc_quiescent (K := K (F := F)) (D := D (F := F)) (𝒱 := 𝒱) (EH := EH) (P := P (VA m)) (A := ∅) facts v₀
    (fun q hq => match q with | 0 => nomatch hq | 1 => nomatch hq | 2 => nomatch hq)
    (fun q _ => match q with | 0 => tileObl0 (VA m) hA | 1 => tileObl1 (VA m) hA | 2 => tileObl2 (VA m) hA)
    (fun q _ => SparseCore.Cfg.VecSplit.of_plain (vecSplit (VA m) q))
    m ρ main Gd (FIN m) (u₀ (F := F)) (sep_elim_left.trans (hu₀ m)) (hmain m ρ) (fq m) (hfin m) (Q' m) (fun _ h hz => ⟨h, hz⟩)

end Cert.Proof.Launch

end
-- ==== Proof.Launch.Frames.lean ====
/-
  What the run says of the arguments: they end as they began.
-/
module

public import proofs.«01_k».proof.Proof.Launch.Main
public import Idealize.ShloMosaic.Lib.ReduceAll
public import proofs.«01_k».proof.Defs
public import proofs.«01_k».proof.Proof.Gen.Pre_in_range
public import proofs.«01_k».proof.Proof.Gen.Kernel

@[expose] public section

noncomputable section

namespace Cert.Proof.Launch

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

variable (m : (ℓ : Loc nD τ sig) → Buf (Elt F) ℓ) (ρ : Dev nD → PrngReg)

theorem VA_v0 (d : Dev nD) : VA m d (Proc.devRef .tc main_v0) = transpose S26x16384 [1, 0] (m ((T d : Thread nD τ).loc main_arg0)) transposes_S16384x26_S26x16384_1_0 := by
  unfold VA ops0
  after_reads_simp
theorem VA_v1 (d : Dev nD) : VA m d (Proc.devRef .tc main_v1) = shapeCast S26000 (m ((T d : Thread nD τ).loc main_arg3)) shapeCasts_S26000x1_S26000 := by
  unfold VA ops0
  after_reads_simp
  rfl
theorem VA_v6 (d : Dev nD) : VA m d (Proc.devRef .tc main_v6) = shapeCast S425984 (VA m d (Proc.devRef .tc main_v0)) shapeCasts_S26x16384_S425984 := by
  unfold VA ops0
  after_reads_simp
  rfl
theorem VA_v3 (d : Dev nD) : VA m d (Proc.devRef .tc main_v3) = shapeCast S1664x128 (extractStridedSlice S26x8192 ![0, 0] (VA m d (Proc.devRef .tc main_v0)) slices_S26x16384_S26x8192_0_0) shapeCasts_S26x8192_S1664x128 := by
  unfold VA ops0
  after_reads_simp
  rfl
theorem VA_v5 (d : Dev nD) : VA m d (Proc.devRef .tc main_v5) = shapeCast S1664x128 (extractStridedSlice S26x8192 ![0, 8192] (VA m d (Proc.devRef .tc main_v0)) slices_S26x16384_S26x8192_0_8192) shapeCasts_S26x8192_S1664x128 := by
  unfold VA ops0
  after_reads_simp
  rfl

/-! ## The words the SparseCore calls read -/

theorem word_v0 (d : Dev nD) (x : S26x16384.Idx) : ∃ i, VA m d (Proc.devRef .tc main_v0) x = m ((T d : Thread nD τ).loc main_arg0) i := by
  rw [VA_v0]; exact ⟨_, rfl⟩

/-- Every word below 1000 where it comes from is so where the calls read it. -/
theorem inRange_of (h : ∀ d i, (m ((T d : Thread nD τ).loc main_arg0) i : BitVec 32).toNat < 1000) : InRange (VA m) := by
  have h0 : ∀ d x, (VA m d (Proc.devRef .tc main_v0) x : BitVec 32).toNat < 1000 := fun d x => by
    obtain ⟨i, e⟩ := word_v0 m d x
    rw [e]; exact h d i
  constructor
  · intro d x
    have e : ∃ y, at_ (VA m) d main_v6 x = VA m d (Proc.devRef .tc main_v0) y := by show ∃ y, VA m d (Proc.devRef .tc main_v6) x = _; rw [VA_v6]; exact ⟨_, rfl⟩
    obtain ⟨y, e⟩ := e
    rw [e]; exact h0 d y
  · intro d x
    have e : ∃ y, at_ (VA m) d main_v3 x = VA m d (Proc.devRef .tc main_v0) y := by show ∃ y, VA m d (Proc.devRef .tc main_v3) x = _; rw [VA_v3]; exact ⟨_, rfl⟩
    obtain ⟨y, e⟩ := e
    rw [e]; exact h0 d y
  · intro d x
    have e : ∃ y, at_ (VA m) d main_v5 x = VA m d (Proc.devRef .tc main_v0) y := by show ∃ y, VA m d (Proc.devRef .tc main_v5) x = _; rw [VA_v5]; exact ⟨_, rfl⟩
    obtain ⟨y, e⟩ := e
    rw [e]; exact h0 d y

/-- The precondition at a device: every index word is non-negative and below 1000. -/
theorem words_of_pre (d : Dev nD)
    (h : Cert.Pre_in_range.fn (F := F) (m ((T d : Thread nD τ).loc main_arg0)) (m ((T d : Thread nD τ).loc main_arg1)) (m ((T d : Thread nD τ).loc main_arg2)) (m ((T d : Thread nD τ).loc main_arg3)) (m ((T d : Thread nD τ).loc main_arg4)) (m ((T d : Thread nD τ).loc main_arg5)) (m ((T d : Thread nD τ).loc main_arg6)) (m ((T d : Thread nD τ).loc main_arg7)) (m ((T d : Thread nD τ).loc main_arg8)) (m ((T d : Thread nD τ).loc main_arg9)) (m ((T d : Thread nD τ).loc main_arg10)) (m ((T d : Thread nD τ).loc main_arg11)) (m ((T d : Thread nD τ).loc main_arg12)) (m ((T d : Thread nD τ).loc main_arg13)) (m ((T d : Thread nD τ).loc main_arg14)) (m ((T d : Thread nD τ).loc main_arg15)) (m ((T d : Thread nD τ).loc main_arg16)) (m ((T d : Thread nD τ).loc main_arg17)) = fun _ => 1#1)
    (i : S16384x26.Idx) : (m ((T d : Thread nD τ).loc main_arg0) i : BitVec 32).toNat < 1000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 1000#32) = 1#1 → v.toNat < 1000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (fun k => k.elim0)
  exact key _ (Host.reduce_andi_eq_one _ _ _ _ _ e i (funext fun k => k.elim0))

theorem inRange_of_pre (h : ∀ d : Dev nD, Cert.Pre_in_range.fn (F := F) (m ((T d : Thread nD τ).loc main_arg0)) (m ((T d : Thread nD τ).loc main_arg1)) (m ((T d : Thread nD τ).loc main_arg2)) (m ((T d : Thread nD τ).loc main_arg3)) (m ((T d : Thread nD τ).loc main_arg4)) (m ((T d : Thread nD τ).loc main_arg5)) (m ((T d : Thread nD τ).loc main_arg6)) (m ((T d : Thread nD τ).loc main_arg7)) (m ((T d : Thread nD τ).loc main_arg8)) (m ((T d : Thread nD τ).loc main_arg9)) (m ((T d : Thread nD τ).loc main_arg10)) (m ((T d : Thread nD τ).loc main_arg11)) (m ((T d : Thread nD τ).loc main_arg12)) (m ((T d : Thread nD τ).loc main_arg13)) (m ((T d : Thread nD τ).loc main_arg14)) (m ((T d : Thread nD τ).loc main_arg15)) (m ((T d : Thread nD τ).loc main_arg16)) (m ((T d : Thread nD τ).loc main_arg17)) = fun _ => 1#1) : InRange (VA m) :=
  inRange_of m fun d i => words_of_pre m d (h d) i

/-! ## What is never written -/

/-- What @main writes. -/
def written : List (Ref sig .tc) := wr0 ++ [main_v7, main_v8, main_v9] ++ wr1 ++ [main_v16_0, main_v16_1] ++ wr2 ++ [main_v18_0, main_v18_1] ++ wr3

theorem outs3 (w : Fin 20) (h : (cfg3.win w).isOut = true) : Pipeline.arrRef spec3 w ∈ [main_v16_0, main_v16_1] := by
  revert w; decide
theorem outs4 (w : Fin 20) (h : (cfg4.win w).isOut = true) : Pipeline.arrRef spec4 w ∈ [main_v18_0, main_v18_1] := by
  revert w; decide

theorem VD_kept (d : Dev nD) (r : Ref sig .tc) (h : r ∉ [main_v16_0, main_v16_1]) : VD m d (Proc.devRef .tc r) = VC m d (Proc.devRef .tc r) :=
  Pipeline.afterRegion_keeps (Dense.dat3 (Ix := HIx 3) (Name := ℕ) (U := UU) (Lvl := ℕ) (VC m) d) (VC m d) winFacts3.arr_inj (fun _ => rfl) r fun w e => by
    by_contra hc
    exact h (e ▸ outs3 w (by simpa using hc))
theorem VF_kept (d : Dev nD) (r : Ref sig .tc) (h : r ∉ [main_v18_0, main_v18_1]) : VF m d (Proc.devRef .tc r) = VE m d (Proc.devRef .tc r) :=
  Pipeline.afterRegion_keeps (Dense.dat4 (Ix := HIx 3) (Name := ℕ) (U := UU) (Lvl := ℕ) (VE m) d) (VE m d) winFacts4.arr_inj (fun _ => rfl) r fun w e => by
    by_contra hc
    exact h (e ▸ outs4 w (by simpa using hc))
theorem VB_kept (d : Dev nD) (r : Ref sig .tc) (h : r ∉ [main_v7, main_v8, main_v9]) : VB m d (Proc.devRef .tc r) = VA m d (Proc.devRef .tc r) := by
  have h7 : r ≠ dst 0 := fun e => h (by subst e; decide)
  have h8 : r ≠ dst 1 := fun e => h (by subst e; decide)
  have h9 : r ≠ dst 2 := fun e => h (by subst e; decide)
  unfold VB
  rw [step_ne _ _ _ _ _ h9, step_ne _ _ _ _ _ h8, step_ne _ _ _ _ _ h7]

theorem VA_kept (d : Dev nD) (r : Ref sig .tc) (h : r ∉ wr0) : VA m d (Proc.devRef .tc r) = m ((T d : Thread nD τ).loc r) :=
  StableHlo.after_unwritten wr0 ops0_writes h _
theorem VC_kept (d : Dev nD) (r : Ref sig .tc) (h : r ∉ wr1) : VC m d (Proc.devRef .tc r) = VB m d (Proc.devRef .tc r) :=
  StableHlo.after_unwritten wr1 ops1_writes h _
theorem VE_kept (d : Dev nD) (r : Ref sig .tc) (h : r ∉ wr2) : VE m d (Proc.devRef .tc r) = VD m d (Proc.devRef .tc r) :=
  StableHlo.after_unwritten wr2 ops2_writes h _
theorem VZ_kept (d : Dev nD) (r : Ref sig .tc) (h : r ∉ wr3) : VZ m d (Proc.devRef .tc r) = VF m d (Proc.devRef .tc r) :=
  StableHlo.after_unwritten wr3 ops3_writes h _

/-- A buffer @main does not write ends as it began. -/
theorem kept (d : Dev nD) (r : Ref sig .tc) (h : r ∉ written) : VZ m d (Proc.devRef .tc r) = m ((T d : Thread nD τ).loc r) := by
  simp only [written, List.mem_append, not_or] at h
  obtain ⟨⟨⟨⟨⟨⟨h0, hs⟩, h1⟩, h3⟩, h2⟩, h4⟩, h5⟩ := h
  rw [VZ_kept m d r h5, VF_kept m d r h4, VE_kept m d r h2, VD_kept m d r h3, VC_kept m d r h1, VB_kept m d r hs, VA_kept m d r h0]

/-- @main's arguments. -/
def args : List (Ref sig .tc) := [main_arg0, main_arg1, main_arg2, main_arg3, main_arg4, main_arg5, main_arg6, main_arg7, main_arg8, main_arg9, main_arg10, main_arg11, main_arg12, main_arg13, main_arg14, main_arg15, main_arg16, main_arg17]

theorem args_unwritten : ∀ r ∈ args, r ∉ written ∧ r.isScoped = false := by decide

/-- A run leaves the arguments as they were. -/
theorem args_kept (r : PUnit × MemSt nD τ sig (Elt F)) (h : Q' m r) (d : Dev nD) (b : Ref sig .tc) (hb : b ∈ args) :
    r.2.mem ((T d : Thread nD τ).loc b) = m ((T d : Thread nD τ).loc b) :=
  (h.1 d b (args_unwritten b hb).2).trans (kept m d b (args_unwritten b hb).1)

/-- `Cert.quiescent_KernelIdeal` (Defs.lean). -/
theorem frame_kernelIdeal : Cert.quiescent_KernelIdeal := fun m ρ hpre =>
  (θ_run Cert.KernelIdeal.defs _ _).mono (fun r h => ⟨fun c => ⟨args_kept m r h c main_arg0 (by decide), args_kept m r h c main_arg1 (by decide), args_kept m r h c main_arg2 (by decide), args_kept m r h c main_arg3 (by decide), args_kept m r h c main_arg4 (by decide), args_kept m r h c main_arg5 (by decide), args_kept m r h c main_arg6 (by decide), args_kept m r h c main_arg7 (by decide), args_kept m r h c main_arg8 (by decide), args_kept m r h c main_arg9 (by decide), args_kept m r h c main_arg10 (by decide), args_kept m r h c main_arg11 (by decide), args_kept m r h c main_arg12 (by decide), args_kept m r h c main_arg13 (by decide), args_kept m r h c main_arg14 (by decide), args_kept m r h c main_arg15 (by decide), args_kept m r h c main_arg16 (by decide), args_kept m r h c main_arg17 (by decide)⟩, h.2⟩) (run_main (F := Ideal) m ρ (inRange_of_pre m hpre))

end Cert.Proof.Launch

end
-- ==== Proof.Launch.FrameK.lean ====
/-
  The frame of the program at the chip's numbers.
-/
module

public import proofs.«01_k».proof.Proof.Launch.Frames

@[expose] public section

noncomputable section

namespace Cert.Proof.Launch

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-- The frame of the program at any reading of the floats: from words below a thousand it runs, and its arguments end as they began. -/
def FrameAt (F : FTy → Type) [FloatOps F] : Prop :=
  ∀ (m : (ℓ : Loc nD τ sig) → Buf (Elt F) ℓ) (g : Dev nD → PrngReg),
    (∀ c : Dev nD, (Cert.Pre_in_range.fn (F := F) (m ((T c : Thread nD τ).loc main_arg0)) (m ((T c : Thread nD τ).loc main_arg1)) (m ((T c : Thread nD τ).loc main_arg2)) (m ((T c : Thread nD τ).loc main_arg3)) (m ((T c : Thread nD τ).loc main_arg4)) (m ((T c : Thread nD τ).loc main_arg5)) (m ((T c : Thread nD τ).loc main_arg6)) (m ((T c : Thread nD τ).loc main_arg7)) (m ((T c : Thread nD τ).loc main_arg8)) (m ((T c : Thread nD τ).loc main_arg9)) (m ((T c : Thread nD τ).loc main_arg10)) (m ((T c : Thread nD τ).loc main_arg11)) (m ((T c : Thread nD τ).loc main_arg12)) (m ((T c : Thread nD τ).loc main_arg13)) (m ((T c : Thread nD τ).loc main_arg14)) (m ((T c : Thread nD τ).loc main_arg15)) (m ((T c : Thread nD τ).loc main_arg16)) (m ((T c : Thread nD τ).loc main_arg17))) = (fun _ => 1#1)) →
    θ_run (KernelIdeal.defs (F := F)) (KernelIdeal.threads (F := F)) ⟨m, fun _ => 0, g⟩ (fun r => (∀ c : Dev nD, r.2.mem ((T c : Thread nD τ).loc main_arg0) = m ((T c : Thread nD τ).loc main_arg0) ∧ r.2.mem ((T c : Thread nD τ).loc main_arg1) = m ((T c : Thread nD τ).loc main_arg1) ∧ r.2.mem ((T c : Thread nD τ).loc main_arg2) = m ((T c : Thread nD τ).loc main_arg2) ∧ r.2.mem ((T c : Thread nD τ).loc main_arg3) = m ((T c : Thread nD τ).loc main_arg3) ∧ r.2.mem ((T c : Thread nD τ).loc main_arg4) = m ((T c : Thread nD τ).loc main_arg4) ∧ r.2.mem ((T c : Thread nD τ).loc main_arg5) = m ((T c : Thread nD τ).loc main_arg5) ∧ r.2.mem ((T c : Thread nD τ).loc main_arg6) = m ((T c : Thread nD τ).loc main_arg6) ∧ r.2.mem ((T c : Thread nD τ).loc main_arg7) = m ((T c : Thread nD τ).loc main_arg7) ∧ r.2.mem ((T c : Thread nD τ).loc main_arg8) = m ((T c : Thread nD τ).loc main_arg8) ∧ r.2.mem ((T c : Thread nD τ).loc main_arg9) = m ((T c : Thread nD τ).loc main_arg9) ∧ r.2.mem ((T c : Thread nD τ).loc main_arg10) = m ((T c : Thread nD τ).loc main_arg10) ∧ r.2.mem ((T c : Thread nD τ).loc main_arg11) = m ((T c : Thread nD τ).loc main_arg11) ∧ r.2.mem ((T c : Thread nD τ).loc main_arg12) = m ((T c : Thread nD τ).loc main_arg12) ∧ r.2.mem ((T c : Thread nD τ).loc main_arg13) = m ((T c : Thread nD τ).loc main_arg13) ∧ r.2.mem ((T c : Thread nD τ).loc main_arg14) = m ((T c : Thread nD τ).loc main_arg14) ∧ r.2.mem ((T c : Thread nD τ).loc main_arg15) = m ((T c : Thread nD τ).loc main_arg15) ∧ r.2.mem ((T c : Thread nD τ).loc main_arg16) = m ((T c : Thread nD τ).loc main_arg16) ∧ r.2.mem ((T c : Thread nD τ).loc main_arg17) = m ((T c : Thread nD τ).loc main_arg17)) ∧ r.2.sem = fun _ => 0)

/-- The frame holds at any reading. -/
theorem frameAt [∀ e, Nonempty (Elt F e)] : FrameAt F := fun m ρ hpre =>
  (θ_run Cert.KernelIdeal.defs _ _).mono (fun r h => ⟨fun c => ⟨args_kept m r h c main_arg0 (by decide), args_kept m r h c main_arg1 (by decide), args_kept m r h c main_arg2 (by decide), args_kept m r h c main_arg3 (by decide), args_kept m r h c main_arg4 (by decide), args_kept m r h c main_arg5 (by decide), args_kept m r h c main_arg6 (by decide), args_kept m r h c main_arg7 (by decide), args_kept m r h c main_arg8 (by decide), args_kept m r h c main_arg9 (by decide), args_kept m r h c main_arg10 (by decide), args_kept m r h c main_arg11 (by decide), args_kept m r h c main_arg12 (by decide), args_kept m r h c main_arg13 (by decide), args_kept m r h c main_arg14 (by decide), args_kept m r h c main_arg15 (by decide), args_kept m r h c main_arg16 (by decide), args_kept m r h c main_arg17 (by decide)⟩, h.2⟩) (run_main (F := F) m ρ (inRange_of_pre m hpre))

/-- The program as printed for the chip's numbers is, word for word, the program proved. -/
theorem frame_words : Cert.quiescent_Kernel = FrameAt Bits := by sl_kernel_rfl

/-- `Cert.quiescent_Kernel` (Defs.lean). -/
theorem frame_kernel : Cert.quiescent_Kernel := frame_words.mpr (frameAt (F := Bits))

end Cert.Proof.Launch

end
-- ==== Proof.Value.Spec.lean ====
/-
  One sample over the extended reals: what both programs compute of its rows, its numeric features and the weights.
-/
module

public import Idealize.ShloMosaic.Lib.ValueIdx
public import Idealize.ShloMosaic.Lib.IdealHost

@[expose] public section

noncomputable section

namespace Cert.Proof.Value

open Idealize.ShloMosaic Idealize.ShloMosaic.ValueIdx

/-- The mean of `n` numbers, `c` being their count. -/
def mean {n : ℕ} (c : EReal) (x : Fin n → EReal) : EReal := Ideal.div (∑ k, x k) c

/-- The numbers less their mean. -/
def centred {n : ℕ} (c : EReal) (x : Fin n → EReal) (j : Fin n) : EReal := x j - mean c x

/-- Their variance. -/
def variance {n : ℕ} (c : EReal) (x : Fin n → EReal) : EReal := mean c fun k => centred c x k * centred c x k

/-- The small number that keeps the variance from zero. -/
def eps : EReal := Ideal.ofBits .f32 0x3727C5AC#32

/-- The numbers normalised, scaled by `g` and shifted by `b`. -/
def norm {n : ℕ} (c : EReal) (g b x : Fin n → EReal) (j : Fin n) : EReal :=
  centred c x j * Ideal.rsqrt (variance c x + eps) * g j + b j

/-- A linear layer, cut off below zero. -/
def layer {k n : ℕ} (W : Fin k → Fin n → EReal) (b : Fin n → EReal) (h : Fin k → EReal) (j : Fin n) : EReal :=
  max ((∑ i, h i * W i j) + b j) 0

/-- The first layer, on the gathered rows laid end to end and the numeric features. -/
def layer1 (W : Fin 3328 → Fin 1024 → EReal) (W' : Fin 4 → Fin 1024 → EReal) (b : Fin 1024 → EReal) (e : Fin 26 → Fin 128 → EReal)
    (x : Fin 4 → EReal) (j : Fin 1024) : EReal :=
  max (((∑ i : Fin 3328, e ⟨i.val / 128, by have := i.isLt; omega⟩ ⟨i.val % 128, Nat.mod_lt _ (by decide)⟩ * W i j) + ∑ i, x i * W' i j) + b j) 0

/-- The second-order term: half of the square of the sum less the sum of the squares, over the places of a row. -/
def second (e : Fin 26 → Fin 128 → EReal) : EReal :=
  Ideal.ofBits .f32 0x3F000000#32 * ∑ p, ((∑ f, e f p) * (∑ f, e f p) - ∑ f, e f p * e f p)

/-- The counts of the three layers' entries, as the programs write them. -/
def c1024 : EReal := Ideal.ofBits .f32 0x44800000#32
def c512 : EReal := Ideal.ofBits .f32 0x44000000#32
def c256 : EReal := Ideal.ofBits .f32 0x43800000#32

/-- The weights of the layers. -/
structure Weights where
  W1 : Fin 3328 → Fin 1024 → EReal
  W1' : Fin 4 → Fin 1024 → EReal
  b1 : Fin 1024 → EReal
  g1 : Fin 1024 → EReal
  s1 : Fin 1024 → EReal
  W2 : Fin 1024 → Fin 512 → EReal
  b2 : Fin 512 → EReal
  g2 : Fin 512 → EReal
  s2 : Fin 512 → EReal
  W3 : Fin 512 → Fin 256 → EReal
  b3 : Fin 256 → EReal
  g3 : Fin 256 → EReal
  s3 : Fin 256 → EReal
  W4 : Fin 256 → EReal
  b4 : EReal

/-- The three layers' outputs, before each is normalised, -/
def out1 (w : Weights) (e : Fin 26 → Fin 128 → EReal) (x : Fin 4 → EReal) : Fin 1024 → EReal := layer1 w.W1 w.W1' w.b1 e x
def out2 (w : Weights) (e : Fin 26 → Fin 128 → EReal) (x : Fin 4 → EReal) : Fin 512 → EReal :=
  layer w.W2 w.b2 (norm c1024 w.g1 w.s1 (out1 w e x))
def out3 (w : Weights) (e : Fin 26 → Fin 128 → EReal) (x : Fin 4 → EReal) : Fin 256 → EReal :=
  layer w.W3 w.b3 (norm c512 w.g2 w.s2 (out2 w e x))
/-- and the last layer's. -/
def deepOut (w : Weights) (e : Fin 26 → Fin 128 → EReal) (x : Fin 4 → EReal) : EReal :=
  ∑ j, norm c256 w.g3 w.s3 (out3 w e x) j * w.W4 j

/-- The logit of one sample: its first-order terms `l`, the second-order term of its rows `e`, and the layers' output. -/
def logit (w : Weights) (l : Fin 26 → EReal) (e : Fin 26 → Fin 128 → EReal) (x : Fin 4 → EReal) : EReal :=
  (∑ f, l f) + second e + deepOut w e x + w.b4

/-! ## Division by a root -/

theorem square_nonneg (x : EReal) : 0 ≤ x * x := by
  induction x using EReal.rec with
  | bot => simp [EReal.bot_mul_bot]
  | top => simp [EReal.top_mul_top]
  | coe r => exact_mod_cast mul_self_nonneg r

theorem div_nonneg_pos {x : EReal} {c : ℝ} (hx : 0 ≤ x) (hc : 0 < c) : 0 ≤ Ideal.div x (c : EReal) := by
  rw [Ideal.div_coe hc.ne']
  exact mul_nonneg hx (by exact_mod_cast (one_div_pos.mpr hc).le)

/-- To divide by the root of a positive number is to multiply by its inverse root. -/
theorem div_sqrt {s : EReal} (hs : 0 < s) (x : EReal) : Ideal.div x (Ideal.sqrt s) = x * Ideal.rsqrt s := by
  induction s using EReal.rec with
  | bot => exact absurd hs (by simp)
  | top => rw [Ideal.sqrt_top, Ideal.rsqrt_top, Ideal.div]; simp
  | coe r =>
    have hr : 0 < r := by exact_mod_cast hs
    have h1 : Real.sqrt r ≠ 0 := (Real.sqrt_pos.mpr hr).ne'
    rw [Ideal.sqrt_coe, Ideal.rsqrt_coe, if_neg hr.le.not_gt, if_neg hr.le.not_gt, if_neg hr.ne', Ideal.div_coe h1, one_div]

theorem eps_eq : ∃ r : ℝ, 0 < r ∧ eps = (r : EReal) := by
  refine ⟨_, ?_, by unfold eps; simp [Ideal.ofBits, Ideal.ieee]; rfl⟩
  norm_num

theorem c1024_eq : c1024 = ((1024 : ℝ) : EReal) := by unfold c1024; simp [Ideal.ofBits, Ideal.ieee]; rw [← EReal.coe_mul]; norm_num
theorem c512_eq : c512 = ((512 : ℝ) : EReal) := by unfold c512; simp [Ideal.ofBits, Ideal.ieee]; rw [← EReal.coe_mul]; norm_num
theorem c256_eq : c256 = ((256 : ℝ) : EReal) := by unfold c256; simp [Ideal.ofBits, Ideal.ieee]; rw [← EReal.coe_mul]; norm_num

theorem variance_nonneg {n : ℕ} {c : ℝ} (hc : 0 < c) (x : Fin n → EReal) : 0 ≤ variance (c : EReal) x :=
  div_nonneg_pos (Finset.sum_nonneg fun _ _ => square_nonneg _) hc

/-- So a normalised number may be written with a quotient by the root. -/
theorem norm_eq_div {n : ℕ} {c : ℝ} (hc : 0 < c) (g b x : Fin n → EReal) (j : Fin n) :
    Ideal.div (centred (c : EReal) x j) (Ideal.sqrt (variance (c : EReal) x + eps)) * g j + b j = norm (c : EReal) g b x j := by
  obtain ⟨r, hr, he⟩ := eps_eq
  have h : 0 < variance (c : EReal) x + eps := by
    rw [he]
    calc (0 : EReal) < (r : EReal) := by exact_mod_cast hr
      _ = 0 + (r : EReal) := (zero_add _).symm
      _ ≤ variance (c : EReal) x + (r : EReal) := add_le_add (variance_nonneg hc x) le_rfl
  rw [div_sqrt h]; rfl

end Cert.Proof.Value

end
-- ==== Proof.Value.Read.lean ====
/-
  How the operations of both programs read at an index, over the extended reals: arrays by their coordinates.
-/
module

public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.KernelVsHost
public import Idealize.ShloMosaic.PureOps.Ideal.Laws
public import Idealize.ShloMosaic.Lib.Pipeline.Value

@[expose] public section

noncomputable section

namespace Cert.Proof.Value

open Idealize.ShloMosaic Idealize.ShloMosaic.ValueIdx

variable {a b c : ℕ} {φ : FTy}

/-- An array by its coordinate, -/
def at1 (x : FVec Ideal ⟨1, ![a]⟩ φ) (i : Fin a) : EReal := x (ix1 i)
/-- a matrix by its two, -/
def at2 (x : FVec Ideal ⟨2, ![a, b]⟩ φ) (i : Fin a) (j : Fin b) : EReal := x (ix2 i j)
/-- a stack of matrices by its three. -/
def at3 (x : FVec Ideal ⟨3, ![a, b, c]⟩ φ) (i : Fin a) (j : Fin b) (k : Fin c) : EReal := x (ix3 i j k)

/-! ## One element at a time -/

theorem at2_addf (x y : FVec Ideal ⟨2, ![a, b]⟩ φ) (i : Fin a) (j : Fin b) : at2 (addf x y) i j = at2 x i j + at2 y i j := rfl
theorem at2_subf (x y : FVec Ideal ⟨2, ![a, b]⟩ φ) (i : Fin a) (j : Fin b) : at2 (subf x y) i j = at2 x i j - at2 y i j := rfl
theorem at2_mulf (x y : FVec Ideal ⟨2, ![a, b]⟩ φ) (i : Fin a) (j : Fin b) : at2 (mulf x y) i j = at2 x i j * at2 y i j := rfl
theorem at2_divf (x y : FVec Ideal ⟨2, ![a, b]⟩ φ) (i : Fin a) (j : Fin b) : at2 (divf x y) i j = Ideal.div (at2 x i j) (at2 y i j) := rfl
theorem at2_hostDivf (x y : FVec Ideal ⟨2, ![a, b]⟩ φ) (i : Fin a) (j : Fin b) : at2 (Host.divf x y) i j = Ideal.div (at2 x i j) (at2 y i j) := rfl
theorem at2_maximumf (x y : FVec Ideal ⟨2, ![a, b]⟩ φ) (i : Fin a) (j : Fin b) : at2 (maximumf x y) i j = max (at2 x i j) (at2 y i j) := rfl
theorem at2_rsqrt (x : FVec Ideal ⟨2, ![a, b]⟩ φ) (i : Fin a) (j : Fin b) : at2 (rsqrt x) i j = Ideal.rsqrt (at2 x i j) := rfl
theorem at2_hostSqrt (x : FVec Ideal ⟨2, ![a, b]⟩ φ) (i : Fin a) (j : Fin b) : at2 (Host.sqrt x) i j = Ideal.sqrt (at2 x i j) := rfl
theorem at2_truncf {ψ : FTy} (x : FVec Ideal ⟨2, ![a, b]⟩ φ) (h : ψ.bits < φ.bits) (i : Fin a) (j : Fin b) : at2 (truncf ψ x h) i j = at2 x i j := rfl
theorem at2_constant (w : BitVec φ.bits) (i : Fin a) (j : Fin b) : at2 (constant (F := Ideal) ⟨2, ![a, b]⟩ φ w) i j = Ideal.ofBits φ w := rfl
theorem at2_broadcast (v : Ideal φ) (i : Fin a) (j : Fin b) : at2 (φ := φ) (broadcast ⟨2, ![a, b]⟩ v) i j = v := rfl
theorem scalar_ofBits (w : BitVec φ.bits) : (Scalar.ofBits φ w : Ideal φ) = Ideal.ofBits φ w := rfl
theorem at3_mulf (x y : FVec Ideal ⟨3, ![a, b, c]⟩ φ) (i : Fin a) (j : Fin b) (k : Fin c) : at3 (mulf x y) i j k = at3 x i j k * at3 y i j k := rfl

/-! ## The same elements in another arrangement -/

theorem at2_cast_self (x : FVec Ideal ⟨2, ![a, b]⟩ φ) (h : (⟨2, ![a, b]⟩ : Shape).ShapeCasts ⟨2, ![a, b]⟩) (i : Fin a) (j : Fin b) :
    at2 (φ := φ) (shapeCast ⟨2, ![a, b]⟩ x h) i j = at2 x i j := congrFun (shapeCast_self x h) _
theorem at3_cast_self (x : FVec Ideal ⟨3, ![a, b, c]⟩ φ) (h : (⟨3, ![a, b, c]⟩ : Shape).ShapeCasts ⟨3, ![a, b, c]⟩) (i : Fin a) (j : Fin b) (k : Fin c) :
    at3 (φ := φ) (shapeCast ⟨3, ![a, b, c]⟩ x h) i j k = at3 x i j k := congrFun (shapeCast_self x h) _
theorem at2_cast_col (x : FVec Ideal ⟨1, ![a]⟩ φ) (h : (⟨1, ![a]⟩ : Shape).ShapeCasts ⟨2, ![a, 1]⟩) (i : Fin a) (j : Fin 1) :
    at2 (φ := φ) (shapeCast ⟨2, ![a, 1]⟩ x h) i j = at1 x i := shapeCast_a_a1_apply x h i j
theorem at2_cast_row (x : FVec Ideal ⟨1, ![a]⟩ φ) (h : (⟨1, ![a]⟩ : Shape).ShapeCasts ⟨2, ![1, a]⟩) (i : Fin 1) (j : Fin a) :
    at2 (φ := φ) (shapeCast ⟨2, ![1, a]⟩ x h) i j = at1 x j := shapeCast_a_1a_apply x h i j
theorem at2_spread_row (x : FVec Ideal ⟨2, ![1, b]⟩ φ) (h : (⟨2, ![1, b]⟩ : Shape).Broadcasts ⟨2, ![a, b]⟩) (i : Fin a) (j : Fin b) :
    at2 (φ := φ) (broadcastTo ⟨2, ![a, b]⟩ x h) i j = at2 x 0 j := broadcastTo_1b_ab_apply x h i j
theorem at2_spread_col (x : FVec Ideal ⟨2, ![a, 1]⟩ φ) (h : (⟨2, ![a, 1]⟩ : Shape).Broadcasts ⟨2, ![a, b]⟩) (i : Fin a) (j : Fin b) :
    at2 (φ := φ) (broadcastTo ⟨2, ![a, b]⟩ x h) i j = at2 x i 0 := by
  refine broadcastTo_apply x h (ix2 i j) (ix2 i 0) fun ax => ?_
  match ax with
  | ⟨0, _⟩ =>
    show i.val = if a = 1 then 0 else i.val
    split
    · have := i.isLt; omega
    · rfl
  | ⟨1, _⟩ => rfl
/-- Member `k` of a stack, taken as a slice and cast to a matrix. -/
theorem at2_member (k : ℕ) (x : FVec Ideal ⟨3, ![c, a, b]⟩ φ) (hs : (⟨3, ![c, a, b]⟩ : Shape).Slices ![k, 0, 0] ⟨3, ![1, a, b]⟩)
    (h : (⟨3, ![1, a, b]⟩ : Shape).ShapeCasts ⟨2, ![a, b]⟩) (hk : k < c) (i : Fin a) (j : Fin b) :
    at2 (φ := φ) (shapeCast ⟨2, ![a, b]⟩ (extractStridedSlice ⟨3, ![1, a, b]⟩ ![k, 0, 0] x hs) h) i j = at3 x ⟨k, hk⟩ i j := by
  refine (shapeCast_1ab_ab_apply _ h i j).trans (congrArg x (funext fun ax => Fin.ext ?_))
  match ax with
  | ⟨0, _⟩ => exact Nat.add_zero k
  | ⟨1, _⟩ => exact Nat.zero_add _
  | ⟨2, _⟩ => exact Nat.zero_add _

/-! ## Sums -/

theorem at1_sumCols (x : FVec Ideal ⟨2, ![a, b]⟩ .f32) (D : List (Fin 2)) (h : (⟨2, ![a, b]⟩ : Shape).Reduces D ⟨1, ![a]⟩)
    (hφ : FTy.f32 = FTy.f32 ∨ FTy.f32 = FTy.bf16) (hacc : (0x00000000#32 : BitVec 32) = 0x00000000#32) (i : Fin a) (hD : D = [1]) :
    at1 (multiReduction .add D ⟨1, ![a]⟩ x 0x00000000#32 h hφ hacc) i = ∑ k, at2 x i k := by
  subst hD
  refine (Ideal.multiReduction_add_single x _ h hφ hacc (ix1 i)).trans (Finset.sum_congr rfl fun k _ => congrArg x ?_)
  funext ax
  match ax with
  | ⟨0, _⟩ => rfl
  | ⟨1, _⟩ => rfl
theorem at1_sumRows (x : FVec Ideal ⟨2, ![a, b]⟩ .f32) (D : List (Fin 2)) (h : (⟨2, ![a, b]⟩ : Shape).Reduces D ⟨1, ![b]⟩)
    (hφ : FTy.f32 = FTy.f32 ∨ FTy.f32 = FTy.bf16) (hacc : (0x00000000#32 : BitVec 32) = 0x00000000#32) (j : Fin b) (hD : D = [0]) :
    at1 (multiReduction .add D ⟨1, ![b]⟩ x 0x00000000#32 h hφ hacc) j = ∑ k, at2 x k j := by
  subst hD
  refine (Ideal.multiReduction_add_single x _ h hφ hacc (ix1 j)).trans (Finset.sum_congr rfl fun k _ => congrArg x ?_)
  funext ax
  match ax with
  | ⟨0, _⟩ => rfl
  | ⟨1, _⟩ => rfl

theorem at2_matmul {ψ : FTy} (l : FVec Ideal ⟨2, ![a, b]⟩ φ) (r : FVec Ideal ⟨2, ![b, c]⟩ ψ) (p : Option ContractPrecision) (i : Fin a) (j : Fin c) :
    at2 (matmul (DotDims.plain a b c) p l r (constant ⟨2, ![a, c]⟩ .f32 0x00000000#32)) i j = ∑ k, at2 l i k * at2 r k j := by
  refine (Ideal.matmul_constant_zero_apply (DotDims.plain a b c) p l r (ix2 i j)).trans ?_
  rw [← Equiv.sum_comp (contrEquiv1 (DotDims.plain a b c) b rfl rfl).symm]
  refine Finset.sum_congr rfl fun k _ => congrArg₂ (· * ·) (congrArg l ?_) (congrArg r ?_)
  all_goals
    funext ax
    match ax with
    | ⟨0, _⟩ => rfl
    | ⟨1, _⟩ => rfl
theorem at2_dotGeneral {ψ : FTy} (l : FVec Ideal ⟨2, ![a, b]⟩ φ) (r : FVec Ideal ⟨2, ![b, c]⟩ ψ) (p : Option ContractPrecision) (i : Fin a) (j : Fin c) :
    at2 (Host.dotGeneral (DotDims.plain a b c) p l r) i j = ∑ k, at2 l i k * at2 r k j := by
  refine (Ideal.dotGeneral_apply (DotDims.plain a b c) p _ l r (ix2 i j)).trans ?_
  rw [← Equiv.sum_comp (contrEquiv1 (DotDims.plain a b c) b rfl rfl).symm]
  refine Finset.sum_congr rfl fun k _ => congrArg₂ (· * ·) (congrArg l ?_) (congrArg r ?_)
  all_goals
    funext ax
    match ax with
    | ⟨0, _⟩ => rfl
    | ⟨1, _⟩ => rfl

/-- Twenty-six numbers added one after another. -/
theorem sum26 (f : Fin 26 → EReal) : (∑ i, f i) = f 0 + f 1 + f 2 + f 3 + f 4 + f 5 + f 6 + f 7 + f 8 + f 9 + f 10 + f 11 + f 12 + f 13 + f 14 + f 15
    + f 16 + f 17 + f 18 + f 19 + f 20 + f 21 + f 22 + f 23 + f 24 + f 25 := by
  simp only [Fin.sum_univ_castSucc, Finset.univ_eq_empty, Finset.sum_empty, zero_add]
  rfl

/-- Twenty-six matrices of one width laid side by side: column `j` is column `j % b` of matrix `j / b`. -/
theorem at2_sideBySide {n w : ℕ} (f : Fin n → FVec Ideal ⟨2, ![a, b]⟩ φ)
    (h : Shape.Concatenates ((List.ofFn fun k : Fin n => (⟨⟨2, ![a, b]⟩, f k⟩ : (s : Shape) × (s.Idx → Ideal φ))).map (·.1)) ⟨2, ![a, w]⟩ 1)
    (i : Fin a) (j : Fin w) (hj : j.val / b < n) (hb : 0 < b) :
    at2 (φ := φ) (concatenate ⟨2, ![a, w]⟩ 1 (List.ofFn fun k : Fin n => (⟨⟨2, ![a, b]⟩, f k⟩ : (s : Shape) × (s.Idx → Ideal φ))) h) i j
      = at2 (f ⟨j.val / b, hj⟩) i ⟨j.val % b, Nat.mod_lt _ hb⟩ :=
  concatenate_ofFn_apply (t := ⟨2, ![a, w]⟩) (s₁ := ⟨2, ![a, b]⟩) (1 : Fin 2) f h rfl b rfl (ix2 i j) ⟨j.val / b, hj⟩ rfl (ix2 i ⟨j.val % b, Nat.mod_lt _ hb⟩) rfl fun ax hax =>
    match ax, hax with
    | ⟨0, _⟩, _ => rfl
    | ⟨1, _⟩, h => absurd rfl h

end Cert.Proof.Value

end
-- ==== Proof.Value.Args.lean ====
/-
  The samples over @main's arguments: each sample's rows, first-order terms and the weights, and the two results they give.
-/
module

public import proofs.«01_k».proof.Proof.Value.Spec
public import proofs.«01_k».proof.Proof.Value.Read

@[expose] public section

noncomputable section

namespace Cert.Proof.Value

open Idealize.ShloMosaic Idealize.ShloMosaic.ValueIdx

/-- The weights among the arguments. -/
def weights (a4 : FVec Ideal ⟨2, ![3332, 1024]⟩ .f32) (a5 a6 a7 : FVec Ideal ⟨1, ![1024]⟩ .f32) (a8 : FVec Ideal ⟨2, ![1024, 512]⟩ .f32)
    (a9 a10 a11 : FVec Ideal ⟨1, ![512]⟩ .f32) (a12 : FVec Ideal ⟨2, ![512, 256]⟩ .f32) (a13 a14 a15 : FVec Ideal ⟨1, ![256]⟩ .f32)
    (a16 : FVec Ideal ⟨2, ![256, 1]⟩ .f32) (a17 : FVec Ideal ⟨1, ![1]⟩ .f32) : Weights where
  W1 i j := at2 a4 ⟨i.val, by have := i.isLt; omega⟩ j
  W1' i j := at2 a4 ⟨3328 + i.val, by have := i.isLt; omega⟩ j
  b1 := at1 a5
  g1 := at1 a6
  s1 := at1 a7
  W2 := at2 a8
  b2 := at1 a9
  g2 := at1 a10
  s2 := at1 a11
  W3 := at2 a12
  b3 := at1 a13
  g3 := at1 a14
  s3 := at1 a15
  W4 j := at2 a16 j 0
  b4 := at1 a17 0

/-- The row of the table that sample `i` names in field `f`: the fields' rows lie a thousand apart. -/
def rowOf (a0 : IVec ⟨2, ![16384, 26]⟩ 32) (i : Fin 16384) (f : Fin 26) : Fin 26000 :=
  ⟨(1000 * f.val + (a0 (ix2 i f)).toNat) % 26000, Nat.mod_lt _ (by decide)⟩

theorem rowOf_val (a0 : IVec ⟨2, ![16384, 26]⟩ 32) (i : Fin 16384) (f : Fin 26) (h : (a0 (ix2 i f)).toNat < 1000) :
    (rowOf a0 i f).val = 1000 * f.val + (a0 (ix2 i f)).toNat := Nat.mod_eq_of_lt (by have := f.isLt; omega)

/-- A sample's gathered rows, -/
def emb (a0 : IVec ⟨2, ![16384, 26]⟩ 32) (a2 : FVec Ideal ⟨2, ![26000, 128]⟩ .f32) (i : Fin 16384) (f : Fin 26) (p : Fin 128) : EReal :=
  at2 a2 (rowOf a0 i f) p
/-- and its first-order terms. -/
def firsts (a0 : IVec ⟨2, ![16384, 26]⟩ 32) (a3 : FVec Ideal ⟨2, ![26000, 1]⟩ .f32) (i : Fin 16384) (f : Fin 26) : EReal :=
  at2 a3 (rowOf a0 i f) 0

end Cert.Proof.Value

end
-- ==== Proof.Value.Block.lean ====
/-
  What the dense kernel computes of its blocks: the logit of each of the 512 samples.
-/
module

public import proofs.«01_k».proof.Proof.Value.Spec
public import proofs.«01_k».proof.Proof.Value.Read
public import proofs.«01_k».proof.Proof.Dense.Body

@[expose] public section

noncomputable section

namespace Cert.Proof.Value

open Idealize.ShloMosaic Idealize.ShloMosaic.ValueIdx
open Cert.KernelIdeal Cert.KernelIdeal.Gen Cert.Proof.Dense

theorem dot_3328 : dot_S512x3328_S3328x1024_S512x1024_1_0_0_1_n_n = DotDims.plain 512 3328 1024 := rfl
theorem dot_4 : dot_S512x4_S4x1024_S512x1024_1_0_0_1_n_n = DotDims.plain 512 4 1024 := rfl
theorem dot_1024 : dot_S512x1024_S1024x512_S512x512_1_0_0_1_n_n = DotDims.plain 512 1024 512 := rfl
theorem dot_512 : dot_S512x512_S512x256_S512x256_1_0_0_1_n_n = DotDims.plain 512 512 256 := rfl
theorem dot_256 : dot_S512x256_S256x1_S512x1_1_0_0_1_n_n = DotDims.plain 512 256 1 := rfl

/-! ## The layers -/

/-- The second layer's output less its mean, of the first layer's output. -/
theorem at2_pay62 (v : FVec Ideal S512x1024 .f32) (g s : Vec Ideal S1024 .f32) (t : FVec Ideal S512x1 .f32) (W : Vec Ideal S1024x512 .bf16)
    (b : Vec Ideal S512 .f32) (i : Fin 512) (j : Fin 512) (ht : at2 t i 0 = ∑ k, at2 v i k) :
    at2 (k3_pay62 v g s t width1 W b) i j
      = centred c512 (layer (at2 (φ := .bf16) W) (at1 (φ := .f32) b) (norm c1024 (at1 (φ := .f32) g) (at1 (φ := .f32) s) (at2 v i))) j := by
  simp only [k3_pay62, width1, at2_subf, at2_maximumf, at2_addf, at2_mulf, at2_divf, at2_rsqrt, at2_truncf, dot_1024, at2_matmul, at2_cast_self, at2_cast_col,
    at2_cast_row, at2_spread_row, at2_spread_col, at2_broadcast, scalar_ofBits, at1_sumCols (a := 512), ht, Ideal.ofBits_zero_f32]
  rfl

/-- The second layer's variance with the small number added. -/
theorem at2_pay63 (v : FVec Ideal S512x1024 .f32) (g s : Vec Ideal S1024 .f32) (t : FVec Ideal S512x1 .f32) (W : Vec Ideal S1024x512 .bf16)
    (b : Vec Ideal S512 .f32) (i : Fin 512) (ht : at2 t i 0 = ∑ k, at2 v i k) :
    at2 (k3_pay63 v g s t width1 W b) i 0
      = variance c512 (layer (at2 (φ := .bf16) W) (at1 (φ := .f32) b) (norm c1024 (at1 (φ := .f32) g) (at1 (φ := .f32) s) (at2 v i))) + eps := by
  simp only [k3_pay63, at2_addf, at2_mulf, at2_divf, at2_cast_col, at2_broadcast, scalar_ofBits, at1_sumCols (a := 512), at2_pay62 v g s t W b i _ ht]
  rfl

/-- The last two layers, of the second layer's output less its mean, and its variance. -/
theorem at2_pay64 (g s : Vec Ideal S512 .f32) (d : FVec Ideal S512x512 .f32) (q : FVec Ideal S512x1 .f32) (W : Vec Ideal S512x256 .bf16) (b g' s' : Vec Ideal S256 .f32)
    (W' : Vec Ideal S256x1 .f32) (i : Fin 512) (h : Fin 512 → EReal) (hd : ∀ j, at2 d i j = centred c512 h j) (hq : at2 q i 0 = variance c512 h + eps) :
    at2 (k3_pay64 g s d q W b g' s' W') i 0
      = ∑ j, norm c256 (at1 (φ := .f32) g') (at1 (φ := .f32) s') (layer (at2 (φ := .bf16) W) (at1 (φ := .f32) b) (norm c512 (at1 (φ := .f32) g) (at1 (φ := .f32) s) h)) j
          * at2 (φ := .f32) W' j 0 := by
  simp only [k3_pay64, at2_subf, at2_maximumf, at2_addf, at2_mulf, at2_divf, at2_rsqrt, at2_truncf, dot_512, dot_256, at2_matmul, at2_cast_self, at2_cast_col,
    at2_cast_row, at2_spread_row, at2_spread_col, at2_broadcast, scalar_ofBits, at1_sumCols (a := 512), hd, hq, Ideal.ofBits_zero_f32]
  rfl

/-! ## The first layer -/

theorem concat26 (v : Fin 26 → FVec Ideal S512x128 .f32)
    (h : Shape.Concatenates (List.map (·.1) ([⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩, ⟨S512x128, v 8⟩, ⟨S512x128, v 9⟩, ⟨S512x128, v 10⟩, ⟨S512x128, v 11⟩, ⟨S512x128, v 12⟩, ⟨S512x128, v 13⟩, ⟨S512x128, v 14⟩, ⟨S512x128, v 15⟩, ⟨S512x128, v 16⟩, ⟨S512x128, v 17⟩, ⟨S512x128, v 18⟩, ⟨S512x128, v 19⟩, ⟨S512x128, v 20⟩, ⟨S512x128, v 21⟩, ⟨S512x128, v 22⟩, ⟨S512x128, v 23⟩, ⟨S512x128, v 24⟩, ⟨S512x128, v 25⟩] : List ((s : Shape) × (s.Idx → Ideal .f32)))) S512x3328 1)
    (i : Fin 512) (j : Fin 3328) :
    at2 (φ := .f32) (concatenate S512x3328 1 [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩, ⟨S512x128, v 8⟩, ⟨S512x128, v 9⟩, ⟨S512x128, v 10⟩, ⟨S512x128, v 11⟩, ⟨S512x128, v 12⟩, ⟨S512x128, v 13⟩, ⟨S512x128, v 14⟩, ⟨S512x128, v 15⟩, ⟨S512x128, v 16⟩, ⟨S512x128, v 17⟩, ⟨S512x128, v 18⟩, ⟨S512x128, v 19⟩, ⟨S512x128, v 20⟩, ⟨S512x128, v 21⟩, ⟨S512x128, v 22⟩, ⟨S512x128, v 23⟩, ⟨S512x128, v 24⟩, ⟨S512x128, v 25⟩] h) i j
      = at2 (v ⟨j.val / 128, by have := j.isLt; omega⟩) i ⟨j.val % 128, Nat.mod_lt _ (by decide)⟩ :=
  at2_sideBySide (b := 128) v h i j (by have := j.isLt; omega) (by decide)

theorem slices_member (k : Fin 26) : S26x512x128.Slices ![k.val, 0, 0] S1x512x128 := by
  refine ⟨rfl, fun ax => ?_⟩
  match ax with
  | ⟨0, _⟩ => exact k.isLt
  | ⟨1, _⟩ => exact le_rfl
  | ⟨2, _⟩ => exact le_rfl

/-- The rows' matrices, as the kernel takes them out of their stack. -/
def members (e : Vec Ideal S26x512x128 .f32) (k : Fin 26) : FVec Ideal S512x128 .f32 :=
  shapeCast S512x128 (extractStridedSlice S1x512x128 ![k.val, 0, 0] (k3_pay2 e) (slices_member k)) shapeCasts_S1x512x128_S512x128

theorem at2_members (e : Vec Ideal S26x512x128 .f32) (k : Fin 26) (i : Fin 512) (p : Fin 128) :
    at2 (members e k) i p = at3 (φ := .f32) e k i p :=
  (at2_member k.val (k3_pay2 e) _ _ k.isLt i p).trans (at3_cast_self _ _ k i p)

theorem at2_linear1 (e : Vec Ideal S26x512x128 .f32) (w : Vec Ideal S3328x1024 .bf16) (n : Vec Ideal S512x4 .f32) (v : Vec Ideal S4x1024 .f32)
    (b : Vec Ideal S1024 .f32) (i : Fin 512) (j : Fin 1024) :
    at2 (linear1 e w n v b) i j
      = layer1 (at2 (φ := .bf16) w) (at2 (φ := .f32) v) (at1 (φ := .f32) b) (fun f p => at3 (φ := .f32) e f i p) (at2 (φ := .f32) n i) j := by
  simp only [linear1, k3_pay60, at2_maximumf, at2_addf, at2_truncf, dot_3328, dot_4, at2_matmul, at2_cast_self, at2_cast_row, at2_spread_row,
    at2_broadcast, scalar_ofBits, Ideal.ofBits_zero_f32]
  refine congrArg (fun z : EReal => max ((z + ∑ k, at2 (φ := .f32) n i k * at2 (φ := .f32) v k j) + at1 (φ := .f32) b j) 0) (Finset.sum_congr rfl fun k _ => congrArg (· * at2 (φ := .bf16) w k j) ?_)
  exact (concat26 (members e) _ i k).trans (at2_members e _ i _)

theorem at2_rowSum1 (e : Vec Ideal S26x512x128 .f32) (w : Vec Ideal S3328x1024 .bf16) (n : Vec Ideal S512x4 .f32) (v : Vec Ideal S4x1024 .f32)
    (b : Vec Ideal S1024 .f32) (i : Fin 512) : at2 (rowSum1 e w n v b) i 0 = ∑ k, at2 (linear1 e w n v b) i k :=
  by
  simp only [rowSum1, k3_pay61, at2_cast_col, at1_sumCols (a := 512)]
  rfl

/-! ## The second-order term -/

theorem at2_secondOrder (e : Vec Ideal S26x512x128 .f32) (i : Fin 512) :
    at2 (secondOrder e) i 0 = second fun f p => at3 (φ := .f32) e f i p := by
  simp only [secondOrder, k3_pay58, at2_mulf, at2_subf, at2_broadcast, scalar_ofBits, at2_cast_col, second]
  simp only [at1_sumCols (a := 512)]
  simp only [at2_mulf, at2_subf]
  refine congrArg (Ideal.ofBits .f32 0x3F000000#32 * ·) (Finset.sum_congr rfl fun p _ => ?_)
  have hm : ∀ (k : ℕ) (hs) (hk : k < 26), at2 (φ := .f32) (shapeCast S512x128 (extractStridedSlice S1x512x128 ![k, 0, 0] (k3_pay2 e) hs) shapeCasts_S1x512x128_S512x128) i p
      = at3 (φ := .f32) e ⟨k, hk⟩ i p := fun k hs hk => (at2_member k _ hs _ hk i p).trans (at3_cast_self _ _ _ i p)
  have hs : at2 (k3_pay35 (k3_pay2 e) (k3_pay28 (k3_pay2 e) (k3_pay13 e) (k3_pay15 e)) (k3_pay30 (k3_pay2 e))) i p = ∑ f, at3 (φ := .f32) e f i p := by
    simp only [k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, at2_addf]
    rw [sum26]
    simp only [hm, Nat.reduceLT]
    rfl
  have hq : at2 (k3_pay36 (k3_pay2 e) (k3_pay29 (k3_pay2 e) (k3_pay14 e) (k3_pay15 e)) (k3_pay30 (k3_pay2 e))) i p
      = ∑ f, at3 (φ := .f32) e f i p * at3 (φ := .f32) e f i p := by
    simp only [k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, at2_addf, at2_mulf]
    rw [sum26]
    simp only [hm, Nat.reduceLT]
    rfl
  rw [hs, hq]

/-! ## The logit -/

/-- The weights as the kernel's blocks hold them. -/
def weightsOf (X : Ins Ideal) : Weights where
  W1 := at2 (φ := .bf16) X.x3
  W1' := at2 (φ := .f32) X.x4
  b1 := at1 (φ := .f32) X.x5
  g1 := at1 (φ := .f32) X.x6
  s1 := at1 (φ := .f32) X.x7
  W2 := at2 (φ := .bf16) X.x8
  b2 := at1 (φ := .f32) X.x9
  g2 := at1 (φ := .f32) X.x10
  s2 := at1 (φ := .f32) X.x11
  W3 := at2 (φ := .bf16) X.x12
  b3 := at1 (φ := .f32) X.x13
  g3 := at1 (φ := .f32) X.x14
  s3 := at1 (φ := .f32) X.x15
  W4 := fun j => at2 (φ := .f32) X.x16 j 0
  b4 := at1 (φ := .f32) X.x17 0

theorem at2_deep (X : Ins Ideal) (i : Fin 512) :
    at2 (deep X) i 0 = deepOut (weightsOf X) (fun f p => at3 (φ := .f32) X.x0 f i p) (at2 (φ := .f32) X.x1 i) := by
  have hr := at2_rowSum1 X.x0 X.x3 X.x1 X.x4 X.x5 i
  have hl : at2 (linear1 X.x0 X.x3 X.x1 X.x4 X.x5) i = out1 (weightsOf X) (fun f p => at3 (φ := .f32) X.x0 f i p) (at2 (φ := .f32) X.x1 i) :=
    funext fun j => at2_linear1 X.x0 X.x3 X.x1 X.x4 X.x5 i j
  refine at2_pay64 X.x10 X.x11 (centred2 X) (variance2 X) X.x12 X.x13 X.x14 X.x15 X.x16 i
    (out2 (weightsOf X) (fun f p => at3 (φ := .f32) X.x0 f i p) (at2 (φ := .f32) X.x1 i)) (fun j => ?_) ?_
  · refine (at2_pay62 _ X.x6 X.x7 _ X.x8 X.x9 i j hr).trans ?_
    rw [hl]; rfl
  · refine (at2_pay63 _ X.x6 X.x7 _ X.x8 X.x9 i hr).trans ?_
    rw [hl]; rfl

/-- The logit the kernel computes of sample `i` of its block. -/
theorem at2_logitsOf (X : Ins Ideal) (i : Fin 512) :
    at2 (logitsOf X) i 0 = logit (weightsOf X) (fun f => at2 (φ := .f32) X.x2 f i) (fun f p => at3 (φ := .f32) X.x0 f i p) (at2 (φ := .f32) X.x1 i) := by
  simp only [logitsOf, k3_pay1, k3_pay59, at2_addf, at2_broadcast, at2_cast_col, at2_secondOrder, at2_deep]
  simp only [at1_sumRows (a := 26)]
  simp only [at2_cast_self]
  refine congrArg (((∑ f, at2 (φ := .f32) X.x2 f i) + _ + _) + ·) (congrArg X.x17 (funext fun a => ?_))
  match a with
  | ⟨0, _⟩ => rfl

end Cert.Proof.Value

end
-- ==== Proof.Value.Blocks.lean ====
/-
  What the dense calls leave in their results' arrays, over the extended reals: each call's 512-sample blocks, put
  together; here the first call.
-/
module

public import proofs.«01_k».proof.Proof.Value.Block
public import proofs.«01_k».proof.Proof.Dense.Data
public import Idealize.ShloMosaic.Lib.Pipeline.ValueKit.Geometry

@[expose] public section

noncomputable section

namespace Cert.Proof.Value

open Idealize.ShloMosaic Idealize.ShloMosaic.ValueIdx
open Cert.KernelIdeal Cert.KernelIdeal.Gen Cert.Proof.Dense
open Idealize.SL.RA
open Idealize.ShloMosaic.Pipeline (Dat Cfg Window)

variable {Ix : Type} [DecidableEq Ix] {Name : Type} [DecidableEq Name] [Infinite Name] {U : Type} [URA U] {Lvl : Type} [Preorder Lvl]

variable (W : Dev nD → Valuation τ sig (Elt Ideal))

/-! ## The body's results -/

theorem zeros1 : (![0] : Fin 1 → Nat) = fun _ => 0 := funext fun z => match z with | ⟨0, _⟩ => rfl
theorem zeros2 : (![0, 0] : Fin 2 → Nat) = fun _ => 0 := funext fun z => match z with | ⟨0, _⟩ => rfl | ⟨1, _⟩ => rfl
theorem zeros3 : (![0, 0, 0] : Fin 3 → Nat) = fun _ => 0 := funext fun z => match z with | ⟨0, _⟩ => rfl | ⟨1, _⟩ => rfl | ⟨2, _⟩ => rfl

theorem logits_eq (X : Ins Ideal) : logits X = logitsOf X := by
  refine (View.canon_unit_zero zeros2 _ _).trans (congrArg logitsOf ?_)
  obtain ⟨x0, x1, x2, x3, x4, x5, x6, x7, x8, x9, x10, x11, x12, x13, x14, x15, x16, x17⟩ := X
  congr 1 <;> first | exact View.ld_unit_zero zeros1 _ _ | exact View.ld_unit_zero zeros2 _ _ | exact View.ld_unit_zero zeros3 _ _

theorem rows_eq (X : Ins Ideal) : rows X = X.x0 := by
  refine (View.canon_unit_zero zeros3 _ _).trans ?_
  exact (shapeCast_self _ _).trans (View.ld_unit_zero zeros3 _ _)

/-! ## Blocks of arrays -/

/-- A block's element sits in the array at the block's index times its size, plus its own coordinate. -/
theorem block_read {G : Pipeline.Grid} (w : Pipeline.Window sig G) (t : Fin G.N) (f : w.arr.view.ty.Contents (Elt Ideal)) (y : (w.xblock (G.coords t)).Idx) (z : w.shape.Idx)
    (hz : ∀ a, (z a).val = w.index t a * w.size a + (y a).val) (hk : w.kind = .blocked := by first | rfl | decide) :
    (w.blk t).view.read (Elt Ideal) f y = w.arr.view.read (Elt Ideal) f z :=
  congrArg (w.arr.view.read (Elt Ideal) f) (funext fun a => Fin.ext ((w.rect_emb_val t y a hk).trans (hz a).symm))

theorem whole_read {G : Pipeline.Grid} (w : Pipeline.Window sig G) (t : Fin G.N) (f : w.arr.view.ty.Contents (Elt Ideal)) (y : (w.xblock (G.coords t)).Idx) (z : w.shape.Idx)
    (h : ∀ a, w.index t a = 0) (hz : ∀ a, (z a).val = (y a).val) :
    (w.blk t).view.read (Elt Ideal) f y = w.arr.view.read (Elt Ideal) f z :=
  congrArg (w.arr.view.read (Elt Ideal) f) (funext fun a => Fin.ext ((w.rect_emb_val_of_index_zero t a (h a) y).trans (hz a).symm))

/-- The weights, as both calls find them. -/
def entry (V : Valuation τ sig (Elt Ideal)) : Weights where
  W1 := at2 (φ := .bf16) (V (Proc.devRef .tc main_v11))
  W1' := at2 (φ := .f32) (V (Proc.devRef .tc main_v12))
  b1 := at1 (φ := .f32) (V (Proc.devRef .tc main_arg5))
  g1 := at1 (φ := .f32) (V (Proc.devRef .tc main_arg6))
  s1 := at1 (φ := .f32) (V (Proc.devRef .tc main_arg7))
  W2 := at2 (φ := .bf16) (V (Proc.devRef .tc main_v13))
  b2 := at1 (φ := .f32) (V (Proc.devRef .tc main_arg9))
  g2 := at1 (φ := .f32) (V (Proc.devRef .tc main_arg10))
  s2 := at1 (φ := .f32) (V (Proc.devRef .tc main_arg11))
  W3 := at2 (φ := .bf16) (V (Proc.devRef .tc main_v14))
  b3 := at1 (φ := .f32) (V (Proc.devRef .tc main_arg13))
  g3 := at1 (φ := .f32) (V (Proc.devRef .tc main_arg14))
  s3 := at1 (φ := .f32) (V (Proc.devRef .tc main_arg15))
  W4 := fun j => at2 (φ := .f32) (V (Proc.devRef .tc main_arg16)) j 0
  b4 := at1 (φ := .f32) (V (Proc.devRef .tc main_arg17)) 0

theorem flush_out3 : ∀ t : Fin cfg3.N, (cfg3.win 19).flush t = true := by decide +kernel

/-! ## The first call -/

/-- Where sample `i` of point `t`'s block lies among the samples of this call, -/
theorem lt3 (t : Fin cfg3.N) (i : Fin 512) : 512 * t.val + i.val < 8192 := by
  have h : t.val < 16 := t.isLt
  omega

/-- and among all the samples. -/
abbrev smp3 (t : Fin cfg3.N) (i : Fin 512) : Fin 16384 := ⟨(512 * t.val + i.val), by have := lt3 t i; omega⟩

theorem row_index3 : ∀ t : Fin cfg3.N, (cfg3.win 0).index t = ![0, t.val, 0] := by decide
theorem dense_index3 : ∀ t : Fin cfg3.N, (cfg3.win 1).index t = ![t.val, 0] := by decide
theorem first_index3 : ∀ t : Fin cfg3.N, (cfg3.win 2).index t = ![0, t.val] := by decide
theorem logit_index3 : ∀ t : Fin cfg3.N, (cfg3.win 18).index t = ![t.val, 0] := by decide
theorem out_index3 : ∀ t : Fin cfg3.N, (cfg3.win 19).index t = ![0, t.val, 0] := by decide
theorem weight_index3 : ∀ w : Fin 20, 3 ≤ w.val → w.val < 18 → ∀ (t : Fin cfg3.N) (a : Fin (cfg3.win w).shape.rank), (cfg3.win w).index t a = 0 := by decide

theorem rows_at3 (c : Dev nD) (t : Fin cfg3.N) (f : Fin 26) (i : Fin 512) (p : Fin 128) :
    at3 (φ := .f32) (ins3 W c t).x0 f i p = at3 (φ := .f32) (W c (Proc.devRef .tc main_v15)) f ⟨512 * t.val + i.val, lt3 t i⟩ p :=
  block_read (cfg3.win 0) t _ (ix3 f i p) (ix3 f ⟨512 * t.val + i.val, lt3 t i⟩ p) fun a => by
    rw [row_index3 t]
    match a with
    | ⟨0, _⟩ => show f.val = 0 * 26 + f.val; omega
    | ⟨1, _⟩ => show 512 * t.val + i.val = t.val * 512 + i.val; omega
    | ⟨2, _⟩ => show p.val = 0 * 128 + p.val; omega

theorem dense_at3 (c : Dev nD) (t : Fin cfg3.N) (i : Fin 512) (j : Fin 4) :
    at2 (φ := .f32) (ins3 W c t).x1 i j = at2 (φ := .f32) (W c (Proc.devRef .tc main_arg1)) (smp3 t i) j :=
  block_read (cfg3.win 1) t _ (ix2 i j) (ix2 (smp3 t i) j) fun a => by
    rw [dense_index3 t]
    match a with
    | ⟨0, _⟩ => show (512 * t.val + i.val) = (t.val) * 512 + i.val; omega
    | ⟨1, _⟩ => show j.val = 0 * 4 + j.val; omega

theorem first_at3 (c : Dev nD) (t : Fin cfg3.N) (f : Fin 26) (i : Fin 512) :
    at2 (φ := .f32) (ins3 W c t).x2 f i = at2 (φ := .f32) (W c (Proc.devRef .tc main_v7)) f (smp3 t i) :=
  block_read (cfg3.win 2) t _ (ix2 f i) (ix2 f (smp3 t i)) fun a => by
    rw [first_index3 t]
    match a with
    | ⟨0, _⟩ => show f.val = 0 * 26 + f.val; omega
    | ⟨1, _⟩ => show (512 * t.val + i.val) = (t.val) * 512 + i.val; omega

/-- A weight's block is the whole of its array. -/
theorem weight_read3 (c : Dev nD) (w : Fin 20) (h3 : 3 ≤ w.val) (h18 : w.val < 18) (t : Fin cfg3.N)
    (y : ((cfg3.win w).xblock (cfg3.grid.coords t)).Idx) (z : (cfg3.win w).shape.Idx) (hz : ∀ a, (z a).val = (y a).val) :
    iblk3 W c w t y = (cfg3.win w).arr.view.read (Elt Ideal) (W c (Proc.devRef .tc (Pipeline.arrRef spec3 w))) z :=
  whole_read (cfg3.win w) t _ y z (weight_index3 w h3 h18 t) hz

theorem weights3 (c : Dev nD) (t : Fin cfg3.N) : weightsOf (ins3 W c t) = entry (W c) := by
  unfold weightsOf entry
  congr 1
  · funext i j; exact weight_read3 W c 3 (by decide) (by decide) t (ix2 i j) (ix2 i j) fun _ => rfl
  · funext i j; exact weight_read3 W c 4 (by decide) (by decide) t (ix2 i j) (ix2 i j) fun _ => rfl
  · funext i; exact weight_read3 W c 5 (by decide) (by decide) t (ix1 i) (ix1 i) fun _ => rfl
  · funext i; exact weight_read3 W c 6 (by decide) (by decide) t (ix1 i) (ix1 i) fun _ => rfl
  · funext i; exact weight_read3 W c 7 (by decide) (by decide) t (ix1 i) (ix1 i) fun _ => rfl
  · funext i j; exact weight_read3 W c 8 (by decide) (by decide) t (ix2 i j) (ix2 i j) fun _ => rfl
  · funext i; exact weight_read3 W c 9 (by decide) (by decide) t (ix1 i) (ix1 i) fun _ => rfl
  · funext i; exact weight_read3 W c 10 (by decide) (by decide) t (ix1 i) (ix1 i) fun _ => rfl
  · funext i; exact weight_read3 W c 11 (by decide) (by decide) t (ix1 i) (ix1 i) fun _ => rfl
  · funext i j; exact weight_read3 W c 12 (by decide) (by decide) t (ix2 i j) (ix2 i j) fun _ => rfl
  · funext i; exact weight_read3 W c 13 (by decide) (by decide) t (ix1 i) (ix1 i) fun _ => rfl
  · funext i; exact weight_read3 W c 14 (by decide) (by decide) t (ix1 i) (ix1 i) fun _ => rfl
  · funext i; exact weight_read3 W c 15 (by decide) (by decide) t (ix1 i) (ix1 i) fun _ => rfl
  · funext i; exact weight_read3 W c 16 (by decide) (by decide) t (ix2 i 0) (ix2 i 0) fun _ => rfl
  · exact weight_read3 W c 17 (by decide) (by decide) t (ix1 0) (ix1 0) fun _ => rfl

/-- Sample `j`'s logit, from the arrays as the call finds them. -/
def lgt3 (c : Dev nD) (j : Fin 8192) : EReal :=
  logit (entry (W c)) (fun f => at2 (φ := .f32) (W c (Proc.devRef .tc main_v7)) f ⟨j.val, by have := j.isLt; omega⟩)
    (fun f p => at3 (φ := .f32) (W c (Proc.devRef .tc main_v15)) f j p) (at2 (φ := .f32) (W c (Proc.devRef .tc main_arg1)) ⟨j.val, by have := j.isLt; omega⟩)

theorem logits_at3 (c : Dev nD) (t : Fin cfg3.N) (i : Fin 512) :
    at2 (φ := .f32) (logits (ins3 W c t)) i 0 = lgt3 W c ⟨512 * t.val + i.val, lt3 t i⟩ := by
  rw [logits_eq, at2_logitsOf, weights3]
  unfold lgt3
  refine congr (congr (congrArg (logit (entry (W c))) ?_) ?_) ?_
  · funext f; exact first_at3 W c t f i
  · funext f p; exact rows_at3 W c t f i p
  · funext j; exact dense_at3 W c t i j

theorem logits_all3 (c : Dev nD) (t : Fin cfg3.N) (y : S512x1.Idx) :
    logits (ins3 W c t) y = lgt3 W c ⟨512 * t.val + (y 0).val, lt3 t (y 0)⟩ := by
  refine Eq.trans ?_ (logits_at3 W c t (y 0))
  refine congrArg (logits (ins3 W c t)) ?_
  funext z
  match z with
  | ⟨0, _⟩ => rfl
  | ⟨1, _⟩ => exact Subsingleton.elim (α := Fin 1) _ _

theorem logit_place3 (t : Fin cfg3.N) (y : S512x1.Idx) :
    512 * t.val + (y 0).val = ((((cfg3.win 18).blk t).view.emb y : S8192x1.Idx) 0).val := by
  refine Eq.trans ?_ ((cfg3.win 18).rect_emb_val t y 0).symm
  rw [logit_index3 t]
  show 512 * t.val + (y 0).val = t.val * 512 + (y 0).val
  omega

theorem row_place3 (t : Fin cfg3.N) (y : S26x512x128.Idx) :
    (((cfg3.win 19).blk t).view.emb y : S26x16384x128.Idx) = ix3 (y 0) (smp3 t (y 1)) (y 2) := funext fun a => Fin.ext (by
  refine ((cfg3.win 19).rect_emb_val t y a).trans ?_
  rw [out_index3 t]
  match a with
  | ⟨0, _⟩ => show 0 * 26 + (y 0).val = (y 0).val; omega
  | ⟨1, _⟩ => show (t.val) * 512 + (y 1).val = (512 * t.val + (y 1).val); omega
  | ⟨2, _⟩ => show 0 * 128 + (y 2).val = (y 2).val; omega)

theorem apart3 : ∀ t t' : Fin cfg3.N, (cfg3.win 19).index t = (cfg3.win 19).index t' → t = t' := fun t t' h => by
  rw [out_index3 t, out_index3 t'] at h
  have h1 : t.val = t'.val := congrFun h 1
  exact Fin.ext (by omega)

theorem after_logits3 (c : Dev nD) (t : Fin cfg3.N) :
    (dat3 (Ix := Ix) (Name := Name) (U := U) (Lvl := Lvl) W c).after 18 t = logits (ins3 W c t) := by dsimp only [dat3]

theorem after_rows3 (c : Dev nD) (t : Fin cfg3.N) :
    (dat3 (Ix := Ix) (Name := Name) (U := U) (Lvl := Lvl) W c).after 19 t = rows (ins3 W c t) := by dsimp only [dat3]

/-- The logits the call leaves, -/
theorem left_logits3 (c : Dev nD) :
    (dat3 (Ix := Ix) (Name := Name) (U := U) (Lvl := Lvl) W c).arrAt 18 cfg3.N = fun x : S8192x1.Idx => lgt3 W c (x 0) := by
  refine Dat.arrAt_eq_of_covers (dat3 (Ix := Ix) (Name := Name) (U := U) (Lvl := Lvl) W c) 18 (fun x : S8192x1.Idx => lgt3 W c (x 0)) (by decide +kernel) fun t _ y => ?_
  have ha := after_logits3 (Ix := Ix) (Name := Name) (U := U) (Lvl := Lvl) W c t
  blk_simp
  rw [ha]
  exact (logits_all3 W c t y).trans (congrArg (lgt3 W c) (Fin.ext (logit_place3 t y)))

/-- and the rows. -/
theorem left_rows3 (c : Dev nD) (f : Fin 26) (j : Fin 8192) (p : Fin 128) :
    at3 (φ := .f32) ((dat3 (Ix := Ix) (Name := Name) (U := U) (Lvl := Lvl) W c).arrAt 19 cfg3.N) f ⟨j.val, by have := j.isLt; omega⟩ p
      = at3 (φ := .f32) (W c (Proc.devRef .tc main_v15)) f j p := by
  have hj := j.isLt
  let t : Fin cfg3.N := (⟨j.val / 512, by omega⟩ : Fin 16)
  let y : S26x512x128.Idx := ix3 f ⟨j.val % 512, Nat.mod_lt _ (by decide)⟩ p
  have hm : (((cfg3.win 19).blk t).view.emb y : S26x16384x128.Idx) = ix3 f ⟨j.val, by omega⟩ p := by
    rw [row_place3 t y]
    refine congrArg (ix3 f · p) (Fin.ext ?_)
    show (512 * (j.val / 512) + j.val % 512) = j.val
    omega
  have h := Dat.arrAt_emb_eq_flushed (dat3 (Ix := Ix) (Name := Name) (U := U) (Lvl := Lvl) W c) 19
    (Window.hdisj_of_index_inj _ fun t t' _ _ => apart3 t t') t (flush_out3 t) y
  have ha := after_rows3 (Ix := Ix) (Name := Name) (U := U) (Lvl := Lvl) W c t
  blk_simp at h
  rw [ha, rows_eq] at h
  refine (congrArg ((dat3 (Ix := Ix) (Name := Name) (U := U) (Lvl := Lvl) W c).arrAt 19 cfg3.N) hm.symm).trans (h.trans ((rows_at3 W c t f ⟨j.val % 512, Nat.mod_lt _ (by decide)⟩ p).trans ?_))
  refine congrArg (at3 (φ := .f32) (W c (Proc.devRef .tc main_v15)) f · p) (Fin.ext ?_)
  show 512 * (j.val / 512) + j.val % 512 = j.val
  omega
end Cert.Proof.Value

end
-- ==== Proof.Value.Blocks2.lean ====
/-
  What the second dense call leaves in its results' arrays, over the extended reals.
-/
module

public import proofs.«01_k».proof.Proof.Value.Blocks

@[expose] public section

noncomputable section

namespace Cert.Proof.Value

open Idealize.ShloMosaic Idealize.ShloMosaic.ValueIdx
open Cert.KernelIdeal Cert.KernelIdeal.Gen Cert.Proof.Dense
open Idealize.SL.RA
open Idealize.ShloMosaic.Pipeline (Dat Cfg Window)

variable {Ix : Type} [DecidableEq Ix] {Name : Type} [DecidableEq Name] [Infinite Name] {U : Type} [URA U] {Lvl : Type} [Preorder Lvl]

variable (W : Dev nD → Valuation τ sig (Elt Ideal))

theorem flush_out4 : ∀ t : Fin cfg4.N, (cfg4.win 19).flush t = true := by decide +kernel

/-! ## The second call -/

/-- Where sample `i` of point `t`'s block lies among the samples of this call, -/
theorem lt4 (t : Fin cfg4.N) (i : Fin 512) : 512 * t.val + i.val < 8192 := by
  have h : t.val < 16 := t.isLt
  omega

/-- and among all the samples. -/
abbrev smp4 (t : Fin cfg4.N) (i : Fin 512) : Fin 16384 := ⟨8192 + (512 * t.val + i.val), by have := lt4 t i; omega⟩

theorem row_index4 : ∀ t : Fin cfg4.N, (cfg4.win 0).index t = ![0, t.val, 0] := by decide
theorem dense_index4 : ∀ t : Fin cfg4.N, (cfg4.win 1).index t = ![16 + t.val, 0] := by decide
theorem first_index4 : ∀ t : Fin cfg4.N, (cfg4.win 2).index t = ![0, 16 + t.val] := by decide
theorem logit_index4 : ∀ t : Fin cfg4.N, (cfg4.win 18).index t = ![t.val, 0] := by decide
theorem out_index4 : ∀ t : Fin cfg4.N, (cfg4.win 19).index t = ![0, 16 + t.val, 0] := by decide
theorem weight_index4 : ∀ w : Fin 20, 3 ≤ w.val → w.val < 18 → ∀ (t : Fin cfg4.N) (a : Fin (cfg4.win w).shape.rank), (cfg4.win w).index t a = 0 := by decide

theorem rows_at4 (c : Dev nD) (t : Fin cfg4.N) (f : Fin 26) (i : Fin 512) (p : Fin 128) :
    at3 (φ := .f32) (ins4 W c t).x0 f i p = at3 (φ := .f32) (W c (Proc.devRef .tc main_v17)) f ⟨512 * t.val + i.val, lt4 t i⟩ p :=
  block_read (cfg4.win 0) t _ (ix3 f i p) (ix3 f ⟨512 * t.val + i.val, lt4 t i⟩ p) fun a => by
    rw [row_index4 t]
    match a with
    | ⟨0, _⟩ => show f.val = 0 * 26 + f.val; omega
    | ⟨1, _⟩ => show 512 * t.val + i.val = t.val * 512 + i.val; omega
    | ⟨2, _⟩ => show p.val = 0 * 128 + p.val; omega

theorem dense_at4 (c : Dev nD) (t : Fin cfg4.N) (i : Fin 512) (j : Fin 4) :
    at2 (φ := .f32) (ins4 W c t).x1 i j = at2 (φ := .f32) (W c (Proc.devRef .tc main_arg1)) (smp4 t i) j :=
  block_read (cfg4.win 1) t _ (ix2 i j) (ix2 (smp4 t i) j) fun a => by
    rw [dense_index4 t]
    match a with
    | ⟨0, _⟩ => show 8192 + (512 * t.val + i.val) = (16 + t.val) * 512 + i.val; omega
    | ⟨1, _⟩ => show j.val = 0 * 4 + j.val; omega

theorem first_at4 (c : Dev nD) (t : Fin cfg4.N) (f : Fin 26) (i : Fin 512) :
    at2 (φ := .f32) (ins4 W c t).x2 f i = at2 (φ := .f32) (W c (Proc.devRef .tc main_v7)) f (smp4 t i) :=
  block_read (cfg4.win 2) t _ (ix2 f i) (ix2 f (smp4 t i)) fun a => by
    rw [first_index4 t]
    match a with
    | ⟨0, _⟩ => show f.val = 0 * 26 + f.val; omega
    | ⟨1, _⟩ => show 8192 + (512 * t.val + i.val) = (16 + t.val) * 512 + i.val; omega

/-- A weight's block is the whole of its array. -/
theorem weight_read4 (c : Dev nD) (w : Fin 20) (h3 : 3 ≤ w.val) (h18 : w.val < 18) (t : Fin cfg4.N)
    (y : ((cfg4.win w).xblock (cfg4.grid.coords t)).Idx) (z : (cfg4.win w).shape.Idx) (hz : ∀ a, (z a).val = (y a).val) :
    iblk4 W c w t y = (cfg4.win w).arr.view.read (Elt Ideal) (W c (Proc.devRef .tc (Pipeline.arrRef spec4 w))) z :=
  whole_read (cfg4.win w) t _ y z (weight_index4 w h3 h18 t) hz

theorem weights4 (c : Dev nD) (t : Fin cfg4.N) : weightsOf (ins4 W c t) = entry (W c) := by
  unfold weightsOf entry
  congr 1
  · funext i j; exact weight_read4 W c 3 (by decide) (by decide) t (ix2 i j) (ix2 i j) fun _ => rfl
  · funext i j; exact weight_read4 W c 4 (by decide) (by decide) t (ix2 i j) (ix2 i j) fun _ => rfl
  · funext i; exact weight_read4 W c 5 (by decide) (by decide) t (ix1 i) (ix1 i) fun _ => rfl
  · funext i; exact weight_read4 W c 6 (by decide) (by decide) t (ix1 i) (ix1 i) fun _ => rfl
  · funext i; exact weight_read4 W c 7 (by decide) (by decide) t (ix1 i) (ix1 i) fun _ => rfl
  · funext i j; exact weight_read4 W c 8 (by decide) (by decide) t (ix2 i j) (ix2 i j) fun _ => rfl
  · funext i; exact weight_read4 W c 9 (by decide) (by decide) t (ix1 i) (ix1 i) fun _ => rfl
  · funext i; exact weight_read4 W c 10 (by decide) (by decide) t (ix1 i) (ix1 i) fun _ => rfl
  · funext i; exact weight_read4 W c 11 (by decide) (by decide) t (ix1 i) (ix1 i) fun _ => rfl
  · funext i j; exact weight_read4 W c 12 (by decide) (by decide) t (ix2 i j) (ix2 i j) fun _ => rfl
  · funext i; exact weight_read4 W c 13 (by decide) (by decide) t (ix1 i) (ix1 i) fun _ => rfl
  · funext i; exact weight_read4 W c 14 (by decide) (by decide) t (ix1 i) (ix1 i) fun _ => rfl
  · funext i; exact weight_read4 W c 15 (by decide) (by decide) t (ix1 i) (ix1 i) fun _ => rfl
  · funext i; exact weight_read4 W c 16 (by decide) (by decide) t (ix2 i 0) (ix2 i 0) fun _ => rfl
  · exact weight_read4 W c 17 (by decide) (by decide) t (ix1 0) (ix1 0) fun _ => rfl

/-- Sample `j`'s logit, from the arrays as the call finds them. -/
def lgt4 (c : Dev nD) (j : Fin 8192) : EReal :=
  logit (entry (W c)) (fun f => at2 (φ := .f32) (W c (Proc.devRef .tc main_v7)) f ⟨8192 + j.val, by have := j.isLt; omega⟩)
    (fun f p => at3 (φ := .f32) (W c (Proc.devRef .tc main_v17)) f j p) (at2 (φ := .f32) (W c (Proc.devRef .tc main_arg1)) ⟨8192 + j.val, by have := j.isLt; omega⟩)

theorem logits_at4 (c : Dev nD) (t : Fin cfg4.N) (i : Fin 512) :
    at2 (φ := .f32) (logits (ins4 W c t)) i 0 = lgt4 W c ⟨512 * t.val + i.val, lt4 t i⟩ := by
  rw [logits_eq, at2_logitsOf, weights4]
  unfold lgt4
  refine congr (congr (congrArg (logit (entry (W c))) ?_) ?_) ?_
  · funext f; exact first_at4 W c t f i
  · funext f p; exact rows_at4 W c t f i p
  · funext j; exact dense_at4 W c t i j

theorem logits_all4 (c : Dev nD) (t : Fin cfg4.N) (y : S512x1.Idx) :
    logits (ins4 W c t) y = lgt4 W c ⟨512 * t.val + (y 0).val, lt4 t (y 0)⟩ := by
  refine Eq.trans ?_ (logits_at4 W c t (y 0))
  refine congrArg (logits (ins4 W c t)) ?_
  funext z
  match z with
  | ⟨0, _⟩ => rfl
  | ⟨1, _⟩ => exact Subsingleton.elim (α := Fin 1) _ _

theorem logit_place4 (t : Fin cfg4.N) (y : S512x1.Idx) :
    512 * t.val + (y 0).val = ((((cfg4.win 18).blk t).view.emb y : S8192x1.Idx) 0).val := by
  refine Eq.trans ?_ ((cfg4.win 18).rect_emb_val t y 0).symm
  rw [logit_index4 t]
  show 512 * t.val + (y 0).val = t.val * 512 + (y 0).val
  omega

theorem row_place4 (t : Fin cfg4.N) (y : S26x512x128.Idx) :
    (((cfg4.win 19).blk t).view.emb y : S26x16384x128.Idx) = ix3 (y 0) (smp4 t (y 1)) (y 2) := funext fun a => Fin.ext (by
  refine ((cfg4.win 19).rect_emb_val t y a).trans ?_
  rw [out_index4 t]
  match a with
  | ⟨0, _⟩ => show 0 * 26 + (y 0).val = (y 0).val; omega
  | ⟨1, _⟩ => show (16 + t.val) * 512 + (y 1).val = 8192 + (512 * t.val + (y 1).val); omega
  | ⟨2, _⟩ => show 0 * 128 + (y 2).val = (y 2).val; omega)

theorem apart4 : ∀ t t' : Fin cfg4.N, (cfg4.win 19).index t = (cfg4.win 19).index t' → t = t' := fun t t' h => by
  rw [out_index4 t, out_index4 t'] at h
  have h1 : 16 + t.val = 16 + t'.val := congrFun h 1
  exact Fin.ext (by omega)

theorem after_logits4 (c : Dev nD) (t : Fin cfg4.N) :
    (dat4 (Ix := Ix) (Name := Name) (U := U) (Lvl := Lvl) W c).after 18 t = logits (ins4 W c t) := by dsimp only [dat4]

theorem after_rows4 (c : Dev nD) (t : Fin cfg4.N) :
    (dat4 (Ix := Ix) (Name := Name) (U := U) (Lvl := Lvl) W c).after 19 t = rows (ins4 W c t) := by dsimp only [dat4]

/-- The logits the call leaves, -/
theorem left_logits4 (c : Dev nD) :
    (dat4 (Ix := Ix) (Name := Name) (U := U) (Lvl := Lvl) W c).arrAt 18 cfg4.N = fun x : S8192x1.Idx => lgt4 W c (x 0) := by
  refine Dat.arrAt_eq_of_covers (dat4 (Ix := Ix) (Name := Name) (U := U) (Lvl := Lvl) W c) 18 (fun x : S8192x1.Idx => lgt4 W c (x 0)) (by decide +kernel) fun t _ y => ?_
  have ha := after_logits4 (Ix := Ix) (Name := Name) (U := U) (Lvl := Lvl) W c t
  blk_simp
  rw [ha]
  exact (logits_all4 W c t y).trans (congrArg (lgt4 W c) (Fin.ext (logit_place4 t y)))

/-- and the rows. -/
theorem left_rows4 (c : Dev nD) (f : Fin 26) (j : Fin 8192) (p : Fin 128) :
    at3 (φ := .f32) ((dat4 (Ix := Ix) (Name := Name) (U := U) (Lvl := Lvl) W c).arrAt 19 cfg4.N) f ⟨8192 + j.val, by have := j.isLt; omega⟩ p
      = at3 (φ := .f32) (W c (Proc.devRef .tc main_v17)) f j p := by
  have hj := j.isLt
  let t : Fin cfg4.N := (⟨j.val / 512, by omega⟩ : Fin 16)
  let y : S26x512x128.Idx := ix3 f ⟨j.val % 512, Nat.mod_lt _ (by decide)⟩ p
  have hm : (((cfg4.win 19).blk t).view.emb y : S26x16384x128.Idx) = ix3 f ⟨8192 + j.val, by omega⟩ p := by
    rw [row_place4 t y]
    refine congrArg (ix3 f · p) (Fin.ext ?_)
    show 8192 + (512 * (j.val / 512) + j.val % 512) = 8192 + j.val
    omega
  have h := Dat.arrAt_emb_eq_flushed (dat4 (Ix := Ix) (Name := Name) (U := U) (Lvl := Lvl) W c) 19
    (Window.hdisj_of_index_inj _ fun t t' _ _ => apart4 t t') t (flush_out4 t) y
  have ha := after_rows4 (Ix := Ix) (Name := Name) (U := U) (Lvl := Lvl) W c t
  blk_simp at h
  rw [ha, rows_eq] at h
  refine (congrArg ((dat4 (Ix := Ix) (Name := Name) (U := U) (Lvl := Lvl) W c).arrAt 19 cfg4.N) hm.symm).trans (h.trans ((rows_at4 W c t f ⟨j.val % 512, Nat.mod_lt _ (by decide)⟩ p).trans ?_))
  refine congrArg (at3 (φ := .f32) (W c (Proc.devRef .tc main_v17)) f · p) (Fin.ext ?_)
  show 512 * (j.val / 512) + j.val % 512 = j.val
  omega

/-- The second call leaves the first half's rows as it finds them. -/
theorem kept_rows (c : Dev nD) (f : Fin 26) (j : Fin 8192) (p : Fin 128) :
    at3 (φ := .f32) ((dat4 (Ix := Ix) (Name := Name) (U := U) (Lvl := Lvl) W c).arrAt 19 cfg4.N) f ⟨j.val, by have := j.isLt; omega⟩ p
      = at3 (φ := .f32) (W c (Proc.devRef .tc main_v18_1)) f ⟨j.val, by have := j.isLt; omega⟩ p := by
  refine Dat.arrAt_apply_of_forall_not_mem (dat4 (Ix := Ix) (Name := Name) (U := U) (Lvl := Lvl) W c) 19 cfg4.N _ fun t _ _ hi => ?_
  obtain ⟨y, hy⟩ := View.exists_emb_of_mem_set _ hi
  have h1 := congrArg Fin.val (congrFun hy (1 : Fin 3))
  have h2 := (cfg4.win 19).rect_emb_val t y (1 : Fin 3)
  rw [out_index4 t] at h2
  have h3 : (16 + t.val) * 512 + (y (1 : Fin 3)).val = j.val := h2.symm.trans h1
  have := j.isLt
  omega
end Cert.Proof.Value

end
-- ==== Proof.Value.Results.lean ====
/-
  What the program's results hold: every sample's logit and embedding rows, as functions of the arguments.
-/
module

public import proofs.«01_k».proof.Proof.Launch.Frames
public import proofs.«01_k».proof.Proof.Value.Args
public import proofs.«01_k».proof.Proof.Value.Blocks2

@[expose] public section

noncomputable section

namespace Cert.Proof.Value

open Idealize.ShloMosaic Idealize.ShloMosaic.ValueIdx
open Cert.KernelIdeal Cert.KernelIdeal.Gen Cert.Proof.Launch Idealize.ShloMosaic.TcCoe
open Idealize.ShloMosaic.SparseCore (T)
open Idealize.ShloMosaic.SparseCore.Cfg (HIx)
open Idealize.ShloMosaic.StableHlo

variable (m : (ℓ : Loc nD τ sig) → Buf (Elt Ideal) ℓ)

/-! ## The SparseCore calls' results at an element -/

/-- A gathered row is the table's row its word names. -/
theorem gathered_at (X : S26000x128.Idx → EReal) (Fi : S1664x128.Idx → BitVec 32) (r : Fin 212992) (p : Fin 128) (v : BitVec 32) (q : Fin 26000)
    (hv : Fi (ix2 (⟨r.val / 128, by have := r.isLt; omega⟩ : Fin 1664) (⟨r.val % 128, Nat.mod_lt _ (by decide)⟩ : Fin 128)) = v) (hl : v.toNat < 1000)
    (hq : q.val = 1000 * (r.val / 8192) + v.toNat) : gathered X Fi (ix2 r p) = X (ix2 q p) := by
  have hr := r.isLt
  have hi : (ix2 (⟨2 * (r.val / 256) + r.val % 256 / 128, by omega⟩ : Fin 1664) (⟨r.val % 256 % 128, Nat.mod_lt _ (by decide)⟩ : Fin 128) : S1664x128.Idx)
      = ix2 (⟨r.val / 128, by omega⟩ : Fin 1664) (⟨r.val % 128, Nat.mod_lt _ (by decide)⟩ : Fin 128) := by
    congr 1 <;> exact Fin.ext (by show _ = _; dsimp only; omega)
  refine congrArg (fun k => X (ix2 k p)) (Fin.ext ?_)
  show (Fi (ix2 (⟨2 * (r.val / 256) + r.val % 256 / 128, by omega⟩ : Fin 1664) (⟨r.val % 256 % 128, Nat.mod_lt _ (by decide)⟩ : Fin 128)) + Gather.offAt (r.val / 256)).toNat % 26000 = q.val
  rw [hi, hv, BitVec.toNat_add, Gather.offAt_toNat (by omega), hq]
  omega

/-- A looked-up number is the table's element its word names. -/
theorem lookedUp_at (X : S26000.Idx → EReal) (Fi : S425984.Idx → BitVec 32) (f : Fin 26) (s : Fin 16384) (v : BitVec 32) (q : Fin 26000)
    (hv : Fi (ix1 (⟨16384 * f.val + s.val, by have := f.isLt; have := s.isLt; omega⟩ : Fin 425984)) = v) (hl : v.toNat < 1000)
    (hq : q.val = 1000 * f.val + v.toNat) : lookedUp X Fi (ix2 f s) = X (ix1 q) := by
  have hf := f.isLt
  have hs := s.isLt
  have hi : (ix1 (⟨512 * (32 * f.val + s.val / 512) + s.val % 512, by omega⟩ : Fin 425984) : S425984.Idx)
      = ix1 (⟨16384 * f.val + s.val, by omega⟩ : Fin 425984) := by
    congr 1; exact Fin.ext (by dsimp only; omega)
  refine congrArg (fun k => X (ix1 k)) (Fin.ext ?_)
  show (Fi (ix1 (⟨512 * (32 * f.val + s.val / 512) + s.val % 512, by omega⟩ : Fin 425984)) + Linear.offC (32 * f.val + s.val / 512)).toNat % 26000 = q.val
  rw [hi, hv, BitVec.toNat_add, Linear.offC_toNat (by omega), hq]
  omega

/-! ## The words as the calls read them -/

/-- The row numbers, as given. -/
abbrev given (d : Dev nD) : IVec S16384x26 32 := m ((T d : Thread nD τ).loc main_arg0)

theorem turned (d : Dev nD) (f : Fin 26) (s : Fin 16384) : VA m d (Proc.devRef .tc main_v0) (ix2 f s) = given m d (ix2 s f) := by
  rw [VA_v0]
  exact transpose_apply _ _ _ (ix2 f s) (ix2 s f) fun b => match b with | ⟨0, _⟩ => rfl | ⟨1, _⟩ => rfl

theorem words6 (d : Dev nD) (f : Fin 26) (s : Fin 16384) :
    at_ (VA m) d main_v6 (ix1 (⟨16384 * f.val + s.val, by have := f.isLt; have := s.isLt; omega⟩ : Fin 425984)) = given m d (ix2 s f) := by
  refine Eq.trans ?_ (turned m d f s)
  show VA m d (Proc.devRef .tc main_v6) _ = _
  rw [VA_v6]
  refine shapeCast_apply (s := S26x16384) (t := S425984) _ _ _ (ix2 f s) ?_
  refine (Shape.rowMajor_val_two _).trans (Eq.trans ?_ (Shape.rowMajor_val_one _).symm)
  show f.val * 16384 + s.val = 16384 * f.val + s.val
  omega

theorem words3 (d : Dev nD) (f : Fin 26) (j : Fin 8192) (r : Fin 212992) (hr : r.val = 8192 * f.val + j.val) :
    at_ (VA m) d main_v3 (ix2 (⟨r.val / 128, by have := r.isLt; omega⟩ : Fin 1664) (⟨r.val % 128, Nat.mod_lt _ (by decide)⟩ : Fin 128))
      = given m d (ix2 (⟨j.val, by have := j.isLt; omega⟩ : Fin 16384) f) := by
  refine Eq.trans ?_ (turned m d f ⟨j.val, by have := j.isLt; omega⟩)
  show VA m d (Proc.devRef .tc main_v3) _ = _
  rw [VA_v3]
  refine (shapeCast_apply (s := S26x8192) (t := S1664x128) _ _ _ (ix2 f j) ?_).trans ?_
  · refine (Shape.rowMajor_val_two _).trans (Eq.trans ?_ (Shape.rowMajor_val_two _).symm)
    show f.val * 8192 + j.val = r.val / 128 * 128 + r.val % 128
    omega
  · refine extractStridedSlice_apply (s := S26x16384) (t := S26x8192) _ _ _ (ix2 f j) _ fun a => ?_
    match a with
    | ⟨0, _⟩ => exact (Nat.zero_add _).symm
    | ⟨1, _⟩ => exact (Nat.zero_add _).symm

theorem words5 (d : Dev nD) (f : Fin 26) (j : Fin 8192) (r : Fin 212992) (hr : r.val = 8192 * f.val + j.val) :
    at_ (VA m) d main_v5 (ix2 (⟨r.val / 128, by have := r.isLt; omega⟩ : Fin 1664) (⟨r.val % 128, Nat.mod_lt _ (by decide)⟩ : Fin 128))
      = given m d (ix2 (⟨8192 + j.val, by have := j.isLt; omega⟩ : Fin 16384) f) := by
  refine Eq.trans ?_ (turned m d f ⟨8192 + j.val, by have := j.isLt; omega⟩)
  show VA m d (Proc.devRef .tc main_v5) _ = _
  rw [VA_v5]
  refine (shapeCast_apply (s := S26x8192) (t := S1664x128) _ _ _ (ix2 f j) ?_).trans ?_
  · refine (Shape.rowMajor_val_two _).trans (Eq.trans ?_ (Shape.rowMajor_val_two _).symm)
    show f.val * 8192 + j.val = r.val / 128 * 128 + r.val % 128
    omega
  · refine extractStridedSlice_apply (s := S26x16384) (t := S26x8192) _ _ _ (ix2 f j) _ fun a => ?_
    match a with
    | ⟨0, _⟩ => exact (Nat.zero_add _).symm
    | ⟨1, _⟩ => rfl

/-! ## The arrays the dense calls read -/

/-- Every row number lies in its field's range. -/
def Small (d : Dev nD) : Prop := ∀ i, (given m d i).toNat < 1000

abbrev A (d : Dev nD) (r : Ref sig .tc) : Buf (Elt Ideal) ((T d : Thread nD τ).loc r) := m ((T d : Thread nD τ).loc r)

/-- The embedding rows of sample `i`. -/
abbrev embOf (d : Dev nD) (i : Fin 16384) : Fin 26 → Fin 128 → EReal := emb (given m d) (A m d main_arg2) i
abbrev firstsOf (d : Dev nD) (i : Fin 16384) : Fin 26 → EReal := firsts (given m d) (A m d main_arg3) i

theorem VB_v7 (d : Dev nD) : VB m d (Proc.devRef .tc main_v7) = Launch.out0 (VA m) d := by
  unfold VB
  rw [step_ne _ _ _ _ _ (by decide : main_v7 ≠ dst 2), step_ne _ _ _ _ _ (by decide : main_v7 ≠ dst 1)]
  exact Function.update_self _ _ _

theorem VB_v8 (d : Dev nD) : VB m d (Proc.devRef .tc main_v8) = Launch.out1 (VA m) d := by
  unfold VB
  rw [step_ne _ _ _ _ _ (by decide : main_v8 ≠ dst 2)]
  exact Function.update_self _ _ _

theorem VB_v9 (d : Dev nD) : VB m d (Proc.devRef .tc main_v9) = Launch.out2 (VA m) d := by
  unfold VB
  exact Function.update_self _ _ _

theorem table_kept (d : Dev nD) : at_ (VA m) d main_arg2 = A m d main_arg2 := VA_kept m d main_arg2 (by decide)

theorem first_table (d : Dev nD) (q : Fin 26000) : at_ (VA m) d main_v1 (ix1 q) = at2 (φ := .f32) (A m d main_arg3) q 0 := by
  show VA m d (Proc.devRef .tc main_v1) _ = _
  rw [VA_v1]
  refine shapeCast_apply (s := S26000x1) (t := S26000) _ _ _ (ix2 q 0) ?_
  refine (Shape.rowMajor_val_two _).trans (Eq.trans ?_ (Shape.rowMajor_val_one _).symm)
  show q.val * 1 + 0 = q.val
  omega

variable {m}

theorem firsts_read {d : Dev nD} (h : Small m d) (f : Fin 26) (s : Fin 16384) :
    at2 (φ := .f32) (VB m d (Proc.devRef .tc main_v7)) f s = firstsOf m d s f := by
  rw [VB_v7]
  exact (lookedUp_at _ _ f s _ (rowOf (given m d) s f) (words6 m d f s) (h _) (rowOf_val _ _ _ (h _))).trans (first_table m d _)

theorem flat_lt (f : Fin 26) (j : Fin 8192) : 8192 * f.val + j.val < 212992 := by have := f.isLt; have := j.isLt; omega

theorem flat_field (f : Fin 26) (j : Fin 8192) : (8192 * f.val + j.val) / 8192 = f.val := by have := j.isLt; omega

theorem flat_rows (X : S212992x128.Idx → EReal) (f : Fin 26) (j : Fin 8192) (p : Fin 128) :
    at3 (φ := .f32) (shapeCast S26x8192x128 X shapeCasts_S212992x128_S26x8192x128) f j p = X (ix2 ⟨8192 * f.val + j.val, flat_lt f j⟩ p) := by
  refine shapeCast_apply (s := S212992x128) (t := S26x8192x128) _ _ _ (ix2 _ p) ?_
  refine (Shape.rowMajor_val_two _).trans (Eq.trans ?_ (Shape.rowMajor_val_three _).symm)
  show (8192 * f.val + j.val) * 128 + p.val = (f.val * 8192 + j.val) * 128 + p.val
  omega

theorem rows_first {d : Dev nD} (h : Small m d) (f : Fin 26) (j : Fin 8192) (p : Fin 128) :
    at3 (φ := .f32) (VC m d (Proc.devRef .tc main_v15)) f j p = embOf m d ⟨j.val, by have := j.isLt; omega⟩ f p := by
  have e : VC m d (Proc.devRef .tc main_v15) = shapeCast S26x8192x128 (VB m d (Proc.devRef .tc main_v8)) shapeCasts_S212992x128_S26x8192x128 := by
    unfold VC ops1
    after_reads_simp
    rfl
  rw [e, VB_v8, flat_rows]
  refine (gathered_at _ _ _ p _ (rowOf (given m d) ⟨j.val, by have := j.isLt; omega⟩ f) (words3 m d f j _ rfl) (h _) ?_).trans ?_
  · rw [flat_field]; exact rowOf_val _ _ _ (h _)
  · rw [table_kept]; rfl

theorem rows_second {d : Dev nD} (h : Small m d) (f : Fin 26) (j : Fin 8192) (p : Fin 128) :
    at3 (φ := .f32) (VE m d (Proc.devRef .tc main_v17)) f j p = embOf m d ⟨8192 + j.val, by have := j.isLt; omega⟩ f p := by
  have e : VE m d (Proc.devRef .tc main_v17) = shapeCast S26x8192x128 (VD m d (Proc.devRef .tc main_v9)) shapeCasts_S212992x128_S26x8192x128 := by
    unfold VE ops2
    after_reads_simp
    rfl
  rw [e, VD_kept m d main_v9 (by decide), VC_kept m d main_v9 (by decide), VB_v9, flat_rows]
  refine (gathered_at _ _ _ p _ (rowOf (given m d) ⟨8192 + j.val, by have := j.isLt; omega⟩ f) (words5 m d f j _ rfl) (h _) ?_).trans ?_
  · rw [flat_field]; exact rowOf_val _ _ _ (h _)
  · rw [table_kept]; rfl

variable (m)

/-! ## The weights -/

abbrev weightsAt (d : Dev nD) : Weights :=
  weights (A m d main_arg4) (A m d main_arg5) (A m d main_arg6) (A m d main_arg7) (A m d main_arg8) (A m d main_arg9) (A m d main_arg10)
    (A m d main_arg11) (A m d main_arg12) (A m d main_arg13) (A m d main_arg14) (A m d main_arg15) (A m d main_arg16) (A m d main_arg17)

/-- An argument, as the first dense call finds it, -/
theorem arg_first (d : Dev nD) (r : Ref sig .tc) (h : r ∈ args) : VC m d (Proc.devRef .tc r) = A m d r := by
  have h' : ∀ r ∈ args, r ∉ wr0 ∧ r ∉ [main_v7, main_v8, main_v9] ∧ r ∉ wr1 := by decide
  rw [VC_kept m d r (h' r h).2.2, VB_kept m d r (h' r h).2.1, VA_kept m d r (h' r h).1]

/-- and anything, as the second finds it. -/
theorem kept_second (d : Dev nD) (r : Ref sig .tc) (h : r ∉ [main_v16_0, main_v16_1] ∧ r ∉ wr2) :
    VE m d (Proc.devRef .tc r) = VC m d (Proc.devRef .tc r) := by rw [VE_kept m d r h.2, VD_kept m d r h.1]

/-- An argument, before the first dense call's preparations. -/
theorem arg_before (d : Dev nD) (r : Ref sig .tc) (h : r ∈ args) : VB m d (Proc.devRef .tc r) = A m d r := by
  have h' : ∀ r ∈ args, r ∉ wr0 ∧ r ∉ [main_v7, main_v8, main_v9] := by decide
  rw [VB_kept m d r (h' r h).2, VA_kept m d r (h' r h).1]

theorem VC_v11 (d : Dev nD) : VC m d (Proc.devRef .tc main_v11)
    = (truncf .bf16 (extractStridedSlice S3328x1024 ![0, 0] (VB m d (Proc.devRef .tc main_arg4)) slices_S3332x1024_S3328x1024_0_0 : FVec Ideal S3328x1024 .f32) bitsLt_bf16_f32 : FVec Ideal S3328x1024 .bf16) := by
  unfold VC ops1
  after_reads_simp
theorem VC_v12 (d : Dev nD) : VC m d (Proc.devRef .tc main_v12)
    = extractStridedSlice S4x1024 ![3328, 0] (VB m d (Proc.devRef .tc main_arg4)) slices_S3332x1024_S4x1024_3328_0 := by
  unfold VC ops1
  after_reads_simp
theorem VC_v13 (d : Dev nD) : VC m d (Proc.devRef .tc main_v13) = (truncf .bf16 (VB m d (Proc.devRef .tc main_arg8) : FVec Ideal S1024x512 .f32) bitsLt_bf16_f32 : FVec Ideal S1024x512 .bf16) := by
  unfold VC ops1
  after_reads_simp
theorem VC_v14 (d : Dev nD) : VC m d (Proc.devRef .tc main_v14) = (truncf .bf16 (VB m d (Proc.devRef .tc main_arg12) : FVec Ideal S512x256 .f32) bitsLt_bf16_f32 : FVec Ideal S512x256 .bf16) := by
  unfold VC ops1
  after_reads_simp

theorem entry_first (d : Dev nD) : entry (VC m d) = weightsAt m d := by
  unfold entry
  rw [VC_v11, VC_v12, VC_v13, VC_v14, arg_before m d main_arg4 (by decide), arg_before m d main_arg8 (by decide), arg_before m d main_arg12 (by decide)]
  rw [arg_first m d main_arg5 (by decide), arg_first m d main_arg6 (by decide), arg_first m d main_arg7 (by decide), arg_first m d main_arg9 (by decide),
    arg_first m d main_arg10 (by decide), arg_first m d main_arg11 (by decide), arg_first m d main_arg13 (by decide), arg_first m d main_arg14 (by decide),
    arg_first m d main_arg15 (by decide), arg_first m d main_arg16 (by decide), arg_first m d main_arg17 (by decide)]
  unfold weightsAt weights
  congr 1
  · funext i j
    exact extractStridedSlice_apply (s := S3332x1024) (t := S3328x1024) _ _ slices_S3332x1024_S3328x1024_0_0 (ix2 i j) (ix2 ⟨i.val, by have := i.isLt; omega⟩ j) fun a =>
      match a with | ⟨0, _⟩ => (Nat.zero_add _).symm | ⟨1, _⟩ => (Nat.zero_add _).symm
  · funext i j
    exact extractStridedSlice_apply (s := S3332x1024) (t := S4x1024) _ _ slices_S3332x1024_S4x1024_3328_0 (ix2 i j) (ix2 ⟨3328 + i.val, by have := i.isLt; omega⟩ j) fun a =>
      match a with | ⟨0, _⟩ => rfl | ⟨1, _⟩ => (Nat.zero_add _).symm

theorem entry_second (d : Dev nD) : entry (VE m d) = weightsAt m d := by
  refine Eq.trans ?_ (entry_first m d)
  unfold entry
  rw [kept_second m d main_v11 (by decide), kept_second m d main_v12 (by decide), kept_second m d main_v13 (by decide), kept_second m d main_v14 (by decide),
    kept_second m d main_arg5 (by decide), kept_second m d main_arg6 (by decide), kept_second m d main_arg7 (by decide), kept_second m d main_arg9 (by decide),
    kept_second m d main_arg10 (by decide), kept_second m d main_arg11 (by decide), kept_second m d main_arg13 (by decide), kept_second m d main_arg14 (by decide),
    kept_second m d main_arg15 (by decide), kept_second m d main_arg16 (by decide), kept_second m d main_arg17 (by decide)]

/-! ## The program's results -/

/-- Sample `j` of the second half. -/
abbrev upper (j : Fin 8192) : Fin 16384 := ⟨8192 + j.val, by have := j.isLt; omega⟩

theorem upper_of (s : Fin 16384) (hs : ¬s.val < 8192) : ∃ j, s = upper j :=
  ⟨⟨s.val - 8192, by have := s.isLt; omega⟩, Fin.ext (by show s.val = 8192 + (s.val - 8192); omega)⟩

/-- Sample `i`'s logit. -/
abbrev logitOf (d : Dev nD) (i : Fin 16384) : EReal :=
  logit (weightsAt m d) (firstsOf m d i) (embOf m d i) (at2 (φ := .f32) (A m d main_arg1) i)

variable {m}

theorem logit_first {d : Dev nD} (h : Small m d) (j : Fin 8192) : lgt3 (VC m) d j = logitOf m d ⟨j.val, by have := j.isLt; omega⟩ := by
  unfold lgt3
  rw [entry_first, arg_first m d main_arg1 (by decide), VC_kept m d main_v7 (by decide)]
  refine congr (congr (congrArg (logit (weightsAt m d)) ?_) ?_) rfl
  · funext f; exact firsts_read h f _
  · funext f p; exact rows_first h f j p

theorem logit_second {d : Dev nD} (h : Small m d) (j : Fin 8192) : lgt4 (VE m) d j = logitOf m d ⟨8192 + j.val, by have := j.isLt; omega⟩ := by
  unfold lgt4
  rw [entry_second, kept_second m d main_arg1 (by decide), arg_first m d main_arg1 (by decide), kept_second m d main_v7 (by decide), VC_kept m d main_v7 (by decide)]
  refine congr (congr (congrArg (logit (weightsAt m d)) ?_) ?_) rfl
  · funext f; exact firsts_read h f _
  · funext f p; exact rows_second h f j p

theorem VD_logits (d : Dev nD) : VD m d (Proc.devRef .tc main_v16_0) = fun x : S8192x1.Idx => lgt3 (VC m) d (x 0) :=
  (Pipeline.afterRegion_arr (Dense.dat3 (Ix := HIx 3) (Name := ℕ) (U := UU) (Lvl := ℕ) (VC m) d) (VC m d) winFacts3.arr_inj 18).trans (left_logits3 (VC m) d)

theorem VF_logits (d : Dev nD) : VF m d (Proc.devRef .tc main_v18_0) = fun x : S8192x1.Idx => lgt4 (VE m) d (x 0) :=
  (Pipeline.afterRegion_arr (Dense.dat4 (Ix := HIx 3) (Name := ℕ) (U := UU) (Lvl := ℕ) (VE m) d) (VE m d) winFacts4.arr_inj 18).trans (left_logits4 (VE m) d)

theorem VD_rows {d : Dev nD} (h : Small m d) (f : Fin 26) (j : Fin 8192) (p : Fin 128) :
    at3 (φ := .f32) (VD m d (Proc.devRef .tc main_v16_1)) f ⟨j.val, by have := j.isLt; omega⟩ p = embOf m d ⟨j.val, by have := j.isLt; omega⟩ f p :=
  (congrFun (Pipeline.afterRegion_arr (Dense.dat3 (Ix := HIx 3) (Name := ℕ) (U := UU) (Lvl := ℕ) (VC m) d) (VC m d) winFacts3.arr_inj 19) _).trans
    ((left_rows3 (VC m) d f j p).trans (rows_first h f j p))

theorem VF_rows {d : Dev nD} (h : Small m d) (f : Fin 26) (s : Fin 16384) (p : Fin 128) :
    at3 (φ := .f32) (VF m d (Proc.devRef .tc main_v18_1)) f s p = embOf m d s f p := by
  refine (congrFun (Pipeline.afterRegion_arr (Dense.dat4 (Ix := HIx 3) (Name := ℕ) (U := UU) (Lvl := ℕ) (VE m) d) (VE m d) winFacts4.arr_inj 19) (ix3 f s p)).trans ?_
  by_cases hs : s.val < 8192
  · have e : VE m d (Proc.devRef .tc main_v18_1) = VD m d (Proc.devRef .tc main_v16_1) := by
      unfold VE ops2
      after_reads_simp
      rfl
    refine (kept_rows (VE m) d f ⟨s.val, hs⟩ p).trans ?_
    rw [e]
    exact VD_rows h f ⟨s.val, hs⟩ p
  · obtain ⟨j, rfl⟩ := upper_of s hs
    exact (left_rows4 (VE m) d f j p).trans (rows_second h f j p)

/-- The program's logits, -/
theorem result_logits {d : Dev nD} (h : Small m d) (i : Fin 16384) : at2 (φ := .f32) (VZ m d (Proc.devRef .tc main_v19)) i 0 = logitOf m d i := by
  have e : VZ m d (Proc.devRef .tc main_v19) = concatenate S16384x1 0 [⟨S8192x1, VF m d (Proc.devRef .tc main_v16_0)⟩, ⟨S8192x1, VF m d (Proc.devRef .tc main_v18_0)⟩] concatenates_S8192x1_S8192x1_S16384x1_d0 := by
    unfold VZ ops3
    after_reads_simp
    rfl
  rw [e, VF_logits, VF_kept m d main_v16_0 (by decide), VE_kept m d main_v16_0 (by decide), VD_logits]
  by_cases hs : i.val < 8192
  · refine (concatenate_pair_apply_left (t := S16384x1) (s₁ := S8192x1) (s₂ := S8192x1) (0 : Fin 2) _ _ _ (ix2 i 0) rfl (ix2 ⟨i.val, hs⟩ 0) fun b => match b with | ⟨0, _⟩ => rfl | ⟨1, _⟩ => rfl).trans ?_
    exact logit_first h ⟨i.val, hs⟩
  · obtain ⟨j, rfl⟩ := upper_of i hs
    refine (concatenate_pair_apply_right (t := S16384x1) (s₁ := S8192x1) (s₂ := S8192x1) (0 : Fin 2) _ _ _ (ix2 _ 0) rfl rfl (ix2 j 0)
      (fun b hb => match b, hb with | ⟨0, _⟩, hb => absurd rfl hb | ⟨1, _⟩, _ => rfl) (Nat.add_comm _ _)).trans ?_
    exact logit_second h j

/-- and its rows. -/
theorem result_rows {d : Dev nD} (h : Small m d) (i : Fin 16384) (f : Fin 26) (p : Fin 128) :
    at3 (φ := .f32) (VZ m d (Proc.devRef .tc main_v20)) i f p = embOf m d i f p := by
  have e : VZ m d (Proc.devRef .tc main_v20) = transpose S16384x26x128 [1, 0, 2] (VF m d (Proc.devRef .tc main_v18_1)) transposes_S26x16384x128_S16384x26x128_1_0_2 := by
    unfold VZ ops3
    after_reads_simp
  rw [e]
  refine (transpose_apply _ _ _ (ix3 i f p) (ix3 f i p) fun b => match b with | ⟨0, _⟩ => rfl | ⟨1, _⟩ => rfl | ⟨2, _⟩ => rfl).trans ?_
  exact VF_rows h f i p

end Cert.Proof.Value

end
-- ==== Proof.Value.HostRead.lean ====
/-
  How the host's own operations read at an index, over the extended reals.
-/
module

public import proofs.«01_k».proof.Proof.Value.Read
public import Idealize.ShloMosaic.Lib.ReduceAll

@[expose] public section

noncomputable section

namespace Cert.Proof.Value

open Idealize.ShloMosaic Idealize.ShloMosaic.ValueIdx

variable {a b c : ℕ} {φ : FTy} {α : Type}

/-- A scalar array's element. -/
def at0 (x : FVec Ideal ⟨0, ![]⟩ φ) : EReal := x ix0

theorem at0_subf (x y : FVec Ideal ⟨0, ![]⟩ φ) : at0 (subf x y) = at0 x - at0 y := rfl
theorem at0_constant (v : BitVec φ.bits) : at0 (constant (F := Ideal) ⟨0, ![]⟩ φ v) = Ideal.ofBits φ v := rfl
theorem at0_zero (v : BitVec 32) (h : v.toInt = 0) : at0 (φ := φ) (sitofp φ (constantI ⟨0, ![]⟩ 32 v)) = 0 := by
  show ((v.toInt : ℝ) : EReal) = 0
  rw [h]; simp

/-! ## Spreading an array over more axes -/

theorem at2_spread0 (x : FVec Ideal ⟨0, ![]⟩ φ) (d) (h : (⟨0, ![]⟩ : Shape).BroadcastsInDim ⟨2, ![a, b]⟩ d) (i : Fin a) (j : Fin b) :
    at2 (φ := φ) (broadcastInDim ⟨2, ![a, b]⟩ d h x) i j = at0 x := congrArg x (funext fun z => z.elim0)
theorem at2_spread1col (x : FVec Ideal ⟨1, ![a]⟩ φ) (h : (⟨1, ![a]⟩ : Shape).BroadcastsInDim ⟨2, ![a, 1]⟩ ![0]) (i : Fin a) (j : Fin 1) :
    at2 (φ := φ) (broadcastInDim ⟨2, ![a, 1]⟩ ![0] h x) i j = at1 x i := by
  refine broadcastInDim_apply _ h x (ix2 i j) (ix1 i) fun z => ?_
  match z with
  | ⟨0, _⟩ =>
    show i.val = if a = 1 then 0 else i.val
    split
    · have := i.isLt; omega
    · rfl
theorem at2_spread1row (x : FVec Ideal ⟨1, ![b]⟩ φ) (h : (⟨1, ![b]⟩ : Shape).BroadcastsInDim ⟨2, ![1, b]⟩ ![1]) (i : Fin 1) (j : Fin b) :
    at2 (φ := φ) (broadcastInDim ⟨2, ![1, b]⟩ ![1] h x) i j = at1 x j := by
  refine broadcastInDim_apply _ h x (ix2 i j) (ix1 j) fun z => ?_
  match z with
  | ⟨0, _⟩ =>
    show j.val = if b = 1 then 0 else j.val
    split
    · have := j.isLt; omega
    · rfl
theorem at2_spread2col (x : FVec Ideal ⟨2, ![a, 1]⟩ φ) (h : (⟨2, ![a, 1]⟩ : Shape).BroadcastsInDim ⟨2, ![a, b]⟩ ![0, 1]) (i : Fin a) (j : Fin b) :
    at2 (φ := φ) (broadcastInDim ⟨2, ![a, b]⟩ ![0, 1] h x) i j = at2 x i 0 := by
  refine broadcastInDim_apply _ h x (ix2 i j) (ix2 i 0) fun z => ?_
  match z with
  | ⟨0, _⟩ =>
    show i.val = if a = 1 then 0 else i.val
    split
    · have := i.isLt; omega
    · rfl
  | ⟨1, _⟩ => rfl
theorem at2_spread2row (x : FVec Ideal ⟨2, ![1, b]⟩ φ) (h : (⟨2, ![1, b]⟩ : Shape).BroadcastsInDim ⟨2, ![a, b]⟩ ![0, 1]) (i : Fin a) (j : Fin b) :
    at2 (φ := φ) (broadcastInDim ⟨2, ![a, b]⟩ ![0, 1] h x) i j = at2 x 0 j := by
  refine broadcastInDim_apply _ h x (ix2 i j) (ix2 0 j) fun z => ?_
  match z with
  | ⟨0, _⟩ => rfl
  | ⟨1, _⟩ =>
    show j.val = if b = 1 then 0 else j.val
    split
    · have := j.isLt; omega
    · rfl

/-! ## Sums -/

theorem at1_hostSum (x : FVec Ideal ⟨2, ![a, b]⟩ .f32) (h : (⟨2, ![a, b]⟩ : Shape).ReducesTo [1] ⟨1, ![a]⟩) (hu : 0 < (⟨0, ![]⟩ : Shape).numel) (i : Fin a) :
    at1 (φ := .f32) (Host.reduceAdd x (constant ⟨0, ![]⟩ .f32 0x00000000#32) h hu) i = ∑ k, at2 x i k := by
  have h' : (⟨2, ![a, b]⟩ : Shape).Reduces [1] ⟨1, ![a]⟩ := ⟨h.1, Nat.one_pos, h.2⟩
  refine (Ideal.hostReduceAdd_single h h' x _ (ix1 i)).trans ?_
  rw [show (constant (F := Ideal) ⟨0, ![]⟩ .f32 0x00000000#32) (Shape.Idx.first hu) = (0 : EReal) from Ideal.ofBits_zero_f32, zero_add]
  refine Finset.sum_congr rfl fun k _ => congrArg x ?_
  funext ax
  match ax with
  | ⟨0, _⟩ => rfl
  | ⟨1, _⟩ => rfl
theorem at2_hostSum (x : FVec Ideal ⟨3, ![a, b, c]⟩ .f32) (h : (⟨3, ![a, b, c]⟩ : Shape).ReducesTo [1] ⟨2, ![a, c]⟩) (hu : 0 < (⟨0, ![]⟩ : Shape).numel)
    (i : Fin a) (k : Fin c) :
    at2 (φ := .f32) (Host.reduceAdd x (constant ⟨0, ![]⟩ .f32 0x00000000#32) h hu) i k = ∑ j, at3 x i j k := by
  have h' : (⟨3, ![a, b, c]⟩ : Shape).Reduces [1] ⟨2, ![a, c]⟩ := ⟨h.1, Nat.two_pos, h.2⟩
  refine (Ideal.hostReduceAdd_single h h' x _ (ix2 i k)).trans ?_
  rw [show (constant (F := Ideal) ⟨0, ![]⟩ .f32 0x00000000#32) (Shape.Idx.first hu) = (0 : EReal) from Ideal.ofBits_zero_f32, zero_add]
  refine Finset.sum_congr rfl fun k _ => congrArg x ?_
  funext ax
  match ax with
  | ⟨0, _⟩ => rfl
  | ⟨1, _⟩ => rfl
  | ⟨2, _⟩ => rfl

/-! ## Choosing -/

/-- A choice on a scalar's being positive, where it is. -/
theorem select_positive {s : Shape} (d) (h : (⟨0, ![]⟩ : Shape).BroadcastsInDim s d) (n : FVec Ideal ⟨0, ![]⟩ .f32) (x y : s.Idx → α) (hn : 0 < at0 n) :
    select (broadcastInDim s d h (cmpf .ogt n (constant ⟨0, ![]⟩ .f32 0x00000000#32))) x y = x := by
  funext i
  have e : broadcastInDim s d h (cmpf .ogt n (constant ⟨0, ![]⟩ .f32 0x00000000#32)) i = 1#1 := by
    show FloatOps.cmpf (F := Ideal) .ogt (n _) (Ideal.ofBits .f32 0x00000000#32) = 1#1
    rw [Ideal.ofBits_zero_f32]
    have key : ∀ k, Ideal.cmp .ogt (n k) 0 = 1#1 := fun k => by
      rw [show n k = at0 n from congrArg n (funext fun z => z.elim0)]
      simp [Ideal.cmp, hn]
    exact key _
  show Scalar.select _ _ _ = _
  rw [e]; rfl

/-! ## Gathering rows -/

/-- The gather of whole rows: of an [N, C] table by an [A, B, 1] array of row numbers. -/
def rowDims (N C A B : ℕ) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

theorem gather_rows {N C A B : ℕ} (wf) (x : (⟨2, ![N, C]⟩ : Shape).Idx → α) (idx : IVec ⟨3, ![A, B, 1]⟩ 32) (i : Fin A) (f : Fin B) (p : Fin C) (r : Fin N)
    (hr : (idx (ix3 i f 0)).toInt.toNat = r.val) : Host.gather (rowDims N C A B wf) x idx (ix3 i f p) = x (ix2 r p) := by
  unfold Host.gather
  congr 1
  funext ax
  refine Fin.ext ?_
  show (rowDims N C A B wf).start (ix3 i f p) idx ax + (rowDims N C A B wf).batchCoord (ix3 i f p) ax + (rowDims N C A B wf).offCoord (ix3 i f p) ax = _
  rw [GatherDims.batchCoord_eq_zero _ _ _ (by simp [rowDims]), Nat.add_zero]
  match ax with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, Nat.two_pos⟩ : Fin 2) ∈ (rowDims N C A B wf).startIndexMap from List.mem_singleton.mpr rfl)]
    have hsi : (rowDims N C A B wf).siIdx (ix3 i f p) ⟨List.idxOf (⟨0, Nat.two_pos⟩ : Fin 2) (rowDims N C A B wf).startIndexMap,
        List.idxOf_lt_length_iff.2 (List.mem_singleton.mpr rfl)⟩ = ix3 i f 0 := by
      funext b; refine Fin.ext ?_
      match b with
      | ⟨0, _⟩ => rfl
      | ⟨1, _⟩ => rfl
      | ⟨2, _⟩ => rfl
    rw [hsi, hr]
    show min r.val (N - 1) = r.val
    have := r.isLt; omega
  | ⟨1, h1⟩ =>
    have h0 : (rowDims N C A B wf).start (ix3 i f p) idx ⟨1, h1⟩ = 0 := by
      unfold GatherDims.start
      rw [dif_neg (show ¬ (⟨1, h1⟩ : Fin 2) ∈ (rowDims N C A B wf).startIndexMap from fun h => absurd (List.mem_singleton.mp h) (by simp))]
    rw [h0, Nat.zero_add]
    unfold GatherDims.offCoord
    rw [dif_pos ((GatherDims.mem_sKept _ _).mpr ⟨by simp [rowDims], by simp [rowDims]⟩)]
    rfl

end Cert.Proof.Value

end
-- ==== Proof.Value.Reference.lean ====
/-
  What the reference's results are: the samples' logits and rows.
-/
module

public import proofs.«01_k».proof.Proof.Value.Args
public import proofs.«01_k».proof.Proof.Value.HostRead
public import proofs.«01_k».proof.Proof.Gen.ReferenceIdeal.Run

@[expose] public section

noncomputable section

namespace Cert.Proof.Value.Reference

open Idealize.ShloMosaic Idealize.ShloMosaic.ValueIdx
open Cert.ReferenceIdeal Cert.ReferenceIdeal.Value Idealize.SL.Sem Idealize.ShloMosaic.TcCoe Idealize.ShloMosaic.StableHlo Idealize.ShloMosaic.Shape

theorem dot_3332 : dot_S16384x3332_S3332x1024_S16384x1024_1_0_0_1_n_n = DotDims.plain 16384 3332 1024 := rfl
theorem dot_1024 : dot_S16384x1024_S1024x512_S16384x512_1_0_0_1_n_n = DotDims.plain 16384 1024 512 := rfl
theorem dot_512 : dot_S16384x512_S512x256_S16384x256_1_0_0_1_n_n = DotDims.plain 16384 512 256 := rfl
theorem dot_256 : dot_S16384x256_S256x1_S16384x1_1_0_0_1_n_n = DotDims.plain 16384 256 1 := rfl

theorem c1024_pos : 0 < c1024 := by rw [c1024_eq]; exact_mod_cast (by norm_num : (0 : ℝ) < 1024)
theorem c512_pos : 0 < c512 := by rw [c512_eq]; exact_mod_cast (by norm_num : (0 : ℝ) < 512)
theorem c256_pos : 0 < c256 := by rw [c256_eq]; exact_mod_cast (by norm_num : (0 : ℝ) < 256)

theorem norm_eq_quotient {n : ℕ} {c : EReal} {r : ℝ} (hc : c = (r : EReal)) (hr : 0 < r) (g b x : Fin n → EReal) (j : Fin n) :
    Ideal.div (centred c x j) (Ideal.sqrt (variance c x + eps)) * g j + b j = norm c g b x j := by
  subst hc
  exact norm_eq_div hr g b x j

/-! ## The layers -/

theorem at2_v48 (V : Valuation τ sig (Elt Ideal)) (i : Fin 16384) (j : Fin 512) :
    at2 (φ := .f32) (res_main_v48 V) i j = layer (at2 (φ := .f32) (V (Proc.devRef .tc main_arg8))) (at1 (φ := .f32) (V (Proc.devRef .tc main_arg9)))
      (norm c1024 (at1 (φ := .f32) (V (Proc.devRef .tc main_arg6))) (at1 (φ := .f32) (V (Proc.devRef .tc main_arg7))) (at2 (φ := .f32) (res_main_v25 V) i)) j := by
  have hn : at0 (φ := .f32) (res_main_call3_v8 V) = c1024 := by
    unfold res_main_call3_v8
    rw [at0_subf, at0_zero _ (by decide), sub_zero]; rfl
  unfold res_main_v48
  rw [select_positive _ _ (res_main_call3_v8 V) _ _ (hn ▸ c1024_pos)]
  simp only [res_main_call3_v5, at2_maximumf, at2_addf, at2_subf, at2_mulf, at2_hostDivf, at2_hostSqrt, dot_1024, at2_dotGeneral, at2_spread0, at2_spread1col (a := 16384), at2_spread1row (b := 1024), at2_spread1row (b := 512),
    at2_spread2col (a := 16384), at2_spread2row (b := 1024), at2_spread2row (b := 512), at1_hostSum (a := 16384), at0_constant, hn, Ideal.ofBits_zero_f32]
  refine congrArg (fun z : EReal => max (z + at1 (φ := .f32) (V (Proc.devRef .tc main_arg9)) j) 0) (Finset.sum_congr rfl fun k _ => congrArg (· * at2 (φ := .f32) (V (Proc.devRef .tc main_arg8)) k j) ?_)
  exact norm_eq_quotient c1024_eq (by norm_num) _ _ (at2 (φ := .f32) (res_main_v25 V) i) k

theorem at2_v71 (V : Valuation τ sig (Elt Ideal)) (i : Fin 16384) (j : Fin 256) :
    at2 (φ := .f32) (res_main_v71 V) i j = layer (at2 (φ := .f32) (V (Proc.devRef .tc main_arg12))) (at1 (φ := .f32) (V (Proc.devRef .tc main_arg13)))
      (norm c512 (at1 (φ := .f32) (V (Proc.devRef .tc main_arg10))) (at1 (φ := .f32) (V (Proc.devRef .tc main_arg11))) (at2 (φ := .f32) (res_main_v48 V) i)) j := by
  have hn : at0 (φ := .f32) (res_main_call5_v8 V) = c512 := by
    unfold res_main_call5_v8
    rw [at0_subf, at0_zero _ (by decide), sub_zero]; rfl
  unfold res_main_v71
  rw [select_positive _ _ (res_main_call5_v8 V) _ _ (hn ▸ c512_pos)]
  simp only [res_main_call5_v5, at2_maximumf, at2_addf, at2_subf, at2_mulf, at2_hostDivf, at2_hostSqrt, dot_512, at2_dotGeneral, at2_spread0, at2_spread1col (a := 16384), at2_spread1row (b := 512), at2_spread1row (b := 256),
    at2_spread2col (a := 16384), at2_spread2row (b := 512), at2_spread2row (b := 256), at1_hostSum (a := 16384), at0_constant, hn, Ideal.ofBits_zero_f32]
  refine congrArg (fun z : EReal => max (z + at1 (φ := .f32) (V (Proc.devRef .tc main_arg13)) j) 0) (Finset.sum_congr rfl fun k _ => congrArg (· * at2 (φ := .f32) (V (Proc.devRef .tc main_arg12)) k j) ?_)
  exact norm_eq_quotient c512_eq (by norm_num) _ _ (at2 (φ := .f32) (res_main_v48 V) i) k

/-! ## The row numbers -/

abbrev A0 (V : Valuation τ sig (Elt Ideal)) : IVec S16384x26 32 := V (Proc.devRef .tc main_arg0)

/-- The range setup_inputs draws the row numbers from. -/
def Small (V : Valuation τ sig (Elt Ideal)) : Prop := ∀ i, (A0 V i).toNat < 1000

theorem v5_word (V : Valuation τ sig (Elt Ideal)) (i : Fin 16384) (f : Fin 26) :
    (res_main_v5 V (ix2 i f) : BitVec 32) = A0 V (ix2 i f) + BitVec.ofNat 32 f.val * 1000#32 := by
  unfold res_main_v5
  have h1 : broadcastInDim S16384x26 ![0, 1] Gen.bcast_S1x26_S16384x26_0_1 (broadcastInDim S1x26 ![1] Gen.bcast_S26_S1x26_1 (muli (iotaInDim S26 32 0) (broadcastInDim S26 ![] Gen.bcast_S_S26 (constantI S_ 32 1000#32)))) (ix2 i f)
      = broadcastInDim S1x26 ![1] Gen.bcast_S26_S1x26_1 (muli (iotaInDim S26 32 0) (broadcastInDim S26 ![] Gen.bcast_S_S26 (constantI S_ 32 1000#32))) (ix2 0 f) :=
    broadcastInDim_apply _ _ _ (ix2 i f) (ix2 0 f) fun z => match z with | ⟨0, _⟩ => rfl | ⟨1, _⟩ => rfl
  have h2 : broadcastInDim S1x26 ![1] Gen.bcast_S26_S1x26_1 (muli (iotaInDim S26 32 0) (broadcastInDim S26 ![] Gen.bcast_S_S26 (constantI S_ 32 1000#32))) (ix2 0 f)
      = muli (iotaInDim S26 32 0) (broadcastInDim S26 ![] Gen.bcast_S_S26 (constantI S_ 32 1000#32)) (ix1 f) :=
    broadcastInDim_apply _ _ _ (ix2 0 f) (ix1 f) fun z => match z with | ⟨0, _⟩ => rfl
  exact congrArg (A0 V (ix2 i f) + ·) (h1.trans h2)

theorem v5_num (V : Valuation τ sig (Elt Ideal)) (h : Small V) (i : Fin 16384) (f : Fin 26) :
    (res_main_v5 V (ix2 i f) : BitVec 32).toNat = (rowOf (A0 V) i f).val := by
  have hb := h (ix2 i f)
  have hf := f.isLt
  rw [v5_word, rowOf_val _ _ _ hb, BitVec.toNat_add, BitVec.toNat_mul, BitVec.toNat_ofNat, BitVec.toNat_ofNat]
  omega

theorem andi_ofBool (p q : Bool) : IntOp.andi (BitVec.ofBool p) (BitVec.ofBool q) = BitVec.ofBool (p && q) := by
  cases p <;> cases q <;> decide

theorem not_neg (v : BitVec 32) (h : v.toNat < 26000) : IntOp.cmpi .slt v 0#32 = 0#1 := by
  have e : v.slt 0#32 = false := by
    simp only [BitVec.slt_eq_decide, decide_eq_false_iff_not, BitVec.toInt_eq_toNat_cond, BitVec.toNat_ofNat, Nat.reducePow, Nat.reduceMod]
    omega
  show BitVec.ofBool (v.slt 0#32) = 0#1
  rw [e]; rfl

theorem within (v : BitVec 32) (h : v.toNat < 26000) : IntOp.andi (IntOp.cmpi .sge v 0#32) (IntOp.cmpi .sle v 25999#32) = 1#1 := by
  have e1 : (0#32).sle v = true := by
    simp only [BitVec.sle_eq_decide, decide_eq_true_eq, BitVec.toInt_eq_toNat_cond, BitVec.toNat_ofNat, Nat.reducePow, Nat.reduceMod]
    omega
  have e2 : v.sle 25999#32 = true := by
    simp only [BitVec.sle_eq_decide, decide_eq_true_eq, BitVec.toInt_eq_toNat_cond, BitVec.toNat_ofNat, Nat.reducePow, Nat.reduceMod]
    omega
  show IntOp.andi (BitVec.ofBool ((0#32).sle v)) (BitVec.ofBool (v.sle 25999#32)) = 1#1
  rw [e1, e2]; rfl

theorem row_word (V : Valuation τ sig (Elt Ideal)) (h : Small V) (i : Fin 16384) (f : Fin 26) :
    (res_main_call1_v5 V (ix3 i f 0) : BitVec 32) = res_main_v5 V (ix2 i f) := by
  unfold res_main_call1_v5
  refine (broadcastInDim_apply _ _ _ (ix3 i f 0) (ix2 i f) fun z => match z with | ⟨0, _⟩ => rfl | ⟨1, _⟩ => rfl).trans ?_
  show Scalar.select (IntOp.cmpi .slt (res_main_v5 V (ix2 i f)) 0#32) _ _ = _
  rw [not_neg _ (by rw [v5_num V h]; exact (rowOf (A0 V) i f).isLt)]
  rfl

theorem row_num (V : Valuation τ sig (Elt Ideal)) (h : Small V) (i : Fin 16384) (f : Fin 26) :
    (res_main_call1_v5 V (ix3 i f 0) : BitVec 32).toNat = (rowOf (A0 V) i f).val := by rw [row_word V h, v5_num V h]

theorem row_int (V : Valuation τ sig (Elt Ideal)) (h : Small V) (i : Fin 16384) (f : Fin 26) :
    (res_main_call1_v5 V (ix3 i f 0) : BitVec 32).toInt.toNat = (rowOf (A0 V) i f).val := by
  have e := row_num V h i f
  have := (rowOf (A0 V) i f).isLt
  rw [BitVec.toInt_eq_toNat_cond]
  split <;> omega

/-- Every row number is within the table. -/
theorem mask (V : Valuation τ sig (Elt Ideal)) (h : Small V) :
    Host.reduce IntOp.andi (andi (cmpi .sge (res_main_call1_v5 V) (broadcastInDim S16384x26x1 ![] Gen.bcast_S_S16384x26x1 (constantI S_ 32 0#32))) (cmpi .sle (res_main_call1_v5 V) (broadcastInDim S16384x26x1 ![0, 1, 2] Gen.bcast_S1x1x1_S16384x26x1_0_1_2 (broadcastInDim S1x1x1 ![2] Gen.bcast_S1_S1x1x1_2 (constantI S1 32 25999#32))))) (constantI S_ 1 1#1) Gen.reducesTo_S16384x26x1_S16384x26_d2 Gen.h_S_
      = fun _ => 1#1 := by
  funext j
  refine Host.reduce_andi_one _ _ _ _ j rfl fun i => ?_
  have hi : i = (ix3 (i 0) (i 1) 0 : S16384x26x1.Idx) := by
    funext z
    match z with
    | ⟨0, _⟩ => rfl
    | ⟨1, _⟩ => rfl
    | ⟨2, _⟩ => exact Subsingleton.elim (α := Fin 1) _ _
  have key : ∀ k : S16384x26x1.Idx, k = ix3 (i 0) (i 1) 0 →
      IntOp.andi (IntOp.cmpi .sge (res_main_call1_v5 V k) 0#32) (IntOp.cmpi .sle (res_main_call1_v5 V k) 25999#32) = 1#1 := fun k hk => by
    subst hk
    exact within _ ((row_num V h (i 0) (i 1)).trans_lt (rowOf (A0 V) _ _).isLt)
  exact key i hi

theorem select_all {α : Type} {s t : Shape} (d) (h : s.BroadcastsInDim t d) (x y : t.Idx → α) :
    select (broadcastInDim t d h (fun _ => 1#1)) x y = x := rfl

/-- The gathered rows. -/
theorem at3_v8 (V : Valuation τ sig (Elt Ideal)) (h : Small V) (i : Fin 16384) (f : Fin 26) (p : Fin 128) :
    at3 (φ := .f32) (res_main_v8 V) i f p = emb (A0 V) (V (Proc.devRef .tc main_arg2)) i f p := by
  unfold res_main_v8
  rw [mask V h]
  exact gather_rows _ _ _ i f p _ (row_int V h i f)

/-- The first-order terms. -/
theorem at3_first (V : Valuation τ sig (Elt Ideal)) (h : Small V) (i : Fin 16384) (f : Fin 26) (p : Fin 1) :
    at3 (φ := .f32) (Host.gather gather_S26000x1_S16384x26x1_S16384x26x1_2_0_n_n_0_2_11 (V (Proc.devRef .tc main_arg3)) (res_main_call0_v5 V)) i f p
      = firsts (A0 V) (V (Proc.devRef .tc main_arg3)) i f := by
  obtain rfl : p = 0 := Subsingleton.elim _ _
  exact gather_rows _ _ _ i f 0 _ (row_int V h i f)

/-! ## The first layer -/

abbrev W' (V : Valuation τ sig (Elt Ideal)) : Weights :=
  weights (V (Proc.devRef .tc main_arg4)) (V (Proc.devRef .tc main_arg5)) (V (Proc.devRef .tc main_arg6)) (V (Proc.devRef .tc main_arg7)) (V (Proc.devRef .tc main_arg8))
    (V (Proc.devRef .tc main_arg9)) (V (Proc.devRef .tc main_arg10)) (V (Proc.devRef .tc main_arg11)) (V (Proc.devRef .tc main_arg12)) (V (Proc.devRef .tc main_arg13))
    (V (Proc.devRef .tc main_arg14)) (V (Proc.devRef .tc main_arg15)) (V (Proc.devRef .tc main_arg16)) (V (Proc.devRef .tc main_arg17))

theorem flat_val (i : Fin 16384) (k : Fin 3328) :
    (S16384x3328.rowMajor (ix2 i k)).val = (S16384x26x128.rowMajor (ix3 i ⟨k.val / 128, by have := k.isLt; omega⟩ ⟨k.val % 128, Nat.mod_lt _ (by decide)⟩)).val := by
  refine (rowMajor_val_two _).trans (Eq.trans ?_ (rowMajor_val_three _).symm)
  show i.val * 3328 + k.val = (i.val * 26 + k.val / 128) * 128 + k.val % 128
  omega

theorem at2_v25 (V : Valuation τ sig (Elt Ideal)) (h : Small V) (i : Fin 16384) (j : Fin 1024) :
    at2 (φ := .f32) (res_main_v25 V) i j = out1 (W' V) (emb (A0 V) (V (Proc.devRef .tc main_arg2)) i) (at2 (φ := .f32) (V (Proc.devRef .tc main_arg1)) i) j := by
  unfold res_main_v25
  simp only [at2_maximumf, at2_addf, dot_3332, at2_dotGeneral, at2_spread0, at2_spread1row (b := 1024), at2_spread2row (b := 1024), at0_constant, Ideal.ofBits_zero_f32]
  refine congrArg (fun z : EReal => max (z + at1 (φ := .f32) (V (Proc.devRef .tc main_arg5)) j) 0) ?_
  refine (Fin.sum_univ_add (a := 3328) (b := 4) _).trans (congrArg₂ (· + ·) (Finset.sum_congr rfl fun k _ => congrArg₂ (· * ·) ?_ rfl) (Finset.sum_congr rfl fun k _ => congrArg₂ (· * ·) ?_ rfl))
  · refine (concatenate_pair_apply_left (t := S16384x3332) (s₁ := S16384x3328) (s₂ := S16384x4) (1 : Fin 2) _ _ _ (ix2 i (Fin.castAdd 4 k)) rfl (ix2 i k) fun z => match z with | ⟨0, _⟩ => rfl | ⟨1, _⟩ => rfl).trans ?_
    refine (shapeCast_apply (res_main_v8 V) _ (ix2 i k) (ix3 i ⟨k.val / 128, by have := k.isLt; omega⟩ ⟨k.val % 128, Nat.mod_lt _ (by decide)⟩) ?_).trans (at3_v8 V h i _ _)
    exact (flat_val i k).symm
  · exact concatenate_pair_apply_right (t := S16384x3332) (s₁ := S16384x3328) (s₂ := S16384x4) (1 : Fin 2) _ _ _ (ix2 i (Fin.natAdd 3328 k)) rfl rfl (ix2 i k)
      (fun z hz => match z, hz with | ⟨0, _⟩, _ => rfl | ⟨1, _⟩, hz => absurd rfl hz) (Nat.add_comm _ _)

/-! ## The results -/

/-- A run of the reference leaves the samples' logits and rows, and the arguments as they were. -/
theorem run_values (m : (ℓ : Loc nD τ sig) → Buf (Elt Ideal) ℓ) (ρ : Dev nD → PrngReg) (hs : ∀ c, Small (launchContents m c)) :
    θ_run defs (onTc (τ := τ) (main (F := Ideal))) ⟨m, fun _ => 0, ρ⟩ fun r => ∀ c : Dev nD,
      (∀ i, at2 (φ := .f32) (r.2.mem ((c.tc : Thread nD τ).loc main_v94)) i 0
        = logit (W' (launchContents m c)) (firsts (A0 (launchContents m c)) (launchContents m c (Proc.devRef .tc main_arg3)) i)
          (emb (A0 (launchContents m c)) (launchContents m c (Proc.devRef .tc main_arg2)) i) (at2 (φ := .f32) (launchContents m c (Proc.devRef .tc main_arg1)) i))
      ∧ (∀ i f p, at3 (φ := .f32) (r.2.mem ((c.tc : Thread nD τ).loc main_v8)) i f p
        = emb (A0 (launchContents m c)) (launchContents m c (Proc.devRef .tc main_arg2)) i f p)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) := by
  refine (θ_run defs _ _).mono (fun r hr c => ⟨fun i => ?_, fun i f p => ?_, (hr c).2.2⟩) (run (F := Ideal) m ρ)
  · rw [(hr c).1]
    have h := hs c
    generalize launchContents m c = V at h ⊢
    have hn : at0 (φ := .f32) (res_main_call7_v8 V) = c256 := by
      unfold res_main_call7_v8
      rw [at0_subf, at0_zero _ (by decide), sub_zero]; rfl
    have h0 : res_main_call0_v5 V = res_main_call1_v5 V := rfl
    have hv25 : at2 (φ := .f32) (res_main_v25 V) i = out1 (W' V) (emb (A0 V) (V (Proc.devRef .tc main_arg2)) i) (at2 (φ := .f32) (V (Proc.devRef .tc main_arg1)) i) :=
      funext (at2_v25 V h i)
    have hv48 : at2 (φ := .f32) (res_main_v48 V) i = out2 (W' V) (emb (A0 V) (V (Proc.devRef .tc main_arg2)) i) (at2 (φ := .f32) (V (Proc.devRef .tc main_arg1)) i) :=
      funext fun j => (at2_v48 V i j).trans (by rw [hv25]; rfl)
    have hv71 : at2 (φ := .f32) (res_main_v71 V) i = out3 (W' V) (emb (A0 V) (V (Proc.devRef .tc main_arg2)) i) (at2 (φ := .f32) (V (Proc.devRef .tc main_arg1)) i) :=
      funext fun j => (at2_v71 V i j).trans (by rw [hv48]; rfl)
    have hv9 : ∀ p, at2 (φ := .f32) (res_main_v9 V) i p = ∑ f, emb (A0 V) (V (Proc.devRef .tc main_arg2)) i f p := fun p => by
      unfold res_main_v9
      rw [at2_hostSum]
      exact Finset.sum_congr rfl fun f _ => at3_v8 V h i f p
    rw [select_positive _ _ (res_main_call7_v8 V) _ _ (hn ▸ c256_pos), h0, mask V h, select_all]
    simp only [← h0]
    simp only [res_main_call7_v5, at2_addf, at2_subf, at2_mulf, at3_mulf, at2_hostDivf, at2_hostSqrt, dot_256, at2_dotGeneral, at2_spread0, at2_spread1col (a := 16384),
      at2_spread1row (b := 256), at2_spread1row (b := 1), at2_spread2col (a := 16384) (b := 256), at2_spread2row (b := 256), at2_spread2row (b := 1), at1_hostSum (a := 16384),
      at2_hostSum (a := 16384), at0_constant, hn, hv71, hv9, at3_v8 V h, at3_first V h]
    rw [← add_assoc]
    refine congrArg (fun z : EReal => (∑ f, firsts (A0 V) (V (Proc.devRef .tc main_arg3)) i f) + second (emb (A0 V) (V (Proc.devRef .tc main_arg2)) i) + z + at1 (φ := .f32) (V (Proc.devRef .tc main_arg17)) 0) ?_
    refine Finset.sum_congr rfl fun k _ => congrArg (· * at2 (φ := .f32) (V (Proc.devRef .tc main_arg16)) k 0) ?_
    exact norm_eq_quotient c256_eq (by norm_num) _ _ _ k
  · rw [(hr c).2.1]
    exact at3_v8 _ (hs c) i f p

end Cert.Proof.Value.Reference

end
-- ==== Proof.Value.Algebraic.lean ====
/-
  The kernel over the extended reals computes what the reference does.
-/
module

public import proofs.«01_k».proof.Proof.Value.Results
public import proofs.«01_k».proof.Proof.Value.Reference

@[expose] public section

noncomputable section

namespace Cert.Proof.Value

open Idealize.ShloMosaic Idealize.ShloMosaic.ValueIdx
open Cert.KernelIdeal Cert.KernelIdeal.Gen Cert.Proof.Launch Idealize.ShloMosaic.TcCoe Idealize.SL.Sem
open Idealize.ShloMosaic.SparseCore (T)
open Idealize.ShloMosaic.StableHlo

/-- Equal arguments, equal logits. -/
theorem logit_congr {a0 b0 : IVec S16384x26 32} {a1 b1 : FVec Ideal S16384x4 .f32} {a2 b2 : FVec Ideal S26000x128 .f32} {a3 b3 : FVec Ideal S26000x1 .f32}
    {a4 b4 : FVec Ideal S3332x1024 .f32} {a5 b5 a6 b6 a7 b7 : FVec Ideal S1024 .f32} {a8 b8 : FVec Ideal S1024x512 .f32} {a9 b9 a10 b10 a11 b11 : FVec Ideal S512 .f32}
    {a12 b12 : FVec Ideal S512x256 .f32} {a13 b13 a14 b14 a15 b15 : FVec Ideal S256 .f32} {a16 b16 : FVec Ideal S256x1 .f32} {a17 b17 : FVec Ideal S1 .f32} (i : Fin 16384)
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) :
    logit (weights a4 a5 a6 a7 a8 a9 a10 a11 a12 a13 a14 a15 a16 a17) (firsts a0 a3 i) (emb a0 a2 i) (at2 a1 i)
      = logit (weights b4 b5 b6 b7 b8 b9 b10 b11 b12 b13 b14 b15 b16 b17) (firsts b0 b3 i) (emb b0 b2 i) (at2 b1 i) := by
  subst h0 h1 h2 h3 h4 h5 h6 h7 h8 h9 h10 h11 h12 h13 h14 h15 h16 h17; rfl

theorem emb_congr {a0 b0 : IVec S16384x26 32} {a2 b2 : FVec Ideal S26000x128 .f32} (i : Fin 16384) (f : Fin 26) (p : Fin 128) (h0 : a0 = b0) (h2 : a2 = b2) :
    emb a0 a2 i f p = emb b0 b2 i f p := by subst h0 h2; rfl

/-- From arguments that agree, the kernel and the reference leave the same results. -/
theorem algebraic : Cert.algebraic_KernelIdeal_ReferenceIdeal := by
  intro m ρ m' ρ' hpre hagree
  have hw : ∀ d, Small m d := fun d => words_of_pre m d (hpre d)
  refine ⟨fun c => VZ m c (Proc.devRef .tc main_v19), fun c => VZ m c (Proc.devRef .tc main_v20),
    (θ_run Cert.KernelIdeal.defs _ _).mono (fun r h c => ⟨h.1 c main_v19 (by decide), h.1 c main_v20 (by decide), args_kept m r h c main_arg0 (by decide), args_kept m r h c main_arg1 (by decide), args_kept m r h c main_arg2 (by decide), args_kept m r h c main_arg3 (by decide), args_kept m r h c main_arg4 (by decide), args_kept m r h c main_arg5 (by decide), args_kept m r h c main_arg6 (by decide), args_kept m r h c main_arg7 (by decide), args_kept m r h c main_arg8 (by decide), args_kept m r h c main_arg9 (by decide), args_kept m r h c main_arg10 (by decide), args_kept m r h c main_arg11 (by decide), args_kept m r h c main_arg12 (by decide), args_kept m r h c main_arg13 (by decide), args_kept m r h c main_arg14 (by decide), args_kept m r h c main_arg15 (by decide), args_kept m r h c main_arg16 (by decide), args_kept m r h c main_arg17 (by decide)⟩)
      (run_main m ρ (inRange_of_pre m hpre)), ?_⟩
  have hs : ∀ c, Reference.Small (launchContents m' c) := fun c i => by
    have e : launchContents m' c (Proc.devRef .tc Cert.ReferenceIdeal.main_arg0) i = given m c i := congrFun (hagree c).1 i
    show (launchContents m' c (Proc.devRef .tc Cert.ReferenceIdeal.main_arg0) i : BitVec 32).toNat < 1000
    rw [e]
    exact hw c i
  refine (θ_run Cert.ReferenceIdeal.defs _ _).mono (fun r hr c => ?_) (Reference.run_values m' ρ' hs)
  obtain ⟨h0, h1, h2, h3, h4, h5, h6, h7, h8, h9, h10, h11, h12, h13, h14, h15, h16, h17⟩ := hagree c
  refine ⟨?_, ?_, (hr c).2.2⟩
  · refine funext fun x : S16384x1.Idx => ?_
    have hx : x = ix2 (x 0) 0 := by
      funext z
      match z with
      | ⟨0, _⟩ => rfl
      | ⟨1, _⟩ => exact Subsingleton.elim (α := Fin 1) _ _
    rw [hx]
    refine ((hr c).1 (x 0)).trans (Eq.trans ?_ (result_logits (hw c) (x 0)).symm)
    exact logit_congr (x 0) h0 h1 h2 h3 h4 h5 h6 h7 h8 h9 h10 h11 h12 h13 h14 h15 h16 h17
  · refine funext fun x : S16384x26x128.Idx => ?_
    have hx : x = ix3 (x 0) (x 1) (x 2) := by
      funext z
      match z with
      | ⟨0, _⟩ => rfl
      | ⟨1, _⟩ => rfl
      | ⟨2, _⟩ => rfl
    rw [hx]
    refine ((hr c).2.1 (x 0) (x 1) (x 2)).trans (Eq.trans ?_ (result_rows (hw c) (x 0) (x 1) (x 2)).symm)
    exact emb_congr (x 0) (x 1) (x 2) h0 h2

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import Idealize.ShloMosaic.Adequacy
public import Idealize.ShloMosaic.Init
public import proofs.«01_k».proof.Proof.Launch.FrameK
public import proofs.«01_k».proof.Proof.Value.Algebraic

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_pre : Cert.quiescent_ReferenceIdeal_pre_in_range := fun m ρ _ => frame_reference m ρ trivial

theorem claim : Cert.Claim := ⟨Cert.Kernel.Gen.facts, Cert.KernelIdeal.Gen.facts, Cert.ReferenceIdeal.Gen.facts, Cert.Pre_in_range.Gen.facts,
  Launch.frame_kernel, Launch.frame_kernelIdeal, frame_reference, frame_reference_pre, trivial, Value.algebraic⟩

end Cert.Proof

end
